-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_above [hPre_gates_above : Cert.Pre_gates_above.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_above.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_gates_above.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_above [hPre_gates_above : Cert.Pre_gates_above.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_above.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_gates_above.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_conv [hPre_finite_conv : Cert.Pre_finite_conv.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_conv.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_conv.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite_conv.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_conv [hPre_finite_conv : Cert.Pre_finite_conv.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_conv.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_conv.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite_conv.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_gates_above [hKernel2Ideal : Cert.Kernel2Ideal.Facts] [hPre_gates_above : Cert.Pre_gates_above.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_above m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_gates_above [hReference2Ideal : Cert.Reference2Ideal.Facts] [hPre_gates_above : Cert.Pre_gates_above.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_above m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_conv [hKernel3Ideal : Cert.Kernel3Ideal.Facts] [hPre_finite_conv : Cert.Pre_finite_conv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_conv m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_conv [hReference3Ideal : Cert.Reference3Ideal.Facts] [hPre_finite_conv : Cert.Pre_finite_conv.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_conv m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_gates_above [hKernel2Ideal : Cert.Kernel2Ideal.Facts] [hReference2Ideal : Cert.Reference2Ideal.Facts] [hPre_gates_above : Cert.Pre_gates_above.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_above m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_conv [hKernel3Ideal : Cert.Kernel3Ideal.Facts] [hReference3Ideal : Cert.Reference3Ideal.Facts] [hPre_finite_conv : Cert.Pre_finite_conv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_conv m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v84) = v0 c
          ∧ r.2.mem ((c.tc : Thread Cert.Reference5Ideal.nD Cert.Reference5Ideal.τ).loc Cert.Reference5Ideal.main_v85) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_gates_above : Cert.Pre_gates_above.Facts) (hPre_finite_conv : Cert.Pre_finite_conv.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_gates_above (hKernel2Ideal := hKernel2Ideal) (hPre_gates_above := hPre_gates_above)
    ∧ quiescent_Reference2Ideal (hReference2Ideal := hReference2Ideal)
    ∧ quiescent_Reference2Ideal_pre_gates_above (hReference2Ideal := hReference2Ideal) (hPre_gates_above := hPre_gates_above)
    ∧ quiescent_Kernel3 (hKernel3 := hKernel3)
    ∧ quiescent_Kernel3Ideal (hKernel3Ideal := hKernel3Ideal)
    ∧ quiescent_Kernel3Ideal_pre_finite_conv (hKernel3Ideal := hKernel3Ideal) (hPre_finite_conv := hPre_finite_conv)
    ∧ quiescent_Reference3Ideal (hReference3Ideal := hReference3Ideal)
    ∧ quiescent_Reference3Ideal_pre_finite_conv (hReference3Ideal := hReference3Ideal) (hPre_finite_conv := hPre_finite_conv)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_gates_above (hKernel2Ideal := hKernel2Ideal) (hReference2Ideal := hReference2Ideal) (hPre_gates_above := hPre_gates_above)
    ∧ preserves_Kernel3_Kernel3Ideal
    ∧ algebraic_Kernel3Ideal_Reference3Ideal_pre_finite_conv (hKernel3Ideal := hKernel3Ideal) (hReference3Ideal := hReference3Ideal) (hPre_finite_conv := hPre_finite_conv)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_conv.lean ====
abbrev S4x2048x2048 : Shape := ⟨3, ![4, 2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  bcast_S_S1x2048 : S_.BroadcastsInDim S1x2048 (![] : Fin 0 → Fin S1x2048.rank)

variable [Facts]

def fn {F : FTy → Type} [FloatOps F] (main_arg0 : FVec F S4x2048x2048 .f32) (main_arg1 : FVec F S4x2048x2048 .f32) (main_arg2 : FVec F S4x2048x2048 .f32) (main_arg3 : FVec F S1x2048 .f32) (main_arg4 : FVec F S1x2048 .f32) (main_arg5 : FVec F S1x2048x2048 .f32) (main_arg6 : FVec F S2048 .f32) : IVec S4x2048x2048 1 × IVec S1x2048 1 × IVec S1x2048 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S1x2048 .f32 := Host.absf main_arg3
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048 .f32 := Host.absf main_arg4
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Pre_finite_scores.lean ====
abbrev S4x2048x6144 : Shape := ⟨3, ![4, 2048, 6144]⟩
abbrev S1x8x257 : Shape := ⟨3, ![1, 8, 257]⟩
abbrev S4x2048x2048 : Shape := ⟨3, ![4, 2048, 2048]⟩
abbrev S_ : Shape := ⟨0, ![]⟩

class Facts : Prop where
  slices_S4x2048x6144_S4x2048x2048_0_0_0 : S4x2048x6144.Slices ![0, 0, 0] S4x2048x2048
  bcast_S_S4x2048x2048 : S_.BroadcastsInDim S4x2048x2048 (![] : Fin 0 → Fin S4x2048x2048.rank)
  bcast_S_S1x8x257 : S_.BroadcastsInDim S1x8x257 (![] : Fin 0 → Fin S1x8x257.rank)

variable [Facts]

def fn {F : FTy → Type} [FloatOps F] (main_arg0 : FVec F S4x2048x6144 .f32) (main_arg1 : FVec F S1x8x257 .f32) : IVec S4x2048x2048 1 × IVec S1x8x257 1 :=
  let main_v0 : FVec F S4x2048x2048 .f32 := (extractStridedSlice S4x2048x2048 ![0, 0, 0] · slices_S4x2048x6144_S4x2048x2048_0_0_0) main_arg0
  let main_v1 : FVec F S4x2048x2048 .f32 := Host.absf main_v0
  let main_cst : FVec F S_ .f32 := constant S_ .f32 0x7F800000#32
  let main_v2 : FVec F S4x2048x2048 .f32 := broadcastInDim S4x2048x2048 ![] bcast_S_S4x2048x2048 main_cst
  let main_v3 : IVec S4x2048x2048 1 := cmpf .olt main_v1 main_v2
  let main_v4 : FVec F S1x8x257 .f32 := Host.absf main_arg1
  let main_cst_0 : FVec F S_ .f32 := constant S_ .f32 0x7F800000#32
  let main_v5 : FVec F S1x8x257 .f32 := broadcastInDim S1x8x257 ![] bcast_S_S1x8x257 main_cst_0
  let main_v6 : IVec S1x8x257 1 := cmpf .olt main_v4 main_v5
  (main_v3, main_v6)
-- ==== Pre_gates_above.lean ====
abbrev S4x2048x6144 : Shape := ⟨3, ![4, 2048, 6144]⟩
abbrev S4x2048x1024 : Shape := ⟨3, ![4, 2048, 1024]⟩
abbrev S4x2048x2048 : Shape := ⟨3, ![4, 2048, 2048]⟩
abbrev S1x2048x2048 : Shape := ⟨3, ![1, 2048, 2048]⟩
abbrev S_ : Shape := ⟨0, ![]⟩

class Facts : Prop where
  slices_S4x2048x6144_S4x2048x1024_0_0_3072 : S4x2048x6144.Slices ![0, 0, 3072] S4x2048x1024
  bcast_S_S4x2048x1024 : S_.BroadcastsInDim S4x2048x1024 (![] : Fin 0 → Fin S4x2048x1024.rank)
  slices_S4x2048x6144_S4x2048x1024_0_0_5120 : S4x2048x6144.Slices ![0, 0, 5120] S4x2048x1024

variable [Facts]

def fn {F : FTy → Type} [FloatOps F] (main_arg0 : FVec F S4x2048x6144 .f32) (main_arg1 : FVec F S4x2048x1024 .f32) (main_arg2 : FVec F S4x2048x1024 .f32) (main_arg3 : FVec F S4x2048x2048 .f32) (main_arg4 : FVec F S1x2048x2048 .f32) : IVec S4x2048x1024 1 × IVec S4x2048x1024 1 :=
  let main_v0 : FVec F S4x2048x1024 .f32 := (extractStridedSlice S4x2048x1024 ![0, 0, 3072] · slices_S4x2048x6144_S4x2048x1024_0_0_3072) main_arg0
  let main_cst : FVec F S_ .f32 := constant S_ .f32 0xFF800000#32
  let main_v1 : FVec F S4x2048x1024 .f32 := broadcastInDim S4x2048x1024 ![] bcast_S_S4x2048x1024 main_cst
  let main_v2 : IVec S4x2048x1024 1 := cmpf .ogt main_v0 main_v1
  let main_v3 : FVec F S4x2048x1024 .f32 := (extractStridedSlice S4x2048x1024 ![0, 0, 5120] · slices_S4x2048x6144_S4x2048x1024_0_0_5120) main_arg0
  let main_cst_0 : FVec F S_ .f32 := constant S_ .f32 0xFF800000#32
  let main_v4 : FVec F S4x2048x1024 .f32 := broadcastInDim S4x2048x1024 ![] bcast_S_S4x2048x1024 main_cst_0
  let main_v5 : IVec S4x2048x1024 1 := cmpf .ogt main_v3 main_v4
  (main_v2, main_v5)
-- ==== Kernel.lean ====
abbrev S4x2048x6144 : Shape := ⟨3, ![4, 2048, 6144]⟩
abbrev S1x8x257 : Shape := ⟨3, ![1, 8, 257]⟩
abbrev S4x2048x2048 : Shape := ⟨3, ![4, 2048, 2048]⟩
abbrev S4x2048x1024 : Shape := ⟨3, ![4, 2048, 1024]⟩
abbrev S4x2048x3072 : Shape := ⟨3, ![4, 2048, 3072]⟩
abbrev S8x257 : Shape := ⟨2, ![8, 257]⟩
abbrev S8x1 : Shape := ⟨2, ![8, 1]⟩
abbrev S8x513 : Shape := ⟨2, ![8, 513]⟩
abbrev S8x255 : Shape := ⟨2, ![8, 255]⟩
abbrev S8x768 : Shape := ⟨2, ![8, 768]⟩
abbrev S4x512x8x128 : Shape := ⟨4, ![4, 512, 8, 128]⟩
abbrev S1x512x1024 : Shape := ⟨3, ![1, 512, 1024]⟩
abbrev S1x512x8x128 : Shape := ⟨4, ![1, 512, 8, 128]⟩
abbrev S1024x1024 : Shape := ⟨2, ![1024, 1024]⟩
abbrev S8x128x640 : Shape := ⟨3, ![8, 128, 640]⟩
abbrev S128x640 : Shape := ⟨2, ![128, 640]⟩
abbrev S1x768 : Shape := ⟨2, ![1, 768]⟩
abbrev S128x768 : Shape := ⟨2, ![128, 768]⟩
abbrev S128x256 : Shape := ⟨2, ![128, 256]⟩
abbrev S128x1024 : Shape := ⟨2, ![128, 1024]⟩
abbrev S1x128x640 : Shape := ⟨3, ![1, 128, 640]⟩
abbrev S1x512x128 : Shape := ⟨3, ![1, 512, 128]⟩
abbrev S512x128 : Shape := ⟨2, ![512, 128]⟩
abbrev S8x512x128 : Shape := ⟨3, ![8, 512, 128]⟩
abbrev S512x8x128 : Shape := ⟨3, ![512, 8, 128]⟩
abbrev S512x1024 : Shape := ⟨2, ![512, 1024]⟩
abbrev S1x128x128 : Shape := ⟨3, ![1, 128, 128]⟩
abbrev S128x128 : Shape := ⟨2, ![128, 128]⟩
abbrev S640x128 : Shape := ⟨2, ![640, 128]⟩
abbrev S1x640 : Shape := ⟨2, ![1, 640]⟩
abbrev S128 : Shape := ⟨1, ![128]⟩
abbrev S128x1 : Shape := ⟨2, ![128, 1]⟩

abbrev nBuf : Space → Nat
  | .hbm => 15
  | .vmem => 24
  | .smem => 0
  | _ => 0

abbrev bufTy : (tb : Table) → Fin (tcTables nBuf tb) → BufTy
  | .hbm, ⟨0, _⟩ => ⟨S4x2048x6144, .f32⟩
  | .hbm, ⟨1, _⟩ => ⟨S1x8x257, .f32⟩
  | .hbm, ⟨2, _⟩ => ⟨S4x2048x6144, .bf16⟩
  | .hbm, ⟨3, _⟩ => ⟨S4x2048x2048, .f32⟩
  | .hbm, ⟨4, _⟩ => ⟨S4x2048x1024, .f32⟩
  | .hbm, ⟨5, _⟩ => ⟨S4x2048x3072, .f32⟩
  | .hbm, ⟨6, _⟩ => ⟨S8x257, .f32⟩
  | .hbm, ⟨7, _⟩ => ⟨S8x1, .f32⟩
  | .hbm, ⟨8, _⟩ => ⟨S8x513, .f32⟩
  | .hbm, ⟨9, _⟩ => ⟨S8x255, .f32⟩
  | .hbm, ⟨10, _⟩ => ⟨S8x255, .f32⟩
  | .hbm, ⟨11, _⟩ => ⟨S8x768, .f32⟩
  | .hbm, ⟨12, _⟩ => ⟨S4x2048x1024, .bf16⟩
  | .hbm, ⟨13, _⟩ => ⟨S4x512x8x128, .f32⟩
  | .hbm, ⟨14, _⟩ => ⟨S4x512x8x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S8x768, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x8x128, .f32⟩
  | .local _ .vmem, ⟨18, _⟩ => ⟨S1x512x8x128, .f32⟩
  | .local _ .vmem, ⟨19, _⟩ => ⟨S1x512x8x128, .f32⟩
  | .local _ .vmem, ⟨20, _⟩ => ⟨S1x512x8x128, .f32⟩
  | .local _ .vmem, ⟨21, _⟩ => ⟨S1024x1024, .bf16⟩
  | .local _ .vmem, ⟨22, _⟩ => ⟨S1024x1024, .bf16⟩
  | .local _ .vmem, ⟨23, _⟩ => ⟨S8x128x640, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v5 : BitVec 1 := Scalar.cmpi .eq arg1 c3_i32
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  ![arg0.toNat, c3_i32.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x2048x6144 : Shape := ⟨3, ![4, 2048, 6144]⟩
abbrev S1x8x257 : Shape := ⟨3, ![1, 8, 257]⟩
abbrev S4x2048x1024 : Shape := ⟨3, ![4, 2048, 1024]⟩
abbrev S4x2048x8x128 : Shape := ⟨4, ![4, 2048, 8, 128]⟩
abbrev S8x257 : Shape := ⟨2, ![8, 257]⟩
abbrev S_ : Shape := ⟨0, ![]⟩
abbrev S4x512x8x128 : Shape := ⟨4, ![4, 512, 8, 128]⟩
abbrev S4x2560x8x128 : Shape := ⟨4, ![4, 2560, 8, 128]⟩
abbrev S4x40x64x8x128 : Shape := ⟨5, ![4, 40, 64, 8, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S4x32x9x64x8x128 : Shape := ⟨6, ![4, 32, 9, 64, 8, 128]⟩
abbrev S4x32x576x8x128 : Shape := ⟨5, ![4, 32, 576, 8, 128]⟩
abbrev S4x32x64x8x128 : Shape := ⟨5, ![4, 32, 64, 8, 128]⟩
abbrev S2048 : Shape := ⟨1, ![2048]⟩
abbrev S32x64 : Shape := ⟨2, ![32, 64]⟩
abbrev S576 : Shape := ⟨1, ![576]⟩
abbrev S1x576 : Shape := ⟨2, ![1, 576]⟩
abbrev S32x576 : Shape := ⟨2, ![32, 576]⟩
abbrev S4x32x8x64x576 : Shape := ⟨5, ![4, 32, 8, 64, 576]⟩
abbrev S32x64x1 : Shape := ⟨3, ![32, 64, 1]⟩
abbrev S32x1x576 : Shape := ⟨3, ![32, 1, 576]⟩
abbrev S32x64x576 : Shape := ⟨3, ![32, 64, 576]⟩
abbrev S32x64x576x1 : Shape := ⟨4, ![32, 64, 576, 1]⟩
abbrev S8x32x64x576 : Shape := ⟨4, ![8, 32, 64, 576]⟩
abbrev S32x8x64x576 : Shape := ⟨4, ![32, 8, 64, 576]⟩
abbrev S1x32x8x64x576 : Shape := ⟨5, ![1, 32, 8, 64, 576]⟩
abbrev S1x32x1x1x576 : Shape := ⟨5, ![1, 32, 1, 1, 576]⟩
abbrev S4x32x8x64 : Shape := ⟨4, ![4, 32, 8, 64]⟩
abbrev S4x32x8x64x1 : Shape := ⟨5, ![4, 32, 8, 64, 1]⟩
abbrev S4x32x8x128x64 : Shape := ⟨5, ![4, 32, 8, 128, 64]⟩

abbrev nBuf : Space → Nat
  | .hbm => 123
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S1x8x257, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x8x128, .f32⟩
  | .hbm, ⟨9, _⟩ => ⟨S4x2048x8x128, .f32⟩
  | .hbm, ⟨10, _⟩ => ⟨S4x2048x8x128, .f32⟩
  | .hbm, ⟨11, _⟩ => ⟨S8x257, .f32⟩
  | .hbm, ⟨12, _⟩ => ⟨S_, .f32⟩
  | .hbm, ⟨13, _⟩ => ⟨S4x512x8x128, .f32⟩
  | .hbm, ⟨14, _⟩ => ⟨S4x2560x8x128, .f32⟩
  | .hbm, ⟨15, _⟩ => ⟨S4x40x64x8x128, .f32⟩
  | .hbm, ⟨16, _⟩ => ⟨S4x2560x8x128, .f32⟩
  | .hbm, ⟨17, _⟩ => ⟨S4x40x64x8x128, .f32⟩
  | .hbm, ⟨18, _⟩ => ⟨S32, .i32⟩
  | .hbm, ⟨19, _⟩ => ⟨S32x1, .i32⟩
  | .hbm, ⟨20, _⟩ => ⟨S9, .i32⟩
  | .hbm, ⟨21, _⟩ => ⟨S1x9, .i32⟩
  | .hbm, ⟨22, _⟩ => ⟨S32x9, .i32⟩
  | .hbm, ⟨23, _⟩ => ⟨S32x9, .i32⟩
  | .hbm, ⟨24, _⟩ => ⟨S32x9, .i32⟩
  | .hbm, ⟨25, _⟩ => ⟨S_, .i32⟩
  | .hbm, ⟨26, _⟩ => ⟨S32x9, .i32⟩
  | .hbm, ⟨27, _⟩ => ⟨S32x9, .i1⟩
  | .hbm, ⟨28, _⟩ => ⟨S_, .i32⟩
  | .hbm, ⟨29, _⟩ => ⟨S32x9, .i32⟩
  | .hbm, ⟨30, _⟩ => ⟨S32x9, .i32⟩
  | .hbm, ⟨31, _⟩ => ⟨S32x9, .i32⟩
  | .hbm, ⟨32, _⟩ => ⟨S32x9x1, .i32⟩
  | .hbm, ⟨33, _⟩ => ⟨S4x32x9x64x8x128, .f32⟩
  | .hbm, ⟨34, _⟩ => ⟨S4x32x576x8x128, .f32⟩
  | .hbm, ⟨35, _⟩ => ⟨S_, .i32⟩
  | .hbm, ⟨36, _⟩ => ⟨S32x9, .i32⟩
  | .hbm, ⟨37, _⟩ => ⟨S32x9, .i1⟩
  | .hbm, ⟨38, _⟩ => ⟨S_, .i32⟩
  | .hbm, ⟨39, _⟩ => ⟨S32x9, .i32⟩
  | .hbm, ⟨40, _⟩ => ⟨S32x9, .i32⟩
  | .hbm, ⟨41, _⟩ => ⟨S32x9, .i32⟩
  | .hbm, ⟨42, _⟩ => ⟨S32x9x1, .i32⟩
  | .hbm, ⟨43, _⟩ => ⟨S4x32x9x64x8x128, .f32⟩
  | .hbm, ⟨44, _⟩ => ⟨S4x32x576x8x128, .f32⟩
  | .hbm, ⟨45, _⟩ => ⟨S4x32x64x8x128, .f32⟩
  | .hbm, ⟨46, _⟩ => ⟨S2048, .i32⟩
  | .hbm, ⟨47, _⟩ => ⟨S32x64, .i32⟩
  | .hbm, ⟨48, _⟩ => ⟨S32, .i32⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S_, .i32⟩
  | .hbm, ⟨53, _⟩ => ⟨S32, .i32⟩
  | .hbm, ⟨54, _⟩ => ⟨S32, .i32⟩
  | .hbm, ⟨55, _⟩ => ⟨S32x1, .i32⟩
  | .hbm, ⟨56, _⟩ => ⟨S576, .i32⟩
  | .hbm, ⟨57, _⟩ => ⟨S1x576, .i32⟩
  | .hbm, ⟨58, _⟩ => ⟨S32x576, .i32⟩
  | .hbm, ⟨59, _⟩ => ⟨S32x576, .i32⟩
  | .hbm, ⟨60, _⟩ => ⟨S32x576, .i32⟩
  | .hbm, ⟨61, _⟩ => ⟨S4x32x8x64x576, .f32⟩
  | .hbm, ⟨62, _⟩ => ⟨S_, .f32⟩
  | .hbm, ⟨63, _⟩ => ⟨S4x32x8x64x576, .f32⟩
  | .hbm, ⟨64, _⟩ => ⟨S4x32x8x64x576, .f32⟩
  | .hbm, ⟨65, _⟩ => ⟨S32x64x1, .i32⟩
  | .hbm, ⟨66, _⟩ => ⟨S32x1x576, .i32⟩
  | .hbm, ⟨67, _⟩ => ⟨S32x64x576, .i32⟩
  | .hbm, ⟨68, _⟩ => ⟨S32x64x576, .i32⟩
  | .hbm, ⟨69, _⟩ => ⟨S32x64x576, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S32x64x576, .i32⟩
  | .hbm, ⟨74, _⟩ => ⟨S32x64x576, .i32⟩
  | .hbm, ⟨75, _⟩ => ⟨S_, .i32⟩
  | .hbm, ⟨76, _⟩ => ⟨S32x64x576, .i32⟩
  | .hbm, ⟨77, _⟩ => ⟨S32x64x576, .i32⟩
  | .hbm, ⟨78, _⟩ => ⟨S_, .i32⟩
  | .hbm, ⟨79, _⟩ => ⟨S32x64x576, .i32⟩
  | .hbm, ⟨80, _⟩ => ⟨S32x64x576, .i32⟩
  | .hbm, ⟨81, _⟩ => ⟨S_, .i32⟩
  | .hbm, ⟨82, _⟩ => ⟨S32x64x576, .i32⟩
  | .hbm, ⟨83, _⟩ => ⟨S32x64x576, .i1⟩
  | .hbm, ⟨84, _⟩ => ⟨S_, .i32⟩
  | .hbm, ⟨85, _⟩ => ⟨S32x64x576, .i32⟩
  | .hbm, ⟨86, _⟩ => ⟨S32x64x576, .i32⟩
  | .hbm, ⟨87, _⟩ => ⟨S32x64x576, .i32⟩
  | .hbm, ⟨88, _⟩ => ⟨S32x64x576x1, .i32⟩
  | .hbm, ⟨89, _⟩ => ⟨S8x32x64x576, .f32⟩
  | .hbm, ⟨90, _⟩ => ⟨S32x8x64x576, .f32⟩
  | .hbm, ⟨91, _⟩ => ⟨S1x32x8x64x576, .f32⟩
  | .hbm, ⟨92, _⟩ => ⟨S4x32x8x64x576, .f32⟩
  | .hbm, ⟨93, _⟩ => ⟨S4x32x8x64x576, .f32⟩
  | .hbm, ⟨94, _⟩ => ⟨S_, .i32⟩
  | .hbm, ⟨95, _⟩ => ⟨S32x576, .i32⟩
  | .hbm, ⟨96, _⟩ => ⟨S32x576, .i1⟩
  | .hbm, ⟨97, _⟩ => ⟨S1x32x1x1x576, .i1⟩
  | .hbm, ⟨98, _⟩ => ⟨S_, .f32⟩
  | .hbm, ⟨99, _⟩ => ⟨S_, .f32⟩
  | .hbm, ⟨100, _⟩ => ⟨S4x32x8x64x576, .i1⟩
  | .hbm, ⟨101, _⟩ => ⟨S4x32x8x64x576, .f32⟩
  | .hbm, ⟨102, _⟩ => ⟨S4x32x8x64x576, .f32⟩
  | .hbm, ⟨103, _⟩ => ⟨S_, .f32⟩
  | .hbm, ⟨104, _⟩ => ⟨S4x32x8x64, .f32⟩
  | .hbm, ⟨105, _⟩ => ⟨S_, .f32⟩
  | .hbm, ⟨106, _⟩ => ⟨S4x32x8x64, .f32⟩
  | .hbm, ⟨107, _⟩ => ⟨S4x32x8x64, .f32⟩
  | .hbm, ⟨108, _⟩ => ⟨S4x32x8x64x1, .f32⟩
  | .hbm, ⟨109, _⟩ => ⟨S4x32x8x64x576, .f32⟩
  | .hbm, ⟨110, _⟩ => ⟨S4x32x8x64x576, .f32⟩
  | .hbm, ⟨111, _⟩ => ⟨S4x32x8x64x576, .f32⟩
  | .hbm, ⟨112, _⟩ => ⟨S_, .f32⟩
  | .hbm, ⟨113, _⟩ => ⟨S4x32x8x64, .f32⟩
  | .hbm, ⟨114, _⟩ => ⟨S4x32x8x64x1, .f32⟩
  | .hbm, ⟨115, _⟩ => ⟨S4x32x8x64x576, .f32⟩
  | .hbm, ⟨116, _⟩ => ⟨S4x32x8x64x576, .f32⟩
  | .hbm, ⟨117, _⟩ => ⟨S4x32x8x128x64, .f32⟩
  | .hbm, ⟨118, _⟩ => ⟨S4x32x64x8x128, .f32⟩
  | .hbm, ⟨119, _⟩ => ⟨S4x2048x1024, .f32⟩
  | .hbm, ⟨120, _⟩ => ⟨S4x2048x1024, .bf16⟩
  | .hbm, ⟨121, _⟩ => ⟨S4x512x8x128, .f32⟩
  | .hbm, ⟨122, _⟩ => ⟨S4x512x8x128, .f32⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_1 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_3 : Ref sig .tc := ⟨.hbm, 49, rfl⟩
abbrev main_v42 : Ref sig .tc := ⟨.hbm, 50, rfl⟩
abbrev main_v43 : Ref sig .tc := ⟨.hbm, 51, rfl⟩
abbrev main_c_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_c_6 : Ref sig .tc := ⟨.hbm, 70, rfl⟩
abbrev main_c_7 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v60 : Ref sig .tc := ⟨.hbm, 77, rfl⟩
abbrev main_c_8 : Ref sig .tc := ⟨.hbm, 78, rfl⟩
abbrev main_v61 : Ref sig .tc := ⟨.hbm, 79, rfl⟩
abbrev main_v62 : Ref sig .tc := ⟨.hbm, 80, rfl⟩
abbrev main_c_9 : Ref sig .tc := ⟨.hbm, 81, rfl⟩
abbrev main_v63 : Ref sig .tc := ⟨.hbm, 82, rfl⟩
abbrev main_v64 : Ref sig .tc := ⟨.hbm, 83, rfl⟩
abbrev main_c_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== Kernel2.lean ====
abbrev S4x2048x6144 : Shape := ⟨3, ![4, 2048, 6144]⟩
abbrev S4x2048x1024 : Shape := ⟨3, ![4, 2048, 1024]⟩
abbrev S4x2048x2048 : Shape := ⟨3, ![4, 2048, 2048]⟩
abbrev S1x2048x2048 : Shape := ⟨3, ![1, 2048, 2048]⟩
abbrev S8192x6144 : Shape := ⟨2, ![8192, 6144]⟩
abbrev S8192x1024 : Shape := ⟨2, ![8192, 1024]⟩
abbrev S8192x2048 : Shape := ⟨2, ![8192, 2048]⟩
abbrev S2048x2048 : Shape := ⟨2, ![2048, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 15
  | .vmem => 13
  | .smem => 0
  | _ => 0

abbrev bufTy : (tb : Table) → Fin (tcTables nBuf tb) → BufTy
  | .hbm, ⟨0, _⟩ => ⟨S4x2048x6144, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S1x2048x2048, .f32⟩
  | .hbm, ⟨5, _⟩ => ⟨S4x2048x6144, .bf16⟩
  | .hbm, ⟨6, _⟩ => ⟨S8192x6144, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x2048, .f32⟩
  | .hbm, ⟨12, _⟩ => ⟨S2048x2048, .f32⟩
  | .hbm, ⟨13, _⟩ => ⟨S2048x2048, .bf16⟩
  | .hbm, ⟨14, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x2048x6144 : Shape := ⟨3, ![4, 2048, 6144]⟩
abbrev S4x2048x1024 : Shape := ⟨3, ![4, 2048, 1024]⟩
abbrev S4x2048x2048 : Shape := ⟨3, ![4, 2048, 2048]⟩
abbrev S1x2048x2048 : Shape := ⟨3, ![1, 2048, 2048]⟩
abbrev S_ : Shape := ⟨0, ![]⟩
abbrev S2048x2048 : Shape := ⟨2, ![2048, 2048]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S4x2048x1024, .f32⟩
  | .hbm, ⟨2, _⟩ => ⟨S4x2048x1024, .f32⟩
  | .hbm, ⟨3, _⟩ => ⟨S4x2048x2048, .f32⟩
  | .hbm, ⟨4, _⟩ => ⟨S1x2048x2048, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x2048, .f32⟩
  | .hbm, ⟨32, _⟩ => ⟨S2048x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel3.lean ====
abbrev S4x2048x2048 : Shape := ⟨3, ![4, 2048, 2048]⟩
abbrev S1x2048 : Shape := ⟨2, ![1, 2048]⟩
abbrev S1x2048x2048 : Shape := ⟨3, ![1, 2048, 2048]⟩
abbrev S2048 : Shape := ⟨1, ![2048]⟩
abbrev S8192x2048 : Shape := ⟨2, ![8192, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1x2048, .f32⟩
  | .hbm, ⟨4, _⟩ => ⟨S1x2048, .f32⟩
  | .hbm, ⟨5, _⟩ => ⟨S1x2048x2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S2048, .f32⟩
  | .hbm, ⟨11, _⟩ => ⟨S2048, .f32⟩
  | .hbm, ⟨12, _⟩ => ⟨S2048x2048, .f32⟩
  | .hbm, ⟨13, _⟩ => ⟨S2048x2048, .bf16⟩
  | .hbm, ⟨14, _⟩ => ⟨S8192x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x2048x2048 : Shape := ⟨3, ![4, 2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x2048 : Shape := ⟨2, ![2048, 2048]⟩
abbrev S8192x2048 : Shape := ⟨2, ![8192, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1x2048, .f32⟩
  | .hbm, ⟨4, _⟩ => ⟨S1x2048, .f32⟩
  | .hbm, ⟨5, _⟩ => ⟨S1x2048x2048, .f32⟩
  | .hbm, ⟨6, _⟩ => ⟨S2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S2048x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x1, .f32⟩
  | .hbm, ⟨62, _⟩ => ⟨S4x2048x2048, .f32⟩
  | .hbm, ⟨63, _⟩ => ⟨S4x2048x2048, .f32⟩
  | .hbm, ⟨64, _⟩ => ⟨S1x1x2048, .f32⟩
  | .hbm, ⟨65, _⟩ => ⟨S4x2048x2048, .f32⟩
  | .hbm, ⟨66, _⟩ => ⟨S4x2048x2048, .f32⟩
  | .hbm, ⟨67, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Kernel4.lean ====
abbrev S4x2048x2048 : Shape := ⟨3, ![4, 2048, 2048]⟩
abbrev S1x2048 : Shape := ⟨2, ![1, 2048]⟩
abbrev S1x2048x6144 : Shape := ⟨3, ![1, 2048, 6144]⟩
abbrev S8192x2048 : Shape := ⟨2, ![8192, 2048]⟩
abbrev S2048 : Shape := ⟨1, ![2048]⟩
abbrev S2048x6144 : Shape := ⟨2, ![2048, 6144]⟩
abbrev S8192x6144 : Shape := ⟨2, ![8192, 6144]⟩
abbrev S8192x3072 : Shape := ⟨2, ![8192, 3072]⟩
abbrev S1024x2048 : Shape := ⟨2, ![1024, 2048]⟩
abbrev S1024x1024 : Shape := ⟨2, ![1024, 1024]⟩
abbrev S3x2048x1024 : Shape := ⟨3, ![3, 2048, 1024]⟩
abbrev S3 : Shape := ⟨1, ![3]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩
abbrev S1024 : Shape := ⟨1, ![1024]⟩
abbrev S1024x1 : Shape := ⟨2, ![1024, 1]⟩
abbrev S4x2048x3072 : Shape := ⟨3, ![4, 2048, 3072]⟩
abbrev S4x3x1024 : Shape := ⟨3, ![4, 3, 1024]⟩
abbrev S1x4x3x1024 : Shape := ⟨4, ![1, 4, 3, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x6144, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x6144, .f32⟩
  | .hbm, ⟨7, _⟩ => ⟨S2048x6144, .bf16⟩
  | .hbm, ⟨8, _⟩ => ⟨S8192x6144, .bf16⟩
  | .hbm, ⟨9, _⟩ => ⟨S8192x3072, .f32⟩
  | .hbm, ⟨10, _⟩ => ⟨S4x2048x3072, .f32⟩
  | .hbm, ⟨11, _⟩ => ⟨S4x3x1024, .f32⟩
  | .hbm, ⟨12, _⟩ => ⟨S1x4x3x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S3x2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_17 : BitVec 32 := 0#32
  let c6_i32_18 : BitVec 32 := 6#32
  let v37 : BitVec 32 := Scalar.remsi c0_i32_17 c6_i32_18
  let c1024_i32_19 : BitVec 32 := 1024#32
  let v38 : BitVec 32 := Scalar.muli v37 c1024_i32_19
  v38
def k0_off1 (c0_i32_20 : BitVec 32) : Fin 1 → Nat :=
  let c3_i32_21 : BitVec 32 := 3#32
  let v40 : BitVec 32 := Scalar.remsi c0_i32_20 c3_i32_21
  ![v40.toNat]
def k0_off2 (c0_i32_20 : BitVec 32) : Fin 3 → Nat :=
  let c3_i32_21 : BitVec 32 := 3#32
  let v40 : BitVec 32 := Scalar.remsi c0_i32_20 c3_i32_21
  let c0_i32_22 : BitVec 32 := 0#32
  let c0_i32_23 : BitVec 32 := 0#32
  ![v40.toNat, 0, 0]
def k0_off3 (c0_i32_17 : BitVec 32) : Fin 2 → Nat :=
  let c0_i32_24 : BitVec 32 := 0#32
  let c6_i32_18 : BitVec 32 := 6#32
  let v37 : BitVec 32 := Scalar.remsi c0_i32_17 c6_i32_18
  let c1024_i32_19 : BitVec 32 := 1024#32
  let v38 : BitVec 32 := Scalar.muli v37 c1024_i32_19
  let v39 : BitVec 32 := v38
  ![0, v39.toNat]
def k0_mult2 : BitVec 32 :=
  let c1_i32_25 : BitVec 32 := 1#32
  let c6_i32_26 : BitVec 32 := 6#32
  let v46 : BitVec 32 := Scalar.remsi c1_i32_25 c6_i32_26
  let c1024_i32_27 : BitVec 32 := 1024#32
  let v47 : BitVec 32 := Scalar.muli v46 c1024_i32_27
  v47
def k0_cond2 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c48_i32 : BitVec 32 := 48#32
  let v7 : BitVec 1 := Scalar.cmpi .slt v6 c48_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32_17 : BitVec 32 := 3#32
  let v37 : BitVec 32 := Scalar.addi v1 c3_i32_17
  let c1_i32_18 : BitVec 32 := 1#32
  let v38 : BitVec 32 := Scalar.subi v37 c1_i32_18
  let c6_i32_19 : BitVec 32 := 6#32
  let v39 : BitVec 32 := Scalar.remsi v38 c6_i32_19
  let c1024_i32_20 : BitVec 32 := 1024#32
  let v40 : BitVec 32 := Scalar.muli v39 c1024_i32_20
  v40
def k0_off4 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32_17 : BitVec 32 := 3#32
  let v37 : BitVec 32 := Scalar.addi v1 c3_i32_17
  let c1_i32_18 : BitVec 32 := 1#32
  let v38 : BitVec 32 := Scalar.subi v37 c1_i32_18
  let c3_i32_21 : BitVec 32 := 3#32
  let v42 : BitVec 32 := Scalar.remsi v38 c3_i32_21
  ![v42.toNat]
def k0_off5 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32_17 : BitVec 32 := 3#32
  let v37 : BitVec 32 := Scalar.addi v1 c3_i32_17
  let c1_i32_18 : BitVec 32 := 1#32
  let v38 : BitVec 32 := Scalar.subi v37 c1_i32_18
  let c3_i32_21 : BitVec 32 := 3#32
  let v42 : BitVec 32 := Scalar.remsi v38 c3_i32_21
  let c0_i32_22 : BitVec 32 := 0#32
  let c0_i32_23 : BitVec 32 := 0#32
  ![v42.toNat, 0, 0]
def k0_off6 (i : grid0.Coords) : Fin 2 → Nat :=
  let c0_i32_24 : BitVec 32 := 0#32
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32_17 : BitVec 32 := 3#32
  let v37 : BitVec 32 := Scalar.addi v1 c3_i32_17
  let c1_i32_18 : BitVec 32 := 1#32
  let v38 : BitVec 32 := Scalar.subi v37 c1_i32_18
  let c6_i32_19 : BitVec 32 := 6#32
  let v39 : BitVec 32 := Scalar.remsi v38 c6_i32_19
  let c1024_i32_20 : BitVec 32 := 1024#32
  let v40 : BitVec 32 := Scalar.muli v39 c1024_i32_20
  let v41 : BitVec 32 := v40
  ![0, v41.toNat]
def k0_mult4 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_4 : BitVec 32 := 6#32
  let v13 : BitVec 32 := Scalar.remsi v1 c6_i32_4
  let c1024_i32 : BitVec 32 := 1024#32
  let v14 : BitVec 32 := Scalar.muli v13 c1024_i32
  v14
def k0_off7 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32_5 : BitVec 32 := 3#32
  let v16 : BitVec 32 := Scalar.remsi v1 c3_i32_5
  ![v16.toNat]
def k0_off8 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32_5 : BitVec 32 := 3#32
  let v16 : BitVec 32 := Scalar.remsi v1 c3_i32_5
  let c0_i32_6 : BitVec 32 := 0#32
  let c0_i32_7 : BitVec 32 := 0#32
  ![v16.toNat, 0, 0]
def k0_off9 (i : grid0.Coords) : Fin 2 → Nat :=
  let c0_i32_8 : BitVec 32 := 0#32
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c6_i32_4 : BitVec 32 := 6#32
  let v13 : BitVec 32 := Scalar.remsi v1 c6_i32_4
  let c1024_i32 : BitVec 32 := 1024#32
  let v14 : BitVec 32 := Scalar.muli v13 c1024_i32
  let v15 : BitVec 32 := v14
  ![0, v15.toNat]
def k0_off10 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32_10 : BitVec 32 := 3#32
  let v23 : BitVec 32 := Scalar.remsi v1 c3_i32_10
  let v24 : Index := Scalar.indexCast v23
  let c0_11 : Index := 0#32
  let c0_12 : Index := 0#32
  ![v24.toNat, 0, 0]
def k0_cond4 (i : grid0.Coords) : BitVec 1 :=
  let arg1 : BitVec 32 := BitVec.ofNat 32 (i 1).val
  let c1_i32_15 : BitVec 32 := 1#32
  let v30 : BitVec 1 := Scalar.cmpi .eq arg1 c1_i32_15
  let c2_i32 : BitVec 32 := 2#32
  let v31 : BitVec 1 := Scalar.cmpi .eq arg1 c2_i32
  let v32 : BitVec 1 := Scalar.ori v30 v31
  let c4_i32 : BitVec 32 := 4#32
  let v33 : BitVec 1 := Scalar.cmpi .eq arg1 c4_i32
  let v34 : BitVec 1 := Scalar.ori v32 v33
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048x2048 : Shape := ⟨3, ![4, 2048, 2048]⟩
abbrev S1x2048 : Shape := ⟨2, ![1, 2048]⟩
abbrev S1x2048x6144 : Shape := ⟨3, ![1, 2048, 6144]⟩
abbrev S_ : Shape := ⟨0, ![]⟩
abbrev S4x2048 : Shape := ⟨2, ![4, 2048]⟩
abbrev S4x2048x1 : Shape := ⟨3, ![4, 2048, 1]⟩
abbrev S2048 : Shape := ⟨1, ![2048]⟩
abbrev S1x1x2048 : Shape := ⟨3, ![1, 1, 2048]⟩
abbrev S2048x6144 : Shape := ⟨2, ![2048, 6144]⟩
abbrev S4x2048x6144 : Shape := ⟨3, ![4, 2048, 6144]⟩
abbrev S8192x6144 : Shape := ⟨2, ![8192, 6144]⟩
abbrev S8192x1024 : Shape := ⟨2, ![8192, 1024]⟩
abbrev S8192x3072 : Shape := ⟨2, ![8192, 3072]⟩
abbrev S4x3x1024 : Shape := ⟨3, ![4, 3, 1024]⟩
abbrev S4x2048x1024 : Shape := ⟨3, ![4, 2048, 1024]⟩
abbrev S4x2051x1024 : Shape := ⟨3, ![4, 2051, 1024]⟩
abbrev S1x4x3x1024 : Shape := ⟨4, ![1, 4, 3, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x6144, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x6144, .f32⟩
  | .hbm, ⟨21, _⟩ => ⟨S4x2048x6144, .f32⟩
  | .hbm, ⟨22, _⟩ => ⟨S8192x6144, .f32⟩
  | .hbm, ⟨23, _⟩ => ⟨S8192x6144, .bf16⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S_, .f32⟩
  | .hbm, ⟨29, _⟩ => ⟨S4x3x1024, .f32⟩
  | .hbm, ⟨30, _⟩ => ⟨S4x2048x1024, .f32⟩
  | .hbm, ⟨31, _⟩ => ⟨S4x2051x1024, .f32⟩
  | .hbm, ⟨32, _⟩ => ⟨S4x3x1024, .f32⟩
  | .hbm, ⟨33, _⟩ => ⟨S1x4x3x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel5.lean ====
abbrev S16x32x3072 : Shape := ⟨3, ![16, 32, 3072]⟩
abbrev S1x16x3x1024 : Shape := ⟨4, ![1, 16, 3, 1024]⟩
abbrev S1x16x1024 : Shape := ⟨3, ![1, 16, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S16x3x1024 : Shape := ⟨3, ![16, 3, 1024]⟩
abbrev S_ : Shape := ⟨0, ![]⟩
abbrev S16x8x1024 : Shape := ⟨3, ![16, 8, 1024]⟩
abbrev S16x1024 : Shape := ⟨2, ![16, 1024]⟩
abbrev S16x1x1024 : Shape := ⟨3, ![16, 1, 1024]⟩
abbrev S4x1024 : Shape := ⟨2, ![4, 1024]⟩
abbrev S1024 : Shape := ⟨1, ![1024]⟩
abbrev S8x128x128 : Shape := ⟨3, ![8, 128, 128]⟩
abbrev S16x32x1024 : Shape := ⟨3, ![16, 32, 1024]⟩
abbrev S1x32x1024 : Shape := ⟨3, ![1, 32, 1024]⟩
abbrev S1x8x1024 : Shape := ⟨3, ![1, 8, 1024]⟩
abbrev S1x1x1024 : Shape := ⟨3, ![1, 1, 1024]⟩
abbrev S40x1024 : Shape := ⟨2, ![40, 1024]⟩
abbrev S8x1024 : Shape := ⟨2, ![8, 1024]⟩
abbrev S32x1024 : Shape := ⟨2, ![32, 1024]⟩
abbrev S32x128 : Shape := ⟨2, ![32, 128]⟩
abbrev S1x128x128 : Shape := ⟨3, ![1, 128, 128]⟩
abbrev S128x128 : Shape := ⟨2, ![128, 128]⟩
abbrev S1x24x1024 : Shape := ⟨3, ![1, 24, 1024]⟩

abbrev nBuf : Space → Nat
  | .hbm => 31
  | .vmem => 19
  | .smem => 0
  | _ => 0

abbrev bufTy : (tb : Table) → Fin (tcTables nBuf tb) → BufTy
  | .hbm, ⟨0, _⟩ => ⟨S16x32x3072, .f32⟩
  | .hbm, ⟨1, _⟩ => ⟨S1x16x3x1024, .f32⟩
  | .hbm, ⟨2, _⟩ => ⟨S1x16x1024, .f32⟩
  | .hbm, ⟨3, _⟩ => ⟨S1x4x1024, .f32⟩
  | .hbm, ⟨4, _⟩ => ⟨S1x1024, .f32⟩
  | .hbm, ⟨5, _⟩ => ⟨S1x8x128x128, .f32⟩
  | .hbm, ⟨6, _⟩ => ⟨S1x1024, .f32⟩
  | .hbm, ⟨7, _⟩ => ⟨S1x8x128x128, .f32⟩
  | .hbm, ⟨8, _⟩ => ⟨S1x1024, .f32⟩
  | .hbm, ⟨9, _⟩ => ⟨S1x1024, .f32⟩
  | .hbm, ⟨10, _⟩ => ⟨S16x3x1024, .f32⟩
  | .hbm, ⟨11, _⟩ => ⟨S_, .i32⟩
  | .hbm, ⟨12, _⟩ => ⟨S_, .f32⟩
  | .hbm, ⟨13, _⟩ => ⟨S16x8x1024, .f32⟩
  | .hbm, ⟨14, _⟩ => ⟨S16x1024, .f32⟩
  | .hbm, ⟨15, _⟩ => ⟨S16x1x1024, .f32⟩
  | .hbm, ⟨16, _⟩ => ⟨S4x1024, .f32⟩
  | .hbm, ⟨17, _⟩ => ⟨S1024, .f32⟩
  | .hbm, ⟨18, _⟩ => ⟨S8x128x128, .f32⟩
  | .hbm, ⟨19, _⟩ => ⟨S8x128x128, .bf16⟩
  | .hbm, ⟨20, _⟩ => ⟨S1024, .f32⟩
  | .hbm, ⟨21, _⟩ => ⟨S8x128x128, .f32⟩
  | .hbm, ⟨22, _⟩ => ⟨S8x128x128, .bf16⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S16x32x1024, .bf16⟩
  | .hbm, ⟨30, _⟩ => ⟨S16x1x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1x1024, .f32⟩
  | .local _ .vmem, ⟨5, _⟩ => ⟨S1x1x1024, .f32⟩
  | .local _ .vmem, ⟨6, _⟩ => ⟨S4x1024, .f32⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S8x128x128, .bf16⟩
  | .local _ .vmem, ⟨11, _⟩ => ⟨S1x1024, .f32⟩
  | .local _ .vmem, ⟨12, _⟩ => ⟨S1x1024, .f32⟩
  | .local _ .vmem, ⟨13, _⟩ => ⟨S1x32x1024, .bf16⟩
  | .local _ .vmem, ⟨14, _⟩ => ⟨S1x32x1024, .bf16⟩
  | .local _ .vmem, ⟨15, _⟩ => ⟨S1x1x1024, .f32⟩
  | .local _ .vmem, ⟨16, _⟩ => ⟨S1x1x1024, .f32⟩
  | .local _ .vmem, ⟨17, _⟩ => ⟨S40x1024, .f32⟩
  | .local _ .vmem, ⟨18, _⟩ => ⟨S1x1024, .f32⟩
  | _, _ => ⟨S16x32x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference5Ideal.lean ====
abbrev S16x32x3072 : Shape := ⟨3, ![16, 32, 3072]⟩
abbrev S1x16x3x1024 : Shape := ⟨4, ![1, 16, 3, 1024]⟩
abbrev S1x16x1024 : Shape := ⟨3, ![1, 16, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S16x32x1024 : Shape := ⟨3, ![16, 32, 1024]⟩
abbrev S16x3x1024 : Shape := ⟨3, ![16, 3, 1024]⟩
abbrev S16x35x1024 : Shape := ⟨3, ![16, 35, 1024]⟩
abbrev S1x1x1024 : Shape := ⟨3, ![1, 1, 1024]⟩
abbrev S1024 : Shape := ⟨1, ![1024]⟩
abbrev S16x32x8x128 : Shape := ⟨4, ![16, 32, 8, 128]⟩
abbrev S8x128x128 : Shape := ⟨3, ![8, 128, 128]⟩
abbrev S8x128x16x32 : Shape := ⟨4, ![8, 128, 16, 32]⟩
abbrev S_ : Shape := ⟨0, ![]⟩
abbrev S16x1024 : Shape := ⟨2, ![16, 1024]⟩
abbrev S32x16x1024 : Shape := ⟨3, ![32, 16, 1024]⟩
abbrev S16x1x1024 : Shape := ⟨3, ![16, 1, 1024]⟩

abbrev nBuf : Space → Nat
  | .hbm => 141
  | .vmem => 0
  | .smem => 0
  | _ => 0

abbrev hbmTy0_0 (i : Nat) : BufTy := match i % 128 with
  | 0 => ⟨S16x32x3072, .f32⟩
  | 1 => ⟨S1x16x3x1024, .f32⟩
  | 2 => ⟨S1x16x1024, .f32⟩
  | 3 => ⟨S1x4x1024, .f32⟩
  | 4 => ⟨S1x1024, .f32⟩
  | 5 => ⟨S1x8x128x128, .f32⟩
  | 6 => ⟨S1x1024, .f32⟩
  | 7 => ⟨S1x8x128x128, .f32⟩
  | 8 => ⟨S1x1024, .f32⟩
  | 9 => ⟨S1x1024, .f32⟩
  | 10 => ⟨S16x32x1024, .f32⟩
  | 11 => ⟨S16x3x1024, .f32⟩
  | 12 => ⟨S16x35x1024, .f32⟩
  | 13 => ⟨S16x32x1024, .f32⟩
  | 14 => ⟨S1x1x1024, .f32⟩
  | 15 => ⟨S1024, .f32⟩
  | 16 => ⟨S1x1x1024, .f32⟩
  | 17 => ⟨S16x32x1024, .f32⟩
  | 18 => ⟨S16x32x1024, .f32⟩
  | 19 => ⟨S16x32x1024, .f32⟩
  | 20 => ⟨S1x1x1024, .f32⟩
  | 21 => ⟨S1024, .f32⟩
  | 22 => ⟨S1x1x1024, .f32⟩
  | 23 => ⟨S16x32x1024, .f32⟩
  | 24 => ⟨S16x32x1024, .f32⟩
  | 25 => ⟨S16x32x1024, .f32⟩
  | 26 => ⟨S16x32x1024, .f32⟩
  | 27 => ⟨S1x1x1024, .f32⟩
  | 28 => ⟨S1024, .f32⟩
  | 29 => ⟨S1x1x1024, .f32⟩
  | 30 => ⟨S16x32x1024, .f32⟩
  | 31 => ⟨S16x32x1024, .f32⟩
  | 32 => ⟨S16x32x1024, .f32⟩
  | 33 => ⟨S16x32x1024, .f32⟩
  | 34 => ⟨S1x1x1024, .f32⟩
  | 35 => ⟨S1024, .f32⟩
  | 36 => ⟨S1x1x1024, .f32⟩
  | 37 => ⟨S16x32x1024, .f32⟩
  | 38 => ⟨S16x32x1024, .f32⟩
  | 39 => ⟨S16x32x1024, .f32⟩
  | 40 => ⟨S1024, .f32⟩
  | 41 => ⟨S1x1x1024, .f32⟩
  | 42 => ⟨S16x32x1024, .f32⟩
  | 43 => ⟨S16x32x1024, .f32⟩
  | 44 => ⟨S16x32x8x128, .f32⟩
  | 45 => ⟨S8x128x128, .f32⟩
  | 46 => ⟨S8x128x16x32, .f32⟩
  | 47 => ⟨S16x32x8x128, .f32⟩
  | 48 => ⟨S16x32x1024, .f32⟩
  | 49 => ⟨S1024, .f32⟩
  | 50 => ⟨S1x1x1024, .f32⟩
  | 51 => ⟨S16x32x1024, .f32⟩
  | 52 => ⟨S16x32x1024, .f32⟩
  | 53 => ⟨S16x32x1024, .f32⟩
  | 54 => ⟨S16x32x1024, .f32⟩
  | 55 => ⟨S_, .f32⟩
  | 56 => ⟨S16x32x1024, .f32⟩
  | 57 => ⟨S16x32x1024, .f32⟩
  | 58 => ⟨S_, .f32⟩
  | 59 => ⟨S16x32x1024, .f32⟩
  | 60 => ⟨S16x32x1024, .f32⟩
  | 61 => ⟨S8x128x128, .f32⟩
  | 62 => ⟨S8x128x16x32, .f32⟩
  | 63 => ⟨S16x32x8x128, .f32⟩
  | 64 => ⟨S16x32x1024, .f32⟩
  | 65 => ⟨S1024, .f32⟩
  | 66 => ⟨S1x1x1024, .f32⟩
  | 67 => ⟨S16x32x1024, .f32⟩
  | 68 => ⟨S16x32x1024, .f32⟩
  | 69 => ⟨S16x32x1024, .f32⟩
  | 70 => ⟨S16x32x1024, .f32⟩
  | 71 => ⟨S_, .f32⟩
  | 72 => ⟨S16x32x1024, .f32⟩
  | 73 => ⟨S16x32x1024, .f32⟩
  | 74 => ⟨S_, .f32⟩
  | 75 => ⟨S16x32x1024, .f32⟩
  | 76 => ⟨S16x32x1024, .f32⟩
  | 77 => ⟨S_, .f32⟩
  | 78 => ⟨S16x32x1024, .f32⟩
  | 79 => ⟨S16x32x1024, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S1024, .f32⟩
  | 87 => ⟨S1024, .i1⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1x1x1024, .f32⟩
  | 98 => ⟨S16x32x1024, .f32⟩
  | 99 => ⟨S16x32x1024, .f32⟩
  | 100 => ⟨S16x32x1024, .f32⟩
  | 101 => ⟨S_, .f32⟩
  | 102 => ⟨S16x32x1024, .f32⟩
  | 103 => ⟨S16x32x1024, .f32⟩
  | 104 => ⟨S16x32x1024, .f32⟩
  | 105 => ⟨S16x32x1024, .f32⟩
  | 106 => ⟨S16x32x1024, .f32⟩
  | 107 => ⟨S16x32x1024, .f32⟩
  | 108 => ⟨S16x32x1024, .f32⟩
  | 109 => ⟨S16x1024, .f32⟩
  | 110 => ⟨S32x16x1024, .f32⟩
  | 111 => ⟨S32x16x1024, .f32⟩
  | 112 => ⟨S_, .f32⟩
  | 113 => ⟨S32x16x1024, .f32⟩
  | 114 => ⟨S_, .i32⟩
  | 115 => ⟨S32x16x1024, .f32⟩
  | 116 => ⟨S32x16x1024, .f32⟩
  | 117 => ⟨S_, .i32⟩
  | 118 => ⟨S16x1024, .f32⟩
  | 119 => ⟨S32x16x1024, .f32⟩
  | 120 => ⟨S_, .i32⟩
  | 121 => ⟨S_, .i1⟩
  | 122 => ⟨S_, .i32⟩
  | 123 => ⟨S_, .i32⟩
  | 124 => ⟨S1x16x1024, .f32⟩
  | 125 => ⟨S16x1024, .f32⟩
  | 126 => ⟨S_, .i32⟩
  | 127 => ⟨S_, .i32⟩
  | _ => ⟨S16x32x3072, .f32⟩

abbrev hbmTy0_1 (i : Nat) : BufTy := match i % 128 with
  | 0 => ⟨S1x16x1024, .f32⟩
  | 1 => ⟨S16x1024, .f32⟩
  | 2 => ⟨S16x1024, .f32⟩
  | 3 => ⟨S16x1024, .f32⟩
  | 4 => ⟨S1x16x1024, .f32⟩
  | 5 => ⟨S_, .i32⟩
  | 6 => ⟨S_, .i32⟩
  | 7 => ⟨S32x16x1024, .f32⟩
  | 8 => ⟨S_, .i32⟩
  | 9 => ⟨S_, .i32⟩
  | 10 => ⟨S16x32x1024, .f32⟩
  | 11 => ⟨S16x32x1024, .bf16⟩
  | 12 => ⟨S16x1x1024, .f32⟩
  | _ => ⟨S16x32x3072, .f32⟩

abbrev hbmTy (i : Nat) : BufTy := match i / 128 with
  | 0 => hbmTy0_0 i
  | 1 => hbmTy0_1 i
  | _ => ⟨S16x32x3072, .f32⟩

abbrev bufTy : (tb : Table) → Fin (tcTables nBuf tb) → BufTy
  | .hbm, ⟨i, _⟩ => hbmTy i
  | _, _ => ⟨S16x32x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_1 : Ref sig .tc := ⟨.hbm, 71, rfl⟩
abbrev main_v59 : Ref sig .tc := ⟨.hbm, 72, rfl⟩
abbrev main_v60 : Ref sig .tc := ⟨.hbm, 73, rfl⟩
abbrev main_cst_2 : Ref sig .tc := ⟨.hbm, 74, rfl⟩
abbrev main_v61 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_call0_v0 : Ref sig .tc := ⟨.hbm, 81, rfl⟩
abbrev main_call0_call0_cst : Ref sig .tc := ⟨.hbm, 82, rfl⟩
abbrev main_call0_call0_v0 : Ref sig .tc := ⟨.hbm, 83, rfl⟩
abbrev main_call0_call0_v1 : Ref sig .tc := ⟨.hbm, 84, rfl⟩
abbrev main_call0_call0_v2 : Ref sig .tc := ⟨.hbm, 85, rfl⟩
abbrev main_call0_call0_v3 : Ref sig .tc := ⟨.hbm, 86, rfl⟩
abbrev main_call0_call0_v4 : Ref sig .tc := ⟨.hbm, 87, rfl⟩
abbrev main_call0_call0_v5 : Ref sig .tc := ⟨.hbm, 88, rfl⟩
abbrev main_call0_call0_v6 : Ref sig .tc := ⟨.hbm, 89, rfl⟩
abbrev main_call0_call0_v7 : Ref sig .tc := ⟨.hbm, 90, rfl⟩
abbrev main_call0_call0_v8 : Ref sig .tc := ⟨.hbm, 91, rfl⟩
abbrev main_call0_call0_v9 : Ref sig .tc := ⟨.hbm, 92, rfl⟩
abbrev main_call0_call0_v10 : Ref sig .tc := ⟨.hbm, 93, rfl⟩
abbrev main_call0_call0_v11 : Ref sig .tc := ⟨.hbm, 94, rfl⟩
abbrev main_call0_v1 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_4 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_5 : Ref sig .tc := ⟨.hbm, 112, rfl⟩
abbrev main_v81 : Ref sig .tc := ⟨.hbm, 113, rfl⟩
abbrev main_c : Ref sig .tc := ⟨.hbm, 114, rfl⟩
abbrev main_v82_0 : Ref sig .tc := ⟨.hbm, 115, rfl⟩
abbrev main_v82_1 : Ref sig .tc := ⟨.hbm, 116, rfl⟩
abbrev main_v82_2 : Ref sig .tc := ⟨.hbm, 117, rfl⟩
abbrev main_v82_3 : Ref sig .tc := ⟨.hbm, 118, rfl⟩
abbrev main_v82_4 : Ref sig .tc := ⟨.hbm, 119, rfl⟩
abbrev main_while0c_c_10 : Ref sig .tc := ⟨.hbm, 120, rfl⟩
abbrev main_while0c_v86 : Ref sig .tc := ⟨.hbm, 121, rfl⟩
abbrev main_while0b_call1_c : Ref sig .tc := ⟨.hbm, 122, rfl⟩
abbrev main_while0b_call1_c_0 : Ref sig .tc := ⟨.hbm, 123, rfl⟩
abbrev main_while0b_call1_v0 : Ref sig .tc := ⟨.hbm, 124, rfl⟩
abbrev main_while0b_v86 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_v0 : Ref sig .tc := ⟨.hbm, 128, rfl⟩
abbrev main_while0b_v87 : Ref sig .tc := ⟨.hbm, 129, rfl⟩
abbrev main_while0b_v88 : Ref sig .tc := ⟨.hbm, 130, rfl⟩
abbrev main_while0b_v89 : Ref sig .tc := ⟨.hbm, 131, rfl⟩
abbrev main_while0b_call3_v0 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_v90 : Ref sig .tc := ⟨.hbm, 135, rfl⟩
abbrev main_while0b_c_10 : Ref sig .tc := ⟨.hbm, 136, rfl⟩
abbrev main_while0b_v91 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩

abbrev nD : Nat := 1
abbrev τ : Topo := Topo.v7x

variable {F : FTy → Type} [FloatOps F]

abbrev main_while0_count : Scf.Loop 32 := ⟨0#32, 32#32, 1#32⟩
-- ==== Proof.RefRead.lean ====
module

public import proofs.«01_k».proof.Proof.Gen.ReferenceIdeal.Read
public import Idealize.ShloMosaic.Lib.Pipeline.ValueKit
public import Idealize.ShloMosaic.Lib.Pointwise
public import Idealize.ShloMosaic.Lib.WordCmp
public import Idealize.ShloMosaic.Lib.Tactic.WordOmega

@[expose] public section

/-! What the reference computes, read at an index. -/

set_option maxRecDepth 16384

noncomputable section

namespace Cert.ReferenceIdeal.Attn

open Idealize.ShloMosaic
open Cert.ReferenceIdeal Cert.ReferenceIdeal.Gen Cert.ReferenceIdeal.Read

/-- The gathered key and value blocks: block `n`'s window piece `w` is the padded block the index names. -/
theorem gather_blocks (x : S4x40x64x8x128.Idx → EReal) (idx : IVec S32x9x1 32)
    (b : Fin 4) (n : Fin 32) (w : Fin 9) (r : Fin 64) (h : Fin 8) (d : Fin 128) :
    Host.gather gather_S4x40x64x8x128_S32x9x1_S4x32x9x64x8x128_0345_1_n_n_1_2_41648128 x idx (ix6 b n w r h d)
      = x (ix5 b ⟨min (idx (ix3 n w 0)).toInt.toNat 39, by omega⟩ r h d) := by
  unfold Host.gather
  congr 1
  funext a
  refine Fin.ext ?_
  fin_cases a
  · exact Nat.zero_add _
  · show min (idx _).toInt.toNat 39 + 0 + 0 = min (idx _).toInt.toNat 39
    simp only [Nat.add_zero]
    congr 4
    funext z
    refine Fin.ext ?_
    fin_cases z <;> rfl
  · exact Nat.zero_add _
  · exact Nat.zero_add _
  · exact Nat.zero_add _

/-- The gathered position bias: head `h`'s entry of the table at the lane the index names. -/
theorem gather_table (x : S8x257.Idx → EReal) (idx : IVec S32x64x576x1 32)
    (h : Fin 8) (n : Fin 32) (r : Fin 64) (j : Fin 576) :
    Host.gather gather_S8x257_S32x64x576x1_S8x32x64x576_0_1_n_n_1_3_81 x idx (ix4 h n r j)
      = x (ix2 h ⟨min (idx (ix4 n r j 0)).toInt.toNat 256, by omega⟩) := by
  unfold Host.gather
  congr 1
  funext a
  refine Fin.ext ?_
  fin_cases a
  · exact Nat.zero_add _
  · show min (idx _).toInt.toNat 256 + 0 + 0 = min (idx _).toInt.toNat 256
    simp only [Nat.add_zero]
    congr 4
    funext z
    refine Fin.ext ?_
    fin_cases z <;> rfl

/-- The block index of window piece `w` of query block `n`. -/
theorem block_at (n : Fin 32) (w : Fin 9) : (val_main_v27 (F := Ideal) (ix3 n w 0)).toInt.toNat = n + w := by
  pointwise [val_main_v27, val_main_v26, val_main_v25, val_main_v24, val_main_v23, val_main_v22, val_main_v21, val_main_v20, val_main_v19, val_main_v18, val_main_v17, val_main_v16, val_main_v15, val_main_c, val_main_c_0]
  have e : IntOp.addi (BitVec.ofNat 32 n) (BitVec.ofNat 32 w) = BitVec.ofNat 32 (n + w) := by
    simp [IntOp.addi, BitVec.ofNat_add]
  have e2 : IntOp.cmpi .slt (BitVec.ofNat 32 (n + w)) 0#32 = 0#1 := by word_cmp
  rw [e, e2]
  show (BitVec.ofNat 32 (n + w)).toInt.toNat = n + w
  rw [WordCmp.toInt_ofNat_of_lt (by omega)]
  rfl

/-- The sequence's columns from `c` on, 512 zero rows put before it: row `p`, column `e`. -/
def padded (x0 : S4x2048x6144.Idx → EReal) (c : ℕ) (hc : c + 1024 ≤ 6144) (b : Fin 4) (p : ℕ) (hp : p < 2560) (e : Fin 1024) : EReal :=
  if g : p < 512 then 0 else x0 (ix3 b ⟨p - 512, by omega⟩ ⟨c + e, by omega⟩)

/-- The reference's window of keys: position `64 n + j - 512` of the sequence, zero before its start. -/
theorem keys_at (x0 : S4x2048x6144.Idx → EReal) (b : Fin 4) (n : Fin 32) (j : Fin 576) (h : Fin 8) (d : Fin 128) :
    val_main_v29 (F := Ideal) x0 (ix5 b n j h d)
      = padded x0 1024 (by omega) b (n * 64 + j) (by omega) ⟨h * 128 + d, by omega⟩ := by
  pointwise [val_main_v29]
  unfold val_main_v28
  rw [gather_blocks]
  pointwise [val_main_v12, val_main_v11, val_main_v10, val_main_cst, val_main_v7, val_main_v1]
  simp only [block_at]
  have e : min ((n : ℕ) + j / 64) 39 * 64 + j % 64 = n * 64 + j := by omega
  simp only [e]
  rfl

/-- The reference's window of values. -/
theorem values_at (x0 : S4x2048x6144.Idx → EReal) (b : Fin 4) (n : Fin 32) (j : Fin 576) (h : Fin 8) (d : Fin 128) :
    val_main_v37 (F := Ideal) x0 (ix5 b n j h d)
      = padded x0 2048 (by omega) b (n * 64 + j) (by omega) ⟨h * 128 + d, by omega⟩ := by
  pointwise [val_main_v37]
  unfold val_main_v36
  have e0 : val_main_v35 (F := Ideal) = val_main_v27 := rfl
  rw [gather_blocks, e0]
  pointwise [val_main_v14, val_main_v13, val_main_v10, val_main_cst, val_main_v8, val_main_v2]
  simp only [block_at]
  have e : min ((n : ℕ) + j / 64) 39 * 64 + j % 64 = n * 64 + j := by omega
  simp only [e]
  rfl

/-- The word of the distance from window key `j` to query row `r`, read as an integer. -/
theorem distance_at (n : Fin 32) (r : Fin 64) (j : Fin 576) :
    Affine.IsInt (IntOp.subi (BitVec.ofNat 32 ((n : ℕ) * 64 + r))
      (IntOp.addi (IntOp.subi (IntOp.muli (BitVec.ofNat 32 n) 64#32) 512#32) (BitVec.ofNat 32 j))) (512 + r - j) := by
  have hn := n.2
  have hr := r.2
  have hj := j.2
  exact Affine.subi (Affine.ofNat ((n : ℕ) * 64 + r) ⟨rfl, by omega⟩)
    (Affine.addi (Affine.subi (Affine.muli (Affine.ofNat (n : ℕ) ⟨rfl, by omega⟩) (Affine.ofNat 64 ⟨rfl, by omega⟩)
      ⟨rfl, by omega, by omega⟩) (Affine.ofNat 512 ⟨rfl, by omega⟩) ⟨rfl, by omega, by omega⟩)
      (Affine.ofNat (j : ℕ) ⟨rfl, by omega⟩) ⟨rfl, by omega, by omega⟩) ⟨by push_cast; omega, by omega, by omega⟩

/-- A distance clipped to the table's range, shifted to a lane; the wrap of negative lanes does not act. -/
theorem lane_word (z : BitVec 32) (k : ℤ) (hz : Affine.IsInt z k) (h0 : -128 ≤ k) (h1 : k ≤ 1000) :
    (Scalar.select (IntOp.cmpi .slt (IntOp.addi (IntOp.minsi 128#32 (IntOp.maxsi 4294967168#32 z)) 128#32) 0#32)
      (IntOp.addi (IntOp.addi (IntOp.minsi 128#32 (IntOp.maxsi 4294967168#32 z)) 128#32) 257#32)
      (IntOp.addi (IntOp.minsi 128#32 (IntOp.maxsi 4294967168#32 z)) 128#32)).toInt.toNat = (min 128 k + 128).toNat := by
  have h := Affine.addi (Affine.minsi (Affine.ofNat 128 ⟨rfl, by omega⟩)
    (Affine.maxsi (Affine.ofNat_neg 4294967168 ⟨rfl, by omega, by omega⟩) hz rfl) rfl) (Affine.ofNat 128 ⟨rfl, by omega⟩)
    (e := min 128 k + 128) ⟨by omega, by omega, by omega⟩
  unfold Affine.IsInt at h
  change (IntOp.addi (IntOp.minsi 128#32 (IntOp.maxsi 4294967168#32 z)) 128#32).toInt = _ at h
  generalize IntOp.addi (IntOp.minsi 128#32 (IntOp.maxsi 4294967168#32 z)) 128#32 = u at h ⊢
  have e : IntOp.cmpi .slt u 0#32 = 0#1 := by
    rw [WordCmp.cmpi_slt_eq, h]
    simp only [BitVec.toInt_zero, WordCmp.ofBool_decide_eq_zero_iff]
    omega
  rw [e]
  show u.toInt.toNat = _
  rw [h]

/-- The lane of the table the reference reads for query row `r` and window key `j`. -/
theorem lane_at (n : Fin 32) (r : Fin 64) (j : Fin 576) :
    (val_main_v68 (F := Ideal) (ix4 n r j 0)).toInt.toNat = (min 128 (512 + r - j : ℤ) + 128).toNat := by
  pointwise [val_main_v68, val_main_v67, val_main_v66, val_main_v65, val_main_v64, val_main_v63, val_main_v62, val_main_v61, val_main_v60, val_main_v59, val_main_v58, val_main_v57, val_main_v56, val_main_v55, val_main_v51, val_main_v50, val_main_v49, val_main_v48, val_main_v47, val_main_v46, val_main_v45, val_main_v44, val_main_v43, val_main_v42, val_main_v41, val_main_v40, val_main_v39, val_main_call0_v0, val_main_call0_v1, val_main_call0_v2, val_main_call0_v3, val_main_call0_v4, val_main_c_3, val_main_c_4, val_main_c_6, val_main_c_7, val_main_c_8, val_main_c_9, val_main_c_10]
  exact lane_word _ _ (distance_at n r j) (by omega) (by omega)

/-- The score the reference gives query row `r` of block `n` against window key `j`, in head `h`. -/
def refScore (x0 : S4x2048x6144.Idx → EReal) (x1 : S1x8x257.Idx → EReal) (b : Fin 4) (n : Fin 32) (h : Fin 8) (r : Fin 64) (j : Fin 576) : EReal :=
  if 512 ≤ (n : ℕ) * 64 + j then
    (∑ d : Fin 128, x0 (ix3 b ⟨n * 64 + r, by omega⟩ ⟨h * 128 + d, by omega⟩)
        * padded x0 1024 (by omega) b (n * 64 + j) (by omega) ⟨h * 128 + d, by omega⟩) * Ideal.ofBits .f32 0x3DB504F3#32
      + x1 (ix3 0 h ⟨(min 128 (512 + r - j : ℤ) + 128).toNat, by omega⟩)
  else Ideal.ofBits .f32 0xFF800000#32

/-- The reference's masked scores, entry by entry. -/
theorem score_at (x0 : S4x2048x6144.Idx → EReal) (x1 : S1x8x257.Idx → EReal) (b : Fin 4) (n : Fin 32) (h : Fin 8) (r : Fin 64) (j : Fin 576) :
    val_main_v77 (F := Ideal) x0 x1 (ix5 b n h r j) = refScore x0 x1 b n h r j := by
  pointwise [val_main_v77, val_main_call1_v1, val_main_call1_v2, val_main_call1_v0, val_main_cst_12, val_main_v76, val_main_v75, val_main_v74, val_main_c_11, val_main_v73, val_main_v72, val_main_v71, val_main_v70, val_main_v54, val_main_v53, val_main_v52, val_main_cst_5, val_main_v38, val_main_v6, val_main_v0, val_main_v51, val_main_v50, val_main_v49, val_main_v48, val_main_v47, val_main_v46, val_main_v45, val_main_v44, val_main_v43, val_main_v42, val_main_v41, val_main_c_3, val_main_c_4]
  simp only [keys_at]
  unfold val_main_v69
  rw [gather_table]
  pointwise [val_main_v9]
  simp only [lane_at]
  have hc : IntOp.cmpi .sge (IntOp.addi (IntOp.subi (IntOp.muli (BitVec.ofNat 32 n) 64#32) 512#32) (BitVec.ofNat 32 j)) 0#32
      = BitVec.ofBool (decide (512 ≤ (n : ℕ) * 64 + j)) := by
    have h := Affine.addi (Affine.subi (Affine.muli (Affine.ofNat (n : ℕ) ⟨rfl, by omega⟩) (Affine.ofNat 64 ⟨rfl, by omega⟩)
      ⟨rfl, by omega, by omega⟩) (Affine.ofNat 512 ⟨rfl, by omega⟩) ⟨rfl, by omega, by omega⟩)
      (Affine.ofNat (j : ℕ) ⟨rfl, by omega⟩) ⟨rfl, by omega, by omega⟩
    unfold Affine.IsInt at h
    change (IntOp.addi (IntOp.subi (IntOp.muli (BitVec.ofNat 32 n) 64#32) 512#32) (BitVec.ofNat 32 j)).toInt = _ at h
    rw [WordCmp.cmpi_sge_eq, h]
    congr 1
    simp only [BitVec.toInt_zero, decide_eq_decide]
    push_cast
    omega
  rw [hc]
  have hl : ∀ p, (⟨min (min 128 (512 + (r : ℤ) - j) + 128).toNat 256, p⟩ : Fin 257)
      = ⟨(min 128 (512 + (r : ℤ) - j) + 128).toNat, by omega⟩ := fun p => Fin.ext (by simp only []; omega)
  rw [hl]
  unfold refScore
  by_cases h512 : 512 ≤ (n : ℕ) * 64 + j
  · rw [if_pos h512, decide_eq_true h512]
    rfl
  · rw [if_neg h512, decide_eq_false h512]
    rfl

/-- Values weighted by the softmax of the scores `f`, as the reference computes it: shift, exponentials, quotients, sum. -/
def refRow (f : Fin 576 → EReal) (v : Fin 576 → EReal) : EReal :=
  ∑ x, v x * Ideal.div (Ideal.exp (f x - max (Ideal.ofBits .f32 0xFF800000#32) (Finset.univ.fold max (Ideal.ofBits .f32 0xFF800000#32) f)))
    (Ideal.ofBits .f32 0#32 + ∑ y, Ideal.exp (f y - max (Ideal.ofBits .f32 0xFF800000#32) (Finset.univ.fold max (Ideal.ofBits .f32 0xFF800000#32) f)))

/-- A row's largest score. -/
theorem max_at (x0 : S4x2048x6144.Idx → EReal) (x1 : S1x8x257.Idx → EReal) (b : Fin 4) (n : Fin 32) (h : Fin 8) (r : Fin 64) :
    val_main_v78 (F := Ideal) x0 x1 (ix4 b n h r) = Finset.univ.fold max (Ideal.ofBits .f32 0xFF800000#32) (refScore x0 x1 b n h r) := by
  pointwise [val_main_v78, val_main_cst_13]
  simp only [score_at]

/-- The shift of a row's scores. -/
theorem shift_at (x0 : S4x2048x6144.Idx → EReal) (x1 : S1x8x257.Idx → EReal) (b : Fin 4) (n : Fin 32) (h : Fin 8) (r : Fin 64) :
    val_main_v80 (F := Ideal) x0 x1 (ix4 b n h r) = max (Ideal.ofBits .f32 0xFF800000#32) (Finset.univ.fold max (Ideal.ofBits .f32 0xFF800000#32) (refScore x0 x1 b n h r)) := by
  rw [val_main_v80_apply, max_at, val_main_v79_apply]
  rfl

/-- The shifted scores' exponentials. -/
theorem exp_at (x0 : S4x2048x6144.Idx → EReal) (x1 : S1x8x257.Idx → EReal) (b : Fin 4) (n : Fin 32) (h : Fin 8) (r : Fin 64) (j : Fin 576) :
    val_main_v84 (F := Ideal) x0 x1 (ix5 b n h r j) = Ideal.exp (refScore x0 x1 b n h r j - max (Ideal.ofBits .f32 0xFF800000#32) (Finset.univ.fold max (Ideal.ofBits .f32 0xFF800000#32) (refScore x0 x1 b n h r))) := by
  rw [val_main_v84_apply, val_main_v83_apply, score_at, val_main_v82_apply, val_main_v81_apply]
  exact congrArg (fun z => Ideal.exp (refScore x0 x1 b n h r j - z))
    ((show _ = val_main_v80 (F := Ideal) x0 x1 (ix4 b n h r) from congrArg _ (by funext a; fin_cases a <;> rfl)).trans (shift_at x0 x1 b n h r))

/-- A row's sum of exponentials. -/
theorem sum_at (x0 : S4x2048x6144.Idx → EReal) (x1 : S1x8x257.Idx → EReal) (b : Fin 4) (n : Fin 32) (h : Fin 8) (r : Fin 64) :
    val_main_v85 (F := Ideal) x0 x1 (ix4 b n h r) = Ideal.ofBits .f32 0#32 + ∑ y, Ideal.exp (refScore x0 x1 b n h r y - max (Ideal.ofBits .f32 0xFF800000#32) (Finset.univ.fold max (Ideal.ofBits .f32 0xFF800000#32) (refScore x0 x1 b n h r))) := by
  pointwise [val_main_v85, val_main_cst_15]
  simp only [exp_at]

/-- A key's weight. -/
theorem weight_at (x0 : S4x2048x6144.Idx → EReal) (x1 : S1x8x257.Idx → EReal) (b : Fin 4) (n : Fin 32) (h : Fin 8) (r : Fin 64) (j : Fin 576) :
    val_main_v88 (F := Ideal) x0 x1 (ix5 b n h r j) = Ideal.div (Ideal.exp (refScore x0 x1 b n h r j - max (Ideal.ofBits .f32 0xFF800000#32) (Finset.univ.fold max (Ideal.ofBits .f32 0xFF800000#32) (refScore x0 x1 b n h r))))
      (Ideal.ofBits .f32 0#32 + ∑ y, Ideal.exp (refScore x0 x1 b n h r y - max (Ideal.ofBits .f32 0xFF800000#32) (Finset.univ.fold max (Ideal.ofBits .f32 0xFF800000#32) (refScore x0 x1 b n h r)))) := by
  rw [val_main_v88_apply, exp_at, val_main_v87_apply, val_main_v86_apply]
  exact congrArg (Ideal.div _) ((show _ = val_main_v85 (F := Ideal) x0 x1 (ix4 b n h r) from congrArg _ (by funext a; fin_cases a <;> rfl)).trans (sum_at x0 x1 b n h r))

/-- The reference's first result at batch `b`, row `i`, entry `e`. -/
theorem out_at (x0 : S4x2048x6144.Idx → EReal) (x1 : S1x8x257.Idx → EReal) (b : Fin 4) (i : Fin 2048) (e : Fin 1024) :
    val_main_v92 (F := Ideal) x0 x1 (ix3 b i e)
      = refRow (refScore x0 x1 b ⟨i / 64, by omega⟩ ⟨e / 128, by omega⟩ ⟨i % 64, by omega⟩)
          (fun x => padded x0 2048 (by omega) b ((i : ℕ) / 64 * 64 + x) (by omega) e) := by
  pointwise [val_main_v92, val_main_v91, val_main_v90, val_main_v89]
  simp only [values_at, weight_at]
  unfold refRow
  refine Finset.sum_congr rfl fun x _ => ?_
  have he : (⟨(e : ℕ) / 128 * 128 + (e : ℕ) % 128, by omega⟩ : Fin 1024) = e := Fin.ext (Nat.div_add_mod' (e : ℕ) 128)
  rw [he]

/-- The reference's second result: the keys of the last 512 positions. -/
theorem tail_keys (x0 : S4x2048x6144.Idx → EReal) (b : Fin 4) (l : Fin 512) (h : Fin 8) (d : Fin 128) :
    val_main_v93 (F := Ideal) x0 (ix4 b l h d) = x0 (ix3 b ⟨1536 + l, by omega⟩ ⟨1024 + (h * 128 + d), by omega⟩) := by
  pointwise [val_main_v93, val_main_v7, val_main_v1]

/-- The reference's third result: the values of the last 512 positions. -/
theorem tail_values (x0 : S4x2048x6144.Idx → EReal) (b : Fin 4) (l : Fin 512) (h : Fin 8) (d : Fin 128) :
    val_main_v94 (F := Ideal) x0 (ix4 b l h d) = x0 (ix3 b ⟨1536 + l, by omega⟩ ⟨2048 + (h * 128 + d), by omega⟩) := by
  pointwise [val_main_v94, val_main_v8, val_main_v2]

end Cert.ReferenceIdeal.Attn

end
-- ==== Proof.Tile.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

/-- What one store writes: 128 query rows of one head against a window of 640 keys. -/
def tile (w : BitVec 32) (q : Vec Ideal S1x128x128 .bf16) (k : Vec Ideal S640x128 .bf16)
    (b : Vec Ideal S1x128x640 .f32) (v : Vec Ideal S640x128 .bf16) : FVec Ideal S1x128x128 .bf16 :=
  k0_pay54 (k0_pay30 w (k0_pay20 q k) b) (k0_pay31 w (k0_pay20 q k) b) v

/-- The mask added to key `j` of the window whose first key stands at position `w`: zero from the sequence's start on. -/
def maskAt (w : BitVec 32) (j : Fin 640) : EReal :=
  Scalar.select (IntOp.cmpi .sge (IntOp.addi (BitVec.ofNat 32 j) w) 0#32) (0 : EReal) (Ideal.ofBits .f32 0xFF800000#32)

/-- The score of one query against key `j` of the window. -/
def score (w : BitVec 32) (q : Fin 128 → EReal) (k : Fin 640 → Fin 128 → EReal) (b : Fin 640 → EReal) (j : Fin 640) : EReal :=
  ((∑ d : Fin 128, q d * k j d) * Ideal.ofBits .f32 0x3DB504F3#32 + b j) + maskAt w j

/-- One output element: the window's values weighted by the exponentials of the scores, divided by their sum. -/
def row (w : BitVec 32) (q : Fin 128 → EReal) (k : Fin 640 → Fin 128 → EReal) (b : Fin 640 → EReal) (v : Fin 640 → EReal) : EReal :=
  Ideal.div
    (∑ j, Ideal.exp (score w q k b j - Finset.univ.fold max (Ideal.ofBits .f32 0xFF800000#32) (score w q k b)) * v j)
    (∑ j, Ideal.exp (score w q k b j - Finset.univ.fold max (Ideal.ofBits .f32 0xFF800000#32) (score w q k b)))

/-- The stored tile at an index is the output element of that row and lane. -/
theorem tile_at (w : BitVec 32) (q : FVec Ideal S1x128x128 .bf16) (k : FVec Ideal S640x128 .bf16)
    (b : FVec Ideal S1x128x640 .f32) (v : FVec Ideal S640x128 .bf16) (r d : Fin 128) :
    tile w q k b v (ix3 0 r d) = row w (fun d => q (ix3 0 r d)) (fun j d => k (ix2 j d)) (fun j => b (ix3 0 r j)) (fun j => v (ix2 j d)) := by
  pointwise [tile, k0_pay54, k0_pay30, k0_pay31, k0_pay20, k0_pay29, k0_pay28, row, score, maskAt]

/-- Reading a window that spans two stacked halves of a scratch reads the half its row falls in. -/
theorem cat_read {sp : Space} (v : View sig .tc sp S1024x1024 .bf16) (P0 P1 : FVec Ideal S512x1024 .bf16) (a b : ℕ)
    (i1 : ∀ x, (![512, 0] : Fin 2 → ℕ) x + (![512, 1024] : Fin 2 → ℕ) x ≤ S1024x1024.size x)
    (i0 : ∀ x, (![0, 0] : Fin 2 → ℕ) x + (![512, 1024] : Fin 2 → ℕ) x ≤ S1024x1024.size x)
    (il : ∀ x, (![a, b] : Fin 2 → ℕ) x + (![640, 128] : Fin 2 → ℕ) x ≤ S1024x1024.size x) (j : Fin 640) (d : Fin 128)
    (hb : b + (d : ℕ) < 1024) (h0 : a + (j : ℕ) < 1024) :
    v.readCov (Val := Elt Ideal) [⟨Rect.unit ![512, 0] ![512, 1024] i1, P1⟩, ⟨Rect.unit ![0, 0] ![512, 1024] i0, P0⟩]
      (Rect.unit (s := S1024x1024) ![a, b] ![640, 128] il).toLoadRect (ix2 j d)
      = if h : a + (j : ℕ) < 512 then P0 (ix2 ⟨a + j, h⟩ ⟨b + d, hb⟩) else P1 (ix2 ⟨a + j - 512, by omega⟩ ⟨b + d, hb⟩) := by
  rw [View.readCov_eq_canon']
  show View.canon _ ((Rect.unit (s := S1024x1024) ![a, b] ![640, 128] il).idx (ix2 j d)) = _
  have v0 : (((Rect.unit (s := S1024x1024) ![a, b] ![640, 128] il).idx (ix2 j d)) 0 : ℕ) = a + j := by
    rw [Rect.idx_unit_val]; rfl
  have v1 : (((Rect.unit (s := S1024x1024) ![a, b] ![640, 128] il).idx (ix2 j d)) 1 : ℕ) = b + d := by
    rw [Rect.idx_unit_val]; rfl
  by_cases h : a + (j : ℕ) < 512
  · rw [dif_pos h, View.canon_cons_of_not_mem _ _ (fun hm => by
      have := ((Rect.mem_set_unit (inb := i1).1 hm) 0).1
      simp [v0] at this; omega)]
    have : (Rect.unit (s := S1024x1024) ![a, b] ![640, 128] il).idx (ix2 j d)
        = (Rect.unit (s := S1024x1024) ![0, 0] ![512, 1024] i0).emb (ix2 ⟨a + j, h⟩ ⟨b + d, hb⟩) := by
      funext x; refine Fin.ext ?_
      fin_cases x
      · refine v0.trans ?_; refine Eq.symm ((Rect.idx_unit_val ..).trans ?_); simp
      · refine v1.trans ?_; refine Eq.symm ((Rect.idx_unit_val ..).trans ?_); simp
    rw [this, View.canon_cons_emb]
  · rw [dif_neg h]
    have : (Rect.unit (s := S1024x1024) ![a, b] ![640, 128] il).idx (ix2 j d)
        = (Rect.unit (s := S1024x1024) ![512, 0] ![512, 1024] i1).emb (ix2 ⟨a + j - 512, by omega⟩ ⟨b + d, hb⟩) := by
      funext x; refine Fin.ext ?_
      fin_cases x
      · refine v0.trans ?_; refine Eq.symm ((Rect.idx_unit_val ..).trans ?_)
        show 512 + (a + (j : ℕ) - 512) = a + j; omega
      · refine v1.trans ?_; refine Eq.symm ((Rect.idx_unit_val ..).trans ?_); simp
    rw [this, View.canon_cons_emb]

/-- One head's row of position biases laid over 128 queries and 640 keys. -/
def brow (v : Vec Ideal S1x768 .f32) : FVec Ideal S1x128x640 .f32 := k0_pay3 v

/-- Row `r`, key `j`: minus infinity outside the row's own band, else the table's entry at lane `128 + j - r`. -/
theorem brow_at (v : FVec Ideal S1x768 .f32) (r : Fin 128) (j : Fin 640) :
    brow v (ix3 0 r j) = if ((r : ℕ) < 64 ∧ (j : ℕ) < 576) ∨ (64 ≤ (r : ℕ) ∧ 64 ≤ (j : ℕ))
      then v (ix2 0 ⟨128 + j - r, by omega⟩) else Ideal.ofBits .f32 0xFF800000#32 := by
  pointwise [brow, k0_pay3, k0_pay2]
  have hr : (r : ℕ) % 1024 = r := by omega
  have hm : (128 + (j : ℕ) + 1024 - (r : ℕ) % 1024) % 1024 = 128 + j - r := by omega
  rw [dif_pos (by omega)]
  have hx : (⟨(128 + (j : ℕ) + 1024 - (r : ℕ) % 1024) % 1024, by omega⟩ : Fin 768) = ⟨128 + j - r, by omega⟩ := Fin.ext hm
  rw [hx]
  by_cases h : (r : ℕ) < 64
  · have e1 : IntOp.cmpi .slt (BitVec.ofNat 32 r) 64#32 = 1#1 := by word_cmp
    rw [e1]
    by_cases h2 : (j : ℕ) < 576
    · have e2 : IntOp.cmpi .slt (BitVec.ofNat 32 j) 0#32 = 0#1 := by word_cmp
      have e3 : IntOp.cmpi .sge (BitVec.ofNat 32 j) 576#32 = 0#1 := by word_cmp
      simp [Scalar.select, e2, e3, h, h2, IntOp.ori]
    · have e2 : IntOp.cmpi .slt (BitVec.ofNat 32 j) 0#32 = 0#1 := by word_cmp
      have e3 : IntOp.cmpi .sge (BitVec.ofNat 32 j) 576#32 = 1#1 := by word_cmp
      have h4 : ¬ 64 ≤ (r : ℕ) := by omega
      simp [Scalar.select, e2, e3, h, h2, h4, IntOp.ori]
  · have e1 : IntOp.cmpi .slt (BitVec.ofNat 32 r) 64#32 = 0#1 := by word_cmp
    rw [e1]
    have e4 : IntOp.cmpi .sge (BitVec.ofNat 32 j) 640#32 = 0#1 := by word_cmp
    by_cases h2 : (j : ℕ) < 64
    · have e3 : IntOp.cmpi .slt (BitVec.ofNat 32 j) 64#32 = 1#1 := by word_cmp
      simp [Scalar.select, e3, e4, h, h2, IntOp.ori]
    · have e3 : IntOp.cmpi .slt (BitVec.ofNat 32 j) 64#32 = 0#1 := by word_cmp
      simp [Scalar.select, e3, e4, h, h2, IntOp.ori]

end Cert.KernelIdeal.Attn

end
-- ==== Proof.Real.lean ====
module

public import Idealize.ShloMosaic.PureOps.Ideal.Laws

@[expose] public section

noncomputable section

namespace Cert.Attn

open Idealize.ShloMosaic

/-- The pattern of minus infinity. -/
theorem neg_inf : Ideal.ofBits .f32 0xFF800000#32 = ⊥ := by simp [Ideal.ofBits, Ideal.ieee]

/-- The pattern of plus infinity. -/
theorem pos_inf : Ideal.ofBits .f32 0x7F800000#32 = ⊤ := by simp [Ideal.ofBits, Ideal.ieee]

/-- A sum of reals is a real. -/
theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- A value whose magnitude is below infinity is a real. -/
theorem real_of_lt (x : EReal) (h : Ideal.cmp .olt (max x (-x)) (Ideal.ofBits .f32 0x7F800000#32) = 1#1) : ∃ r : ℝ, x = r := by
  rw [pos_inf] at h
  unfold Ideal.cmp at h
  induction x with
  | bot => simp at h
  | top => simp at h
  | coe r => exact ⟨r, rfl⟩

end Cert.Attn
-- ==== Proof.Softmax.lean ====
module

public import proofs.«01_k».proof.Proof.RefRead
public import proofs.«01_k».proof.Proof.Tile
public import proofs.«01_k».proof.Proof.Real

@[expose] public section

noncomputable section

namespace Cert.Attn

open Idealize.ShloMosaic

/-- A nonnegative finite factor goes into a sum from the right. -/
theorem sum_times {ι : Type} (s : Finset ι) (f : ι → EReal) (c : EReal) (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- Scores that agree on a band and are minus infinity off it give the same weighted values: dividing the sum of weighted
values by the sum of weights, or weighting each value by its quotient. -/
theorem softmax_eq (f vf : Fin 640 → EReal) (g vg : Fin 576 → EReal) (e : Fin 576 → Fin 640) (he : Function.Injective e)
    (hfg : ∀ j, f (e j) = g j) (hoff : ∀ j, j ∉ Set.range e → f j = ⊥) (hreal : ∀ j, g j = ⊥ ∨ ∃ r : ℝ, g j = r)
    (hsome : ∃ j, ∃ r : ℝ, g j = r) (hv : ∀ j, g j ≠ ⊥ → vf (e j) = vg j) :
    Ideal.div (∑ j, Ideal.exp (f j - Finset.univ.fold max (Ideal.ofBits .f32 0xFF800000#32) f) * vf j)
      (∑ j, Ideal.exp (f j - Finset.univ.fold max (Ideal.ofBits .f32 0xFF800000#32) f)) = Cert.ReferenceIdeal.Attn.refRow g vg := by
  unfold Cert.ReferenceIdeal.Attn.refRow
  rw [neg_inf]
  have hs : ∀ {n : ℕ} (h : Fin n → EReal), Finset.univ.fold max ⊥ h = Finset.univ.sup h := fun h => rfl
  rw [hs, hs, max_eq_right bot_le]
  have hsup : Finset.univ.sup f = Finset.univ.sup g := by
    apply le_antisymm
    · refine Finset.sup_le fun j _ => ?_
      by_cases hj : j ∈ Set.range e
      · obtain ⟨i, rfl⟩ := hj
        rw [hfg]
        exact Finset.le_sup (Finset.mem_univ i)
      · rw [hoff j hj]; exact bot_le
    · refine Finset.sup_le fun j _ => ?_
      rw [← hfg]
      exact Finset.le_sup (Finset.mem_univ (e j))
  rw [hsup]
  obtain ⟨j0, r0, h0⟩ := hsome
  have hM : ∃ μ : ℝ, Finset.univ.sup g = μ := by
    obtain ⟨i, _, hi⟩ := Finset.exists_mem_eq_sup Finset.univ ⟨j0, Finset.mem_univ j0⟩ g
    rcases hreal i with h | h
    · exfalso
      have : g j0 ≤ Finset.univ.sup g := Finset.le_sup (Finset.mem_univ j0)
      rw [hi, h, h0, le_bot_iff] at this
      exact EReal.coe_ne_bot _ this
    · rw [hi]; exact h
  obtain ⟨μ, hμ⟩ := hM
  rw [hμ]
  have hz : ∀ x : EReal, x = ⊥ → Ideal.exp (x - (μ : EReal)) = 0 := by
    rintro x rfl
    rw [EReal.bot_sub]
    rfl
  have hp : ∀ r : ℝ, Ideal.exp ((r : EReal) - (μ : EReal)) = ((Real.exp (r - μ) : ℝ) : EReal) := fun r => by
    rw [← EReal.coe_sub]; rfl
  have hq : ∀ j, ∃ q : ℝ, 0 ≤ q ∧ Ideal.exp (g j - (μ : EReal)) = q := fun j => by
    rcases hreal j with h | ⟨r, h⟩
    · exact ⟨0, le_refl _, by rw [hz _ h]; rfl⟩
    · exact ⟨Real.exp (r - μ), (Real.exp_pos _).le, by rw [h, hp]⟩
  choose q hq0 hq using hq
  have hl : ∑ j, Ideal.exp (g j - (μ : EReal)) = ((∑ j, q j : ℝ) : EReal) := by
    simp only [hq]
    exact (map_sum (⟨⟨Real.toEReal, rfl⟩, EReal.coe_add⟩ : ℝ →+ EReal) q Finset.univ).symm
  have hlpos : 0 < ∑ j, q j := by
    refine Finset.sum_pos' (fun j _ => hq0 j) ⟨j0, Finset.mem_univ j0, ?_⟩
    have := hq j0
    rw [h0, hp, EReal.coe_eq_coe_iff] at this
    rw [← this]
    exact Real.exp_pos _
  have h1 : ∑ j, Ideal.exp (f j - (μ : EReal)) = ∑ j, Ideal.exp (g j - (μ : EReal)) :=
    (Fintype.sum_of_injective e he _ _ (fun j hj => hz _ (hoff j hj)) fun j => by rw [hfg]).symm
  have h2 : ∑ j, Ideal.exp (f j - (μ : EReal)) * vf j = ∑ j, Ideal.exp (g j - (μ : EReal)) * vg j :=
    (Fintype.sum_of_injective e he _ _ (fun j hj => by rw [hz _ (hoff j hj), zero_mul]) fun j => by
      rw [hfg]
      by_cases h : g j = ⊥
      · rw [hz _ h, zero_mul, zero_mul]
      · rw [hv j h]).symm
  have hne : ((∑ j, q j : ℝ) : EReal) ≠ 0 := by
    rw [Ne, EReal.coe_eq_zero]; exact hlpos.ne'
  have hzero : Ideal.ofBits .f32 0#32 = 0 := by simp [Ideal.ofBits, Ideal.ieee]
  rw [h1, h2, hl, hzero, zero_add]
  unfold Ideal.div
  simp only [if_neg hne]
  rw [← EReal.coe_inv, sum_times _ _ _ (by exact_mod_cast (inv_pos.2 hlpos).le) (EReal.coe_ne_top _)]
  exact Finset.sum_congr rfl fun j _ => by rw [mul_comm (Ideal.exp _) (vg j), mul_assoc]

end Cert.Attn

end
-- ==== Proof.OutBlock.lean ====
module

public import proofs.«01_k».proof.Proof.Tile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

/-- Position of the first key of the window belonging to the queries from row `a` of block `c`. -/
def firstKey (c a : ℕ) : BitVec 32 :=
  Scalar.subi (Scalar.addi (Scalar.muli (BitVec.ofNat 32 c) 512#32) (BitVec.ofNat 32 a)) 512#32

/-- Two blocks of 512 rows one after the other. -/
def stack (K0 K1 : S1x512x1024.Idx → EReal) (a : Fin 1024) (e : Fin 1024) : EReal :=
  if h : (a : ℕ) < 512 then K0 (ix3 0 ⟨a, h⟩ e) else K1 (ix3 0 ⟨a - 512, by omega⟩ e)

/-- The output block at row `l`, column `e`: the queries of the row's group against the window of two stacked blocks. -/
def blockOut (c : ℕ) (Q K0 K1 V0 V1 : S1x512x1024.Idx → EReal) (B : S8x128x640.Idx → EReal) (l : Fin 512) (e : Fin 1024) : EReal :=
  row (firstKey c ((l : ℕ) / 128 * 128)) (fun d => Q (ix3 0 l ⟨(e : ℕ) / 128 * 128 + d, by omega⟩))
    (fun j d => stack K0 K1 ⟨(l : ℕ) / 128 * 128 + j, by omega⟩ ⟨(e : ℕ) / 128 * 128 + d, by omega⟩)
    (fun j => B (ix3 ⟨(e : ℕ) / 128, by omega⟩ ⟨(l : ℕ) % 128, by omega⟩ j))
    (fun j => stack V0 V1 ⟨(l : ℕ) / 128 * 128 + j, by omega⟩ e)

/-- The two stored halves read back through a window are the two blocks stacked. -/
theorem stack_read {sp : Space} (v : View sig .tc sp S1024x1024 .bf16) (K0 K1 : FVec Ideal S1x512x1024 .bf16) (a b : ℕ)
    (i1 : ∀ x, (![512, 0] : Fin 2 → ℕ) x + (![512, 1024] : Fin 2 → ℕ) x ≤ S1024x1024.size x)
    (i0 : ∀ x, (![0, 0] : Fin 2 → ℕ) x + (![512, 1024] : Fin 2 → ℕ) x ≤ S1024x1024.size x)
    (il : ∀ x, (![a, b] : Fin 2 → ℕ) x + (![640, 128] : Fin 2 → ℕ) x ≤ S1024x1024.size x) (j : Fin 640) (d : Fin 128)
    (hb : b + (d : ℕ) < 1024) (h0 : a + (j : ℕ) < 1024) :
    v.readCov (Val := Elt Ideal) [⟨Rect.unit ![512, 0] ![512, 1024] i1, k0_pay17 (F := Ideal) K1⟩, ⟨Rect.unit ![0, 0] ![512, 1024] i0, k0_pay16 (F := Ideal) K0⟩]
      (Rect.unit (s := S1024x1024) ![a, b] ![640, 128] il).toLoadRect (ix2 j d)
      = stack K0 K1 ⟨a + j, h0⟩ ⟨b + d, hb⟩ := by
  rw [cat_read v _ _ a b i1 i0 il j d hb h0]
  unfold stack
  by_cases h : a + (j : ℕ) < 512
  · rw [dif_pos h, dif_pos h]
    pointwise [k0_pay16]
  · rw [dif_neg h, dif_neg h]
    pointwise [k0_pay17]

/-- One stored tile at an index is the output block there. -/
theorem piece (c : ℕ) (Q K0 K1 V0 V1 : S1x512x1024.Idx → EReal) (B : S8x128x640.Idx → EReal)
    (w : BitVec 32) (q : FVec Ideal S1x128x128 .bf16) (k : FVec Ideal S640x128 .bf16)
    (b : FVec Ideal S1x128x640 .f32) (v : FVec Ideal S640x128 .bf16) (r d : Fin 128) (l : Fin 512) (e : Fin 1024)
    (a a' : ℕ) (hl : (l : ℕ) = a + r) (ha : a % 128 = 0) (he : (e : ℕ) = a' + d) (ha' : a' % 128 = 0)
    (hw : w = firstKey c a)
    (hq : ∀ x : Fin 128, q (ix3 0 r x) = Q (ix3 0 ⟨a + r, by omega⟩ ⟨a' + x, by omega⟩))
    (hk : ∀ (j : Fin 640) (x : Fin 128), k (ix2 j x) = stack K0 K1 ⟨a + j, by omega⟩ ⟨a' + x, by omega⟩)
    (hb : ∀ j : Fin 640, b (ix3 0 r j) = B (ix3 ⟨a' / 128, by omega⟩ r j))
    (hv : ∀ j : Fin 640, v (ix2 j d) = stack V0 V1 ⟨a + j, by omega⟩ ⟨a' + d, by omega⟩) :
    tile w q k b v (ix3 0 r d) = blockOut c Q K0 K1 V0 V1 B l e := by
  have e1 : (l : ℕ) / 128 * 128 = a := by omega
  have e2 : (e : ℕ) / 128 * 128 = a' := by omega
  have e3 : (e : ℕ) / 128 = a' / 128 := by omega
  have e7 : a' / 128 * 128 = a' := by omega
  have e4 : (⟨(l : ℕ) % 128, by omega⟩ : Fin 128) = r := Fin.ext (by show (l : ℕ) % 128 = r; omega)
  have e5 : l = ⟨a + r, by omega⟩ := Fin.ext hl
  have e6 : e = ⟨a' + d, by omega⟩ := Fin.ext he
  rw [tile_at, blockOut]
  simp only [e1, e3, e7, e4, hq, hk, hb, hv, hw]
  rw [← e5, ← e6]

variable (m : (ℓ : Loc nD τ sig) → Buf (Elt Ideal) ℓ)

set_option maxHeartbeats 4000000 in
/-- What the body leaves in the output block at a point that carries the bias over. -/
theorem out_carried (c : Dev nD) (t : Fin cfg0.N) (h0 : ¬ t.val % 16 = 0) (l : Fin 512) (e : Fin 1024) :
    (outsAt0 m c t.val t.isLt).1 (ix3 0 l e)
      = blockOut (grid0.coords t 1) (iblk m c 0 t) (iblk m c 1 t) (iblk m c 2 t) (iblk m c 3 t) (iblk m c 4 t)
          (outsAt0 m c (t.val - 1) (by have := t.isLt; omega)).2.2.2 l e := by
  by_cases h1 : t.val % 4 = 3
  on_goal 1 => rw [outsAt0_C m c t h0 h1]
  on_goal 2 => rw [outsAt0_B m c t h0 h1]
  all_goals
    frame_out
    canon_tiles x h
    all_goals
      idx_vars x
      obtain rfl : x0 = 0 := Subsingleton.elim _ _
      refine piece _ _ _ _ _ _ _ _ _ _ _ _ _ _ _ _ _ _ (by omega) (by decide) (by omega) (by decide) rfl ?_
        (fun j x => stack_read _ _ _ _ _ _ _ _ j x _ _) ?_ (fun j => stack_read _ _ _ _ _ _ _ _ j _ _ _)
      · intro x; pointwise
      · intro j; simp only [read_unread_whole]; pointwise

end Cert.KernelIdeal.Attn

end
-- ==== Proof.FirstBlock.lean ====
module

public import proofs.«01_k».proof.Proof.OutBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ)

/-- A table of position biases laid over 128 queries and 640 keys, head by head; minus infinity outside a row's band. -/
def spread (f : S8x768.Idx → EReal) (i : S8x128x640.Idx) : EReal :=
  if ((i 1 : ℕ) < 64 ∧ (i 2 : ℕ) < 576) ∨ (64 ≤ (i 1 : ℕ) ∧ 64 ≤ (i 2 : ℕ))
    then f (ix2 (i 0) ⟨(128 + i 2 - i 1 : ℕ), by have : (i 2 : ℕ) < 640 := (i 2).isLt; omega⟩) else Ideal.ofBits .f32 0xFF800000#32

/-- One head's row laid out is that head's part of the whole table laid out. -/
theorem brow_spread (f : S8x768.Idx → EReal) (v : FVec Ideal S1x768 .f32) (h : Fin 8) (hv : ∀ e : Fin 768, v (ix2 0 e) = f (ix2 h e))
    (r : Fin 128) (j : Fin 640) : brow v (ix3 0 r j) = spread f (ix3 h r j) := by
  rw [brow_at, hv]
  rfl

/-! Each head's row is laid by the same operations. -/

theorem laid_three (v : FVec Ideal S1x768 .f32) : k0_pay3 v = brow v := rfl
theorem laid_four (v : FVec Ideal S1x768 .f32) : k0_pay5 (k0_pay4 v) = brow v := rfl
theorem laid_six (v : FVec Ideal S1x768 .f32) : k0_pay6 k0_pay2 v = brow v := rfl
theorem laid_seven (v : FVec Ideal S1x768 .f32) : k0_pay7 k0_pay2 v = brow v := rfl
theorem laid_eight (v : FVec Ideal S1x768 .f32) : k0_pay9 k0_pay2 (k0_pay8 v) = brow v := rfl
theorem laid_ten (v : FVec Ideal S1x768 .f32) : k0_pay10 k0_pay2 v = brow v := rfl
theorem laid_eleven (v : FVec Ideal S1x768 .f32) : k0_pay11 k0_pay2 v = brow v := rfl
theorem laid_twelve (v : FVec Ideal S1x768 .f32) : k0_pay14 k0_pay2 (k0_pay12 v) = brow v := rfl

set_option maxHeartbeats 4000000 in
/-- What the body leaves in the output block at the point that lays the bias. -/
theorem out_first (c : Dev nD) (t : Fin cfg0.N) (h0 : t.val % 16 = 0) (l : Fin 512) (e : Fin 1024) :
    (outsAt0 m c t.val t.isLt).1 (ix3 0 l e)
      = blockOut (grid0.coords t 1) (iblk m c 0 t) (iblk m c 1 t) (iblk m c 2 t) (iblk m c 3 t) (iblk m c 4 t)
          (spread (iblk m c 7 t)) l e := by
  have h1 : ¬ t.val % 4 = 3 := by omega
  rw [outsAt0_A m c t h0 h1]
  frame_out
  canon_tiles x h
  all_goals
    idx_vars x
    obtain rfl : x0 = 0 := Subsingleton.elim _ _
    refine piece _ _ _ _ _ _ _ _ _ _ _ _ _ _ _ _ _ _ (by omega) (by decide) (by omega) (by decide) rfl ?_
      (fun j x => stack_read _ _ _ _ _ _ _ _ j x _ _) ?_ (fun j => stack_read _ _ _ _ _ _ _ _ j _ _ _)
    · intro x; pointwise
    · intro j
      simp only [laid_three, laid_four, laid_six, laid_seven, laid_eight, laid_ten, laid_eleven, laid_twelve]
      simp (disch := decide) only [↓ View.readCov_skip, ↓ View.readCov_cons_toLoadRect]
      refine brow_spread _ _ _ (fun e => ?_) _ _
      pointwise

set_option maxHeartbeats 4000000 in
/-- The bias the first point lays. -/
theorem bias_first (c : Dev nD) (t : Fin cfg0.N) (h0 : t.val % 16 = 0) (h : Fin 8) (r : Fin 128) (j : Fin 640) :
    (outsAt0 m c t.val t.isLt).2.2.2 (ix3 h r j) = spread (iblk m c 7 t) (ix3 h r j) := by
  have h1 : ¬ t.val % 4 = 3 := by omega
  rw [outsAt0_A m c t h0 h1]
  frame_out
  canon_tiles x g
  all_goals
    idx_vars x
    obtain rfl : x0 = 0 := Subsingleton.elim _ _
    obtain rfl : x1 = r := Fin.ext (by simpa using g1.symm)
    obtain rfl : x2 = j := Fin.ext (by simpa using g2.symm)
    simp only [laid_three, laid_four, laid_six, laid_seven, laid_eight, laid_ten, laid_eleven, laid_twelve]
    refine brow_spread _ _ _ (fun e => ?_) _ _
    pointwise
    exact congrArg _ (congrArg (fun z => ix2 z e) (Fin.ext (by simpa using g0.symm)))

end Cert.KernelIdeal.Attn

end
-- ==== Proof.Kept.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ)

/-- Eight heads' columns gathered side by side: head `h` holds columns `128 h` on. -/
theorem heads_at (x : S1x512x1024.Idx → EReal) (p0 p1 p2 p3 p4 p5 p6 p7 : FVec Ideal S1x512x128 .f32)
    (h0 : ∀ (l : Fin 512) (d : Fin 128), p0 (ix3 0 l d) = x (ix3 0 l ⟨0 * 128 + d, by omega⟩))
    (h1 : ∀ (l : Fin 512) (d : Fin 128), p1 (ix3 0 l d) = x (ix3 0 l ⟨1 * 128 + d, by omega⟩))
    (h2 : ∀ (l : Fin 512) (d : Fin 128), p2 (ix3 0 l d) = x (ix3 0 l ⟨2 * 128 + d, by omega⟩))
    (h3 : ∀ (l : Fin 512) (d : Fin 128), p3 (ix3 0 l d) = x (ix3 0 l ⟨3 * 128 + d, by omega⟩))
    (h4 : ∀ (l : Fin 512) (d : Fin 128), p4 (ix3 0 l d) = x (ix3 0 l ⟨4 * 128 + d, by omega⟩))
    (h5 : ∀ (l : Fin 512) (d : Fin 128), p5 (ix3 0 l d) = x (ix3 0 l ⟨5 * 128 + d, by omega⟩))
    (h6 : ∀ (l : Fin 512) (d : Fin 128), p6 (ix3 0 l d) = x (ix3 0 l ⟨6 * 128 + d, by omega⟩))
    (h7 : ∀ (l : Fin 512) (d : Fin 128), p7 (ix3 0 l d) = x (ix3 0 l ⟨7 * 128 + d, by omega⟩))
    (l : Fin 512) (h : Fin 8) (d : Fin 128) :
    k0_pay15 (F := Ideal) p0 p1 p2 p3 p4 p5 p6 p7 (ix4 0 l h d) = x (ix3 0 l ⟨h * 128 + d, by omega⟩) := by
  pointwise [k0_pay15]
  obtain ⟨h, hh⟩ := h
  match h, hh with
  | 0, _ => exact h0 l d
  | 1, _ => exact h1 l d
  | 2, _ => exact h2 l d
  | 3, _ => exact h3 l d
  | 4, _ => exact h4 l d
  | 5, _ => exact h5 l d
  | 6, _ => exact h6 l d
  | 7, _ => exact h7 l d

set_option maxHeartbeats 4000000 in
/-- The kept keys: the last block's rows, head by head. -/
theorem kept_keys (c : Dev nD) (t : Fin cfg0.N) (h1 : t.val % 4 = 3) (l : Fin 512) (h : Fin 8) (d : Fin 128) :
    (outsAt0 m c t.val t.isLt).2.1 (ix4 0 l h d) = iblk m c 5 t (ix3 0 l ⟨h * 128 + d, by omega⟩) := by
  have h0 : ¬ t.val % 16 = 0 := by omega
  rw [outsAt0_C m c t h0 h1]
  frame_out
  refine heads_at _ _ _ _ _ _ _ _ _ ?_ ?_ ?_ ?_ ?_ ?_ ?_ ?_ l h d
  all_goals
    intro l d
    refine (congrFun (Memref.IsWhole.read_unread (hs0_5 t) (iblk m c 5 t)) _).trans ?_
    refine congrArg (iblk m c 5 t) ?_
    funext x
    refine Fin.ext ?_
    refine (Rect.idx_unit_val ..).trans ?_
    fin_cases x <;> simp

set_option maxHeartbeats 4000000 in
/-- The kept values: the last block's rows, head by head. -/
theorem kept_values (c : Dev nD) (t : Fin cfg0.N) (h1 : t.val % 4 = 3) (l : Fin 512) (h : Fin 8) (d : Fin 128) :
    (outsAt0 m c t.val t.isLt).2.2.1 (ix4 0 l h d) = iblk m c 6 t (ix3 0 l ⟨h * 128 + d, by omega⟩) := by
  have h0 : ¬ t.val % 16 = 0 := by omega
  rw [outsAt0_C m c t h0 h1]
  frame_out
  refine heads_at _ _ _ _ _ _ _ _ _ ?_ ?_ ?_ ?_ ?_ ?_ ?_ ?_ l h d
  all_goals
    intro l d
    pointwise

/-- The bias is carried unchanged past every later point. -/
theorem bias_kept (c : Dev nD) (t : Fin cfg0.N) (h0 : ¬ t.val % 16 = 0) :
    (outsAt0 m c t.val t.isLt).2.2.2 = (outsAt0 m c (t.val - 1) (by have := t.isLt; omega)).2.2.2 := by
  by_cases h1 : t.val % 4 = 3
  · rw [outsAt0_C m c t h0 h1]
    rfl
  · rw [outsAt0_B m c t h0 h1]
    rfl

end Cert.KernelIdeal.Attn

end
-- ==== Proof.Blocks.lean ====
module

public import proofs.«01_k».proof.Proof.FirstBlock
public import proofs.«01_k».proof.Proof.Kept
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- The projected activations the call is given. -/
abbrev acts (c : Dev nD) : S4x2048x6144.Idx → EReal := m ((c : Thread nD τ).loc main_arg0)

/-- The table of position biases the call is given. -/
abbrev table (c : Dev nD) : S1x8x257.Idx → EReal := m ((c : Thread nD τ).loc main_arg1)

/-- Where the windows stand at each grid point: batch `t / 4`, block `t % 4`. -/
theorem index_maps : ∀ t : Fin cfg0.N, win0_0.index t = ![t.val / 4, t.val % 4, 0] ∧ win0_1.index t = ![t.val / 4, t.val % 4 - 1, 1]
    ∧ win0_2.index t = ![t.val / 4, t.val % 4, 1] ∧ win0_3.index t = ![t.val / 4, t.val % 4 - 1, 2]
    ∧ win0_4.index t = ![t.val / 4, t.val % 4, 2] ∧ win0_7.index t = ![0, 0] ∧ (grid0.coords t 1).val = t.val % 4
    := (by decide +kernel : ∀ t : Fin grid0.N, _)

/-- Where the windows of the kept keys and values stand at a batch's last block. -/
theorem index_tail : ∀ t : Fin cfg0.N, t.val % 4 = 3 → win0_5.index t = ![t.val / 4, 3, 0] ∧ win0_6.index t = ![t.val / 4, 3, 1]
    := (by decide +kernel : ∀ t : Fin grid0.N, _)

theorem point_lt (t : Fin cfg0.N) : t.val < 16 := lt_of_lt_of_eq t.isLt N_0

/-- The sequence's batch a grid point works on. -/
def batch (t : Fin cfg0.N) : Fin 4 := ⟨t.val / 4, by have := point_lt t; omega⟩

theorem queries_read (c : Dev nD) (t : Fin cfg0.N) (l : Fin 512) (e : Fin 1024) :
    iblk m c 0 t (ix3 0 l e) = acts m c (ix3 (batch t) ⟨t.val % 4 * 512 + l, by omega⟩ ⟨e, by omega⟩) := by
  have h : iblk m c 0 t (ix3 0 l e) = V m c main_v0 (ix3 (batch t) ⟨t.val % 4 * 512 + l, by omega⟩ ⟨e, by omega⟩) := by
    unfold batch; blk_ext [iblk, index_maps t]
  rw [h]; entry_read; pointwise

theorem before_keys_read (c : Dev nD) (t : Fin cfg0.N) (l : Fin 512) (e : Fin 1024) :
    iblk m c 1 t (ix3 0 l e) = acts m c (ix3 (batch t) ⟨(t.val % 4 - 1) * 512 + l, by omega⟩ ⟨1024 + e, by omega⟩) := by
  have h : iblk m c 1 t (ix3 0 l e) = V m c main_v0 (ix3 (batch t) ⟨(t.val % 4 - 1) * 512 + l, by omega⟩ ⟨1024 + e, by omega⟩) := by
    unfold batch; blk_ext [iblk, index_maps t]
  rw [h]; entry_read; pointwise

theorem own_keys_read (c : Dev nD) (t : Fin cfg0.N) (l : Fin 512) (e : Fin 1024) :
    iblk m c 2 t (ix3 0 l e) = acts m c (ix3 (batch t) ⟨t.val % 4 * 512 + l, by omega⟩ ⟨1024 + e, by omega⟩) := by
  have h : iblk m c 2 t (ix3 0 l e) = V m c main_v0 (ix3 (batch t) ⟨t.val % 4 * 512 + l, by omega⟩ ⟨1024 + e, by omega⟩) := by
    unfold batch; blk_ext [iblk, index_maps t]
  rw [h]; entry_read; pointwise

theorem before_values_read (c : Dev nD) (t : Fin cfg0.N) (l : Fin 512) (e : Fin 1024) :
    iblk m c 3 t (ix3 0 l e) = acts m c (ix3 (batch t) ⟨(t.val % 4 - 1) * 512 + l, by omega⟩ ⟨2048 + e, by omega⟩) := by
  have h : iblk m c 3 t (ix3 0 l e) = V m c main_v0 (ix3 (batch t) ⟨(t.val % 4 - 1) * 512 + l, by omega⟩ ⟨2048 + e, by omega⟩) := by
    unfold batch; blk_ext [iblk, index_maps t]
  rw [h]; entry_read; pointwise

theorem own_values_read (c : Dev nD) (t : Fin cfg0.N) (l : Fin 512) (e : Fin 1024) :
    iblk m c 4 t (ix3 0 l e) = acts m c (ix3 (batch t) ⟨t.val % 4 * 512 + l, by omega⟩ ⟨2048 + e, by omega⟩) := by
  have h : iblk m c 4 t (ix3 0 l e) = V m c main_v0 (ix3 (batch t) ⟨t.val % 4 * 512 + l, by omega⟩ ⟨2048 + e, by omega⟩) := by
    unfold batch; blk_ext [iblk, index_maps t]
  rw [h]; entry_read; pointwise

/-- The keys kept at a batch's last block: the last 512 positions'. -/
theorem tail_keys_read (c : Dev nD) (t : Fin cfg0.N) (h3 : t.val % 4 = 3) (l : Fin 512) (e : Fin 1024) :
    iblk m c 5 t (ix3 0 l e) = acts m c (ix3 (batch t) ⟨1536 + l, by omega⟩ ⟨1024 + e, by omega⟩) := by
  have h : iblk m c 5 t (ix3 0 l e) = V m c main_v3 (ix3 (batch t) ⟨1536 + l, by omega⟩ ⟨e, by omega⟩) := by
    unfold batch; blk_ext [iblk, index_tail t h3]
  rw [h]; entry_read; pointwise
  rw [dif_pos (by omega)]

/-- The values kept at a batch's last block: the last 512 positions'. -/
theorem tail_values_read (c : Dev nD) (t : Fin cfg0.N) (h3 : t.val % 4 = 3) (l : Fin 512) (e : Fin 1024) :
    iblk m c 6 t (ix3 0 l e) = acts m c (ix3 (batch t) ⟨1536 + l, by omega⟩ ⟨2048 + e, by omega⟩) := by
  have h : iblk m c 6 t (ix3 0 l e) = V m c main_v3 (ix3 (batch t) ⟨1536 + l, by omega⟩ ⟨1024 + e, by omega⟩) := by
    unfold batch; blk_ext [iblk, index_tail t h3]
  rw [h]; entry_read; pointwise
  rw [dif_pos (by omega)]
  congr 2
  exact Fin.ext (by show 1024 + (1024 + (e : ℕ)) = 2048 + e; omega)

/-- The table unrolled to 768 lanes: the farthest position's bias 513 times, then the others' in falling order. -/
def lanes (x1 : S1x8x257.Idx → EReal) : S8x768.Idx → EReal := fun y =>
  x1 (ix3 0 (y 0) ⟨if (y 1 : ℕ) < 513 then 256 else 768 - (y 1 : ℕ), by have : (y 1 : ℕ) < 768 := (y 1).isLt; split <;> omega⟩)

theorem lanes_read (c : Dev nD) (t : Fin cfg0.N) : iblk m c 7 t = lanes (table m c) := by
  funext y
  idx_vars y
  have h : iblk m c 7 t (ix2 y0 y1) = V m c main_v9 (ix2 y0 y1) := by blk_ext [iblk, index_maps t]
  rw [h]; entry_read; pointwise
  show _ = table m c (ix3 0 y0 ⟨if (y1 : ℕ) < 513 then 256 else 768 - (y1 : ℕ), _⟩)
  by_cases h5 : (y1 : ℕ) < 513
  · rw [dif_pos h5]
    exact congrArg (table m c) (congrArg (ix3 0 y0) (Fin.ext (if_pos h5).symm))
  · rw [dif_neg h5]
    refine congrArg (table m c) (congrArg (ix3 0 y0) (Fin.ext ?_))
    show 1 + (255 - ((y1 : ℕ) - 513 + 1)) = if (y1 : ℕ) < 513 then 256 else 768 - (y1 : ℕ)
    rw [if_neg h5]
    omega

/-- At every point the position biases are the whole table's, laid out. -/
theorem bias_all (c : Dev nD) : ∀ (n : ℕ) (hn : n < cfg0.N) (h : Fin 8) (r : Fin 128) (j : Fin 640),
    (outsAt0 m c n hn).2.2.2 (ix3 h r j) = spread (lanes (table m c)) (ix3 h r j) := by
  intro n
  induction n with
  | zero => intro hn h r j; rw [← lanes_read m c ⟨0, hn⟩]; exact bias_first m c ⟨0, hn⟩ rfl h r j
  | succ n ih =>
    intro hn h r j
    have hN := lt_of_lt_of_eq hn (show cfg0.N = 16 from N_0)
    rw [← ih (by omega) h r j]
    exact congrFun (bias_kept m c ⟨n + 1, hn⟩ (by show ¬ (n + 1) % 16 = 0; omega)) _

/-- The keys or values a block sees at row `a` of the two stacked blocks, of the columns from `o` on. -/
def seen (x0 : S4x2048x6144.Idx → EReal) (o : ℕ) (ho : o ≤ 2048) (b : Fin 4) (k : Fin 4) (a : Fin 1024) (e : Fin 1024) : EReal :=
  x0 (ix3 b ⟨if (a : ℕ) < 512 then ((k : ℕ) - 1) * 512 + a else (k : ℕ) * 512 + (a - 512), by split <;> omega⟩ ⟨o + e, by omega⟩)

/-- The kernel's result at batch `b`, row `i`, entry `e`. -/
def kernelRow (x0 : S4x2048x6144.Idx → EReal) (x1 : S1x8x257.Idx → EReal) (b : Fin 4) (i : Fin 2048) (e : Fin 1024) : EReal :=
  row (firstKey ((i : ℕ) / 512) ((i : ℕ) % 512 / 128 * 128)) (fun d => x0 (ix3 b i ⟨(e : ℕ) / 128 * 128 + d, by omega⟩))
    (fun j d => seen x0 1024 (by omega) b ⟨(i : ℕ) / 512, by omega⟩ ⟨(i : ℕ) % 512 / 128 * 128 + j, by omega⟩ ⟨(e : ℕ) / 128 * 128 + d, by omega⟩)
    (fun j => spread (lanes x1) (ix3 ⟨(e : ℕ) / 128, by omega⟩ ⟨(i : ℕ) % 512 % 128, by omega⟩ j))
    (fun j => seen x0 2048 (by omega) b ⟨(i : ℕ) / 512, by omega⟩ ⟨(i : ℕ) % 512 / 128 * 128 + j, by omega⟩ e)

/-- What every point leaves in its output block. -/
theorem out_all (c : Dev nD) (t : Fin cfg0.N) (l : Fin 512) (e : Fin 1024) :
    (outsAt0 m c t.val t.isLt).1 (ix3 0 l e)
      = kernelRow (acts m c) (table m c) (batch t) ⟨t.val % 4 * 512 + l, by omega⟩ e := by
  have hB : (outsAt0 m c t.val t.isLt).1 (ix3 0 l e)
      = blockOut (grid0.coords t 1) (iblk m c 0 t) (iblk m c 1 t) (iblk m c 2 t) (iblk m c 3 t) (iblk m c 4 t)
          (spread (lanes (table m c))) l e := by
    by_cases h0 : t.val % 16 = 0
    · rw [out_first m c t h0 l e, lanes_read]
    · rw [out_carried m c t h0 l e]
      congr 1
      funext y
      idx_vars y
      exact bias_all m c _ _ y0 y1 y2
  have e1 : (t.val % 4 * 512 + (l : ℕ)) / 512 = t.val % 4 := by omega
  have e2 : (t.val % 4 * 512 + (l : ℕ)) % 512 = l := by omega
  rw [hB]
  unfold blockOut kernelRow
  rw [(index_maps t).2.2.2.2.2.2]
  simp only [e1, e2]
  have hs : ∀ (o : ℕ) (ho : o ≤ 2048) (K0 K1 : S1x512x1024.Idx → EReal)
      (_ : ∀ l e, K0 (ix3 0 l e) = acts m c (ix3 (batch t) ⟨(t.val % 4 - 1) * 512 + l, by omega⟩ ⟨o + e, by omega⟩))
      (_ : ∀ l e, K1 (ix3 0 l e) = acts m c (ix3 (batch t) ⟨t.val % 4 * 512 + l, by omega⟩ ⟨o + e, by omega⟩)) (a e : Fin 1024),
      stack K0 K1 a e = seen (acts m c) o ho (batch t) ⟨t.val % 4, by omega⟩ a e := by
    intro o ho K0 K1 h0 h1 a e
    unfold stack seen
    by_cases h : (a : ℕ) < 512
    · rw [dif_pos h, h0]; simp only [if_pos h]
    · rw [dif_neg h, h1]; simp only [if_neg h]
  simp only [hs 1024 (by omega) _ _ (before_keys_read m c t) (own_keys_read m c t), hs 2048 (by omega) _ _ (before_values_read m c t) (own_values_read m c t), queries_read]

/-- The first result's array after the run. -/
theorem out_array (c : Dev nD) (b : Fin 4) (i : Fin 2048) (e : Fin 1024) :
    G8 m c (ix3 b i e) = kernelRow (acts m c) (table m c) b i e := by
  have hp : pt8Of (ix3 b i e) = 4 * (b : ℕ) + (i : ℕ) / 512 := by
    show 4 * ((b : ℕ) / 1 - 0) + 1 * ((i : ℕ) / 512 - 0) + 1 * ((e : ℕ) / 1024 - 0) = _
    omega
  have hlt : pt8Of (ix3 b i e) < cfg0.N := by rw [hp, show cfg0.N = 16 from N_0]; omega
  unfold G8
  rw [dif_pos hlt, ← outsAt0_sweep m c (pt8Of (ix3 b i e)) hlt]
  have hl : loc8Of (ix3 b i e) = ix3 0 ⟨(i : ℕ) % 512, by omega⟩ e := by
    funext a
    apply Fin.ext
    fin_cases a
    · show (b : ℕ) % 1 = 0; omega
    · rfl
    · show (e : ℕ) % 1024 = e; omega
  rw [hl, out_all m c ⟨pt8Of (ix3 b i e), hlt⟩]
  congr 1
  · exact Fin.ext (by show pt8Of (ix3 b i e) / 4 = (b : ℕ); rw [hp]; omega)
  · exact Fin.ext (by show pt8Of (ix3 b i e) % 4 * 512 + (i : ℕ) % 512 = (i : ℕ); rw [hp]; omega)

theorem kept_point (b : Fin 4) : 4 * (b : ℕ) + 3 < cfg0.N := by rw [show cfg0.N = 16 from N_0]; omega

/-- The second result's array after the run. -/
theorem keys_array (c : Dev nD) (b : Fin 4) (l : Fin 512) (h : Fin 8) (d : Fin 128) :
    G9 m c (ix4 b l h d) = acts m c (ix3 b ⟨1536 + l, by omega⟩ ⟨1024 + (h * 128 + d), by omega⟩) := by
  have hp : pt9Of (ix4 b l h d) = 4 * (b : ℕ) + 3 := by
    show 4 * (1 * ((b : ℕ) / 1 - 0) + 1 * ((l : ℕ) / 512 - 0) + 1 * ((h : ℕ) / 8 - 0) + 1 * ((d : ℕ) / 128 - 0)) + 3 = _
    omega
  have hlt : pt9Of (ix4 b l h d) < cfg0.N := by rw [hp]; exact kept_point b
  unfold G9
  rw [dif_pos hlt, ← outsAt0_sweep m c (pt9Of (ix4 b l h d)) hlt]
  have hl : loc9Of (ix4 b l h d) = ix4 0 l h d := by
    funext a
    apply Fin.ext
    fin_cases a
    · show (b : ℕ) % 1 = 0; omega
    · show (l : ℕ) % 512 = l; omega
    · show (h : ℕ) % 8 = h; omega
    · show (d : ℕ) % 128 = d; omega
  rw [hl, kept_keys m c ⟨pt9Of (ix4 b l h d), hlt⟩ (by show pt9Of (ix4 b l h d) % 4 = 3; rw [hp]; omega),
    tail_keys_read m c _ (by show pt9Of (ix4 b l h d) % 4 = 3; rw [hp]; omega)]
  congr 2
  exact Fin.ext (by show pt9Of (ix4 b l h d) / 4 = (b : ℕ); rw [hp]; omega)

/-- The third result's array after the run. -/
theorem values_array (c : Dev nD) (b : Fin 4) (l : Fin 512) (h : Fin 8) (d : Fin 128) :
    G10 m c (ix4 b l h d) = acts m c (ix3 b ⟨1536 + l, by omega⟩ ⟨2048 + (h * 128 + d), by omega⟩) := by
  have hp : pt10Of (ix4 b l h d) = 4 * (b : ℕ) + 3 := by
    show 4 * (1 * ((b : ℕ) / 1 - 0) + 1 * ((l : ℕ) / 512 - 0) + 1 * ((h : ℕ) / 8 - 0) + 1 * ((d : ℕ) / 128 - 0)) + 3 = _
    omega
  have hlt : pt10Of (ix4 b l h d) < cfg0.N := by rw [hp]; exact kept_point b
  unfold G10
  rw [dif_pos hlt, ← outsAt0_sweep m c (pt10Of (ix4 b l h d)) hlt]
  have hl : loc10Of (ix4 b l h d) = ix4 0 l h d := by
    funext a
    apply Fin.ext
    fin_cases a
    · show (b : ℕ) % 1 = 0; omega
    · show (l : ℕ) % 512 = l; omega
    · show (h : ℕ) % 8 = h; omega
    · show (d : ℕ) % 128 = d; omega
  rw [hl, kept_values m c ⟨pt10Of (ix4 b l h d), hlt⟩ (by show pt10Of (ix4 b l h d) % 4 = 3; rw [hp]; omega),
    tail_values_read m c _ (by show pt10Of (ix4 b l h d) % 4 = 3; rw [hp]; omega)]
  congr 2
  exact Fin.ext (by show pt10Of (ix4 b l h d) / 4 = (b : ℕ); rw [hp]; omega)

end Cert.KernelIdeal.Attn

end
-- ==== Proof.Scores.lean ====
module

public import proofs.«01_k».proof.Proof.Softmax
public import proofs.«01_k».proof.Proof.Blocks
public import Idealize.ShloMosaic.Lib.Affine

@[expose] public section

set_option maxRecDepth 16384

noncomputable section

namespace Cert.Attn

open Idealize.ShloMosaic Cert.KernelIdeal.Attn
open Cert.ReferenceIdeal.Attn (refRow refScore padded)

/-- The mask lets a key pass when its position is not before the sequence. -/
theorem mask_at (c a : ℕ) (hc : c < 4) (ha : a < 512) (j : Fin 640) :
    maskAt (firstKey c a) j = if 512 ≤ c * 512 + a + j then 0 else ⊥ := by
  have hj := j.2
  have h := Affine.addi (Affine.ofNat (j : ℕ) ⟨rfl, by omega⟩) (Affine.subi (Affine.addi (Affine.muli (Affine.ofNat c ⟨rfl, by omega⟩)
    (Affine.ofNat 512 ⟨rfl, by omega⟩) ⟨rfl, by omega, by omega⟩) (Affine.ofNat a ⟨rfl, by omega⟩) ⟨rfl, by omega, by omega⟩)
    (Affine.ofNat 512 ⟨rfl, by omega⟩) ⟨rfl, by omega, by omega⟩) ⟨rfl, by omega, by omega⟩
  unfold Affine.IsInt at h
  change (IntOp.addi (BitVec.ofNat 32 (j : ℕ)) (firstKey c a)).toInt = _ at h
  unfold maskAt
  rw [WordCmp.cmpi_sge_eq, h, neg_inf]
  by_cases h5 : 512 ≤ c * 512 + a + (j : ℕ)
  · rw [if_pos h5, decide_eq_true (by simp only [BitVec.toInt_zero]; push_cast; omega)]; rfl
  · rw [if_neg h5, decide_eq_false (by simp only [BitVec.toInt_zero]; push_cast; omega)]; rfl

/-- The scale is a real. -/
theorem scale_real : ∃ r : ℝ, Ideal.ofBits .f32 0x3DB504F3#32 = r := by
  show ∃ r : ℝ, Ideal.ieee 8 23 0x3DB504F3#32 = r
  unfold Ideal.ieee
  simp only []
  rw [if_neg (by decide), if_neg (by decide)]
  exact ⟨_, rfl⟩

/-- Kernel and reference give every result row the same value, when queries, keys and position biases are real. -/
theorem row_eq (x0 : Cert.KernelIdeal.S4x2048x6144.Idx → EReal) (x1 : Cert.KernelIdeal.S1x8x257.Idx → EReal)
    (h0 : ∀ (b : Fin 4) (i : Fin 2048) (e : Fin 6144), (e : ℕ) < 2048 → ∃ r : ℝ, x0 (ix3 b i e) = r)
    (h1 : ∀ (h : Fin 8) (d : Fin 257), ∃ r : ℝ, x1 (ix3 0 h d) = r) (b : Fin 4) (i : Fin 2048) (e : Fin 1024) :
    kernelRow x0 x1 b i e
      = refRow (refScore x0 x1 b ⟨i / 64, by omega⟩ ⟨e / 128, by omega⟩ ⟨i % 64, by omega⟩)
          (fun x => padded x0 2048 (by omega) b ((i : ℕ) / 64 * 64 + x) (by omega) e) := by
  have hi := i.2
  have hu : (i : ℕ) % 128 / 64 * 64 ≤ 64 := by omega
  have hP : ∀ j : Fin 576, (i : ℕ) / 512 * 512 + (i : ℕ) % 512 / 128 * 128 + (j + (i : ℕ) % 128 / 64 * 64) = (i : ℕ) / 64 * 64 + j := by omega
  -- the two reads of a key or value the mask lets pass
  have hread : ∀ (o : ℕ) (ho : o ≤ 2048) (j : Fin 576) (d : Fin 1024), 512 ≤ (i : ℕ) / 64 * 64 + j →
      seen x0 o ho b ⟨(i : ℕ) / 512, by omega⟩ ⟨(i : ℕ) % 512 / 128 * 128 + (j + (i : ℕ) % 128 / 64 * 64), by omega⟩ d
        = padded x0 o (by omega) b ((i : ℕ) / 64 * 64 + j) (by omega) d := by
    intro o ho j d hj
    unfold padded
    rw [dif_neg (by omega)]
    unfold seen
    congr 2
    refine Fin.ext ?_
    have := hP j
    show (if (i : ℕ) % 512 / 128 * 128 + (j + (i : ℕ) % 128 / 64 * 64) < 512 then ((i : ℕ) / 512 - 1) * 512 + ((i : ℕ) % 512 / 128 * 128 + (j + (i : ℕ) % 128 / 64 * 64))
      else (i : ℕ) / 512 * 512 + ((i : ℕ) % 512 / 128 * 128 + (j + (i : ℕ) % 128 / 64 * 64) - 512)) = (i : ℕ) / 64 * 64 + j - 512
    split <;> omega
  have hs : ∀ j : Fin 576, refScore x0 x1 b ⟨i / 64, by omega⟩ ⟨e / 128, by omega⟩ ⟨i % 64, by omega⟩ j = ⊥
      ∨ 512 ≤ (i : ℕ) / 64 * 64 + j := by
    intro j
    by_cases h : 512 ≤ (i : ℕ) / 64 * 64 + j
    · exact Or.inr h
    · left; unfold refScore; rw [if_neg h, neg_inf]
  have hsr : ∀ j : Fin 576, 512 ≤ (i : ℕ) / 64 * 64 + j →
      ∃ r : ℝ, refScore x0 x1 b ⟨i / 64, by omega⟩ ⟨e / 128, by omega⟩ ⟨i % 64, by omega⟩ j = r := by
    intro j h
    unfold refScore
    rw [if_pos h]
    obtain ⟨s, hs⟩ := scale_real
    obtain ⟨p, hp⟩ := h1 ⟨e / 128, by omega⟩ ⟨(min 128 (512 + ((i : ℕ) % 64 : ℕ) - j : ℤ) + 128).toNat, by omega⟩
    obtain ⟨d, hd⟩ := sum_real Finset.univ (fun d : Fin 128 => x0 (ix3 b ⟨(i : ℕ) / 64 * 64 + (i : ℕ) % 64, by omega⟩ ⟨(e : ℕ) / 128 * 128 + d, by omega⟩)
        * padded x0 1024 (by omega) b ((i : ℕ) / 64 * 64 + j) (by omega) ⟨(e : ℕ) / 128 * 128 + d, by omega⟩) (fun d _ => by
      obtain ⟨u, hu⟩ := h0 b ⟨(i : ℕ) / 64 * 64 + (i : ℕ) % 64, by omega⟩ ⟨(e : ℕ) / 128 * 128 + d, by omega⟩ (by show (e : ℕ) / 128 * 128 + d < 2048; omega)
      obtain ⟨w, hw⟩ : ∃ r : ℝ, padded x0 1024 (by omega) b ((i : ℕ) / 64 * 64 + j) (by omega) ⟨(e : ℕ) / 128 * 128 + d, by omega⟩ = r := by
        unfold padded
        split
        · exact ⟨0, rfl⟩
        · exact h0 _ _ _ (by show 1024 + ((e : ℕ) / 128 * 128 + d) < 2048; omega)
      exact ⟨u * w, by rw [hu, hw, EReal.coe_mul]⟩)
    refine ⟨d * s + p, ?_⟩
    rw [EReal.coe_add, EReal.coe_mul, ← hs, ← hp, ← hd]
  refine softmax_eq _ _ _ _ (fun j => ⟨j + (i : ℕ) % 128 / 64 * 64, by omega⟩) ?_ ?_ ?_ ?_ ?_ ?_
  · intro a a' h
    exact Fin.ext (by have := congrArg Fin.val h; simp only [] at this; omega)
  · intro j
    have hm := hP j
    simp only [score]
    rw [mask_at _ _ (by omega) (by omega)]
    simp only [hm]
    unfold refScore
    by_cases h : 512 ≤ (i : ℕ) / 64 * 64 + j
    · simp only [if_pos h]
      rw [add_zero]
      congr 1
      · congr 1
        refine Finset.sum_congr rfl fun d _ => ?_
        rw [hread _ _ _ _ h]
        congr 3
        exact Fin.ext (by show (i : ℕ) = (i : ℕ) / 64 * 64 + (i : ℕ) % 64; omega)
      · unfold spread lanes
        rw [if_pos (by
          show (((i : ℕ) % 512 % 128 < 64 ∧ (j : ℕ) + (i : ℕ) % 128 / 64 * 64 < 576)) ∨ (64 ≤ (i : ℕ) % 512 % 128 ∧ 64 ≤ (j : ℕ) + (i : ℕ) % 128 / 64 * 64)
          omega)]
        congr 2
        refine Fin.ext ?_
        show (if 128 + ((j : ℕ) + (i : ℕ) % 128 / 64 * 64) - (i : ℕ) % 512 % 128 < 513 then 256 else 768 - (128 + ((j : ℕ) + (i : ℕ) % 128 / 64 * 64) - (i : ℕ) % 512 % 128))
          = (min 128 (512 + ((i : ℕ) % 64 : ℕ) - (j : ℕ) : ℤ) + 128).toNat
        split <;> omega
    · simp only [if_neg h]
      rw [EReal.add_bot, neg_inf]
  · intro j hj
    simp only [score]
    have hb : spread (lanes x1) (ix3 ⟨(e : ℕ) / 128, by omega⟩ ⟨(i : ℕ) % 512 % 128, by omega⟩ j) = ⊥ := by
      unfold spread
      rw [if_neg, neg_inf]
      show ¬ ((((i : ℕ) % 512 % 128 < 64 ∧ (j : ℕ) < 576)) ∨ (64 ≤ (i : ℕ) % 512 % 128 ∧ 64 ≤ (j : ℕ)))
      intro hh
      exact hj ⟨⟨(j : ℕ) - (i : ℕ) % 128 / 64 * 64, by omega⟩, Fin.ext (by show (j : ℕ) - (i : ℕ) % 128 / 64 * 64 + (i : ℕ) % 128 / 64 * 64 = j; omega)⟩
    rw [hb, EReal.add_bot, EReal.bot_add]
  · intro j
    rcases hs j with h | h
    · exact Or.inl h
    · exact Or.inr (hsr j h)
  · exact ⟨⟨512 + (i : ℕ) % 64, by omega⟩, hsr _ (by show 512 ≤ (i : ℕ) / 64 * 64 + (512 + (i : ℕ) % 64); omega)⟩
  · intro j hj
    exact hread _ _ _ _ ((hs j).resolve_left hj)

end Cert.Attn

end
-- ==== Proof.Equal.lean ====
module

public import proofs.«01_k».proof.Defs
public import proofs.«01_k».proof.Proof.Scores
public import Idealize.ShloMosaic.Lib.Pointwise

@[expose] public section

set_option maxRecDepth 16384

noncomputable section

namespace Cert.Attn

open Idealize.ShloMosaic Idealize.ShloMosaic.TcCoe Idealize.SL.Sem Cert.KernelIdeal Cert.KernelIdeal.Attn Cert.KernelIdeal.Value

/-- The shape facts the precondition states. -/
theorem pre_facts : Cert.Pre_finite_scores.Facts := ⟨by decide, by decide, by decide⟩

variable (m : (ℓ : Loc nD τ sig) → Buf (Elt Ideal) ℓ)

/-- Under the precondition the queries and keys are real. -/
theorem acts_real [hp : Cert.Pre_finite_scores.Facts] (h : Cert.Pre_KernelIdeal_finite_scores m) (c : Dev nD) (b : Fin 4) (i : Fin 2048) (e : Fin 6144)
    (he : (e : ℕ) < 2048) : ∃ r : ℝ, acts m c (ix3 b i e) = r := by
  have h1 := congrFun (h c).1 (ix3 b i ⟨e, he⟩)
  refine real_of_lt _ (Eq.trans ?_ h1)
  have hx : extractStridedSlice Cert.Pre_finite_scores.S4x2048x2048 ![0, 0, 0] (acts m c) hp.slices_S4x2048x6144_S4x2048x2048_0_0_0
      (ix3 b i ⟨e, he⟩) = acts m c (ix3 b i e) := by pointwise
  rw [← hx]
  rfl

/-- Under the precondition the position biases are real. -/
theorem table_real [hp : Cert.Pre_finite_scores.Facts] (h : Cert.Pre_KernelIdeal_finite_scores m) (c : Dev nD) (k : Fin 8) (d : Fin 257) :
    ∃ r : ℝ, table m c (ix3 0 k d) = r :=
  real_of_lt _ (congrFun (h c).2 (ix3 0 k d))

/-- The first results are equal. -/
theorem out_eq [hp : Cert.Pre_finite_scores.Facts] (h : Cert.Pre_KernelIdeal_finite_scores m) (c : Dev nD) :
    Cert.ReferenceIdeal.Read.val_main_v92 (F := Ideal) (acts m c) (table m c) = G8 m c := by
  funext x
  idx_vars x
  exact (Cert.ReferenceIdeal.Attn.out_at _ _ x0 x1 x2).trans ((row_eq _ _ (acts_real m h c) (table_real m h c) x0 x1 x2).symm.trans
    (out_array m c x0 x1 x2).symm)

/-- The kept keys are equal. -/
theorem keys_eq (c : Dev nD) : Cert.ReferenceIdeal.Read.val_main_v93 (F := Ideal) (acts m c) = G9 m c := by
  funext x
  idx_vars x
  exact (Cert.ReferenceIdeal.Attn.tail_keys _ x0 x1 x2 x3).trans (keys_array m c x0 x1 x2 x3).symm

/-- The kept values are equal. -/
theorem values_eq (c : Dev nD) : Cert.ReferenceIdeal.Read.val_main_v94 (F := Ideal) (acts m c) = G10 m c := by
  funext x
  idx_vars x
  exact (Cert.ReferenceIdeal.Attn.tail_values _ x0 x1 x2 x3).trans (values_array m c x0 x1 x2 x3).symm

end Cert.Attn

end
-- ==== Proof.Gate.lean ====
module

public import proofs.«01_k».proof.Proof.Real
public import Mathlib.Analysis.SpecialFunctions.Trigonometric.DerivHyp

@[expose] public section

noncomputable section

namespace Cert.Gate

open Idealize.ShloMosaic

/-- The pattern of one half. -/
theorem half_eq : Ideal.ofBits .f32 0x3F000000#32 = ((1 / 2 : ℝ) : EReal) := by
  simp [Ideal.ofBits, Ideal.ieee]
  rw [← EReal.coe_mul]
  norm_num

/-- On the reals the logistic function is one half of a hyperbolic tangent, plus one half. -/
theorem real_logistic (r : ℝ) : (1 / 2) * Real.tanh (1 / 2 * r) + 1 / 2 = (1 + Real.exp (-r))⁻¹ := by
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = u at *
  generalize Real.exp (-(1 / 2 * r)) = v at *
  have hu : u ≠ 0 := p1.ne'
  have hv : v = u⁻¹ := by field_simp; linarith
  subst hv
  field_simp
  ring

/-- One half of the hyperbolic tangent of half a value, plus one half, is the logistic function, at the infinities too. -/
theorem sigmoid_eq (x : EReal) : Ideal.ofBits .f32 0x3F000000#32 * Ideal.tanh (Ideal.ofBits .f32 0x3F000000#32 * x) + Ideal.ofBits .f32 0x3F000000#32
    = Ideal.div 1 (1 + Ideal.exp (-x)) := by
  change _ = Ideal.logistic x
  rw [half_eq]
  induction x with
  | bot =>
    rw [EReal.coe_mul_bot_of_pos (by norm_num), Ideal.tanh_bot, Ideal.logistic_bot, ← EReal.coe_one, ← EReal.coe_neg, ← EReal.coe_mul, ← EReal.coe_add,
      ← EReal.coe_zero]
    norm_num
  | top =>
    rw [EReal.coe_mul_top_of_pos (by norm_num), Ideal.tanh_top, Ideal.logistic_top, ← EReal.coe_one, ← EReal.coe_mul, ← EReal.coe_add]
    norm_num
  | coe r => rw [← EReal.coe_mul, Ideal.tanh_coe, ← EReal.coe_mul, ← EReal.coe_add, real_logistic, Ideal.logistic_coe]

/-- Above minus infinity, half a value plus half of it times the hyperbolic tangent of the half is the value times its logistic function. -/
theorem silu_eq (x : EReal) (h : x ≠ ⊥) :
    Ideal.ofBits .f32 0x3F000000#32 * x + Ideal.ofBits .f32 0x3F000000#32 * x * Ideal.tanh (Ideal.ofBits .f32 0x3F000000#32 * x)
      = x * Ideal.div 1 (1 + Ideal.exp (-x)) := by
  change _ = x * Ideal.logistic x
  rw [half_eq]
  induction x with
  | bot => exact absurd rfl h
  | top => rw [EReal.coe_mul_top_of_pos (by norm_num), Ideal.tanh_top, Ideal.logistic_top, mul_one]; rfl
  | coe r =>
    rw [← EReal.coe_mul, Ideal.tanh_coe, ← EReal.coe_mul, ← EReal.coe_add, Ideal.logistic_coe, ← EReal.coe_mul, ← real_logistic]
    congr 1
    ring

/-- A value found greater than minus infinity is not minus infinity. -/
theorem above_of_gt (x : EReal) (h : Ideal.cmp .ogt x (Ideal.ofBits .f32 0xFF800000#32) = 1#1) : x ≠ ⊥ := by
  rintro rfl
  rw [Cert.Attn.neg_inf] at h
  simp [Ideal.cmp] at h

end Cert.Gate

end
-- ==== Proof.OutProj.lean ====
module

public import proofs.«01_k».proof.Defs
public import proofs.«01_k».proof.Proof.Gate
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.OutProj

open Idealize.ShloMosaic Idealize.ShloMosaic.TcCoe Idealize.SL.Sem

/-- A gate: half a value plus half of it times the hyperbolic tangent of the half. -/
def gate (x : EReal) : EReal :=
  Ideal.ofBits .f32 0x3F000000#32 * x + Ideal.ofBits .f32 0x3F000000#32 * x * Ideal.tanh (Ideal.ofBits .f32 0x3F000000#32 * x)

/-- One result entry: the residual plus both gated halves times the weight's column. -/
def entry (ga oa gb h : Fin 1024 → EReal) (w : Fin 2048 → EReal) (x : EReal) : EReal :=
  x + (∑ k : Fin 1024, gate (ga k) * oa k * w ⟨k, by omega⟩ + ∑ k : Fin 1024, gate (gb k) * h k * w ⟨1024 + k, by omega⟩)

section Kernel
open Cert.Kernel2Ideal Cert.Kernel2Ideal.Gen Cert.Kernel2Ideal.Value

/-- The stored block at an index. -/
theorem pay_at (oa ga h gb : FVec Ideal S512x1024 .bf16) (x : FVec Ideal S512x2048 .f32) (w0 w1 : FVec Ideal S1024x2048 .bf16) (r : Fin 512) (e : Fin 2048) :
    k0_pay1 (F := Ideal) ga oa gb h w0 w1 x (ix2 r e)
      = x (ix2 r e) + (∑ k : Fin 1024, gate (ga (ix2 r k)) * oa (ix2 r k) * w0 (ix2 k e) + ∑ k : Fin 1024, gate (gb (ix2 r k)) * h (ix2 r k) * w1 (ix2 k e)) := by
  pointwise [k0_pay1, gate]

variable (m : (ℓ : Loc nD τ sig) → Buf (Elt Ideal) ℓ)

/-- The projected activations. -/
abbrev acts (c : Dev nD) : S4x2048x6144.Idx → EReal := m ((c : Thread nD τ).loc main_arg0)
/-- The attention's output. -/
abbrev attended (c : Dev nD) : S4x2048x1024.Idx → EReal := m ((c : Thread nD τ).loc main_arg1)
/-- The recurrence's states. -/
abbrev states (c : Dev nD) : S4x2048x1024.Idx → EReal := m ((c : Thread nD τ).loc main_arg2)
/-- The residual. -/
abbrev resid (c : Dev nD) : S4x2048x2048.Idx → EReal := m ((c : Thread nD τ).loc main_arg3)
/-- The output projection's weight. -/
abbrev weight (c : Dev nD) : S1x2048x2048.Idx → EReal := m ((c : Thread nD τ).loc main_arg4)

/-- Where the windows stand at each grid point. -/
theorem index_maps : ∀ t : Fin cfg0.N, win0_0.index t = ![t.val, 0] ∧ win0_1.index t = ![t.val, 3]
    ∧ win0_2.index t = ![t.val, 0] ∧ win0_3.index t = ![t.val, 5] ∧ win0_4.index t = ![t.val, 0] ∧ win0_5.index t = ![0, 0]
    ∧ win0_6.index t = ![t.val, 0]
    := (by decide +kernel : ∀ t : Fin grid0.N, _)

/-- There are sixteen grid points. -/
theorem point_lt (t : Fin cfg0.N) : t.val < 16 := lt_of_lt_of_eq t.isLt N_0

/-- The batch that row `r` of block `t` belongs to. -/
def batch (t : ℕ) (r : Fin 512) (ht : t < 16) : Fin 4 := ⟨(t * 512 + r) / 2048, by omega⟩
/-- The position of row `r` of block `t` in its batch. -/
def pos (t : ℕ) (r : Fin 512) : Fin 2048 := ⟨(t * 512 + r) % 2048, by omega⟩

/-- The first block's rows are the attention's. -/
theorem read0 (c : Dev nD) (t : Fin cfg0.N) (r : Fin 512) (k : Fin 1024) :
    iblk m c 0 t (ix2 r k) = attended m c (ix3 (batch t r (point_lt t)) (pos t r) k) := by
  have ht := point_lt t
  have h : iblk m c 0 t (ix2 r k) = V m c main_v3 (ix2 ⟨t.val * 512 + r, by omega⟩ k) := by blk_ext [iblk, index_maps t]
  rw [h]; entry_read; pointwise; rfl

/-- The second block's rows are the attention's gates. -/
theorem read1 (c : Dev nD) (t : Fin cfg0.N) (r : Fin 512) (k : Fin 1024) :
    iblk m c 1 t (ix2 r k) = acts m c (ix3 (batch t r (point_lt t)) (pos t r) ⟨3072 + k, by omega⟩) := by
  have ht := point_lt t
  have h : iblk m c 1 t (ix2 r k) = V m c main_v1 (ix2 ⟨t.val * 512 + r, by omega⟩ ⟨3072 + k, by omega⟩) := by blk_ext [iblk, index_maps t]
  rw [h]; entry_read; pointwise; rfl

/-- The third block's rows are the states. -/
theorem read2 (c : Dev nD) (t : Fin cfg0.N) (r : Fin 512) (k : Fin 1024) :
    iblk m c 2 t (ix2 r k) = states m c (ix3 (batch t r (point_lt t)) (pos t r) k) := by
  have ht := point_lt t
  have h : iblk m c 2 t (ix2 r k) = V m c main_v5 (ix2 ⟨t.val * 512 + r, by omega⟩ k) := by blk_ext [iblk, index_maps t]
  rw [h]; entry_read; pointwise; rfl

/-- The fourth block's rows are the states' gates. -/
theorem read3 (c : Dev nD) (t : Fin cfg0.N) (r : Fin 512) (k : Fin 1024) :
    iblk m c 3 t (ix2 r k) = acts m c (ix3 (batch t r (point_lt t)) (pos t r) ⟨5120 + k, by omega⟩) := by
  have ht := point_lt t
  have h : iblk m c 3 t (ix2 r k) = V m c main_v1 (ix2 ⟨t.val * 512 + r, by omega⟩ ⟨5120 + k, by omega⟩) := by blk_ext [iblk, index_maps t]
  rw [h]; entry_read; pointwise; rfl

/-- The fifth block's rows are the residual's. -/
theorem read4 (c : Dev nD) (t : Fin cfg0.N) (r : Fin 512) (k : Fin 2048) :
    iblk m c 4 t (ix2 r k) = resid m c (ix3 (batch t r (point_lt t)) (pos t r) k) := by
  have ht := point_lt t
  have h : iblk m c 4 t (ix2 r k) = V m c main_v6 (ix2 ⟨t.val * 512 + r, by omega⟩ k) := by blk_ext [iblk, index_maps t]
  rw [h]; entry_read; pointwise; rfl

/-- The sixth block is the weight. -/
theorem read5 (c : Dev nD) (t : Fin cfg0.N) (k e : Fin 2048) : iblk m c 5 t (ix2 k e) = weight m c (ix3 0 k e) := by
  have h : iblk m c 5 t (ix2 k e) = V m c main_v8 (ix2 k e) := by blk_ext [iblk, index_maps t]
  rw [h]; entry_read; pointwise

/-- The result's entry of batch `b`, position `p`, column `e`. -/
def result (x0 : S4x2048x6144.Idx → EReal) (x1 x2 : S4x2048x1024.Idx → EReal) (x3 : S4x2048x2048.Idx → EReal) (x4 : S1x2048x2048.Idx → EReal)
    (b : Fin 4) (p e : Fin 2048) : EReal :=
  entry (fun k => x0 (ix3 b p ⟨3072 + k, by omega⟩)) (fun k => x1 (ix3 b p k)) (fun k => x0 (ix3 b p ⟨5120 + k, by omega⟩))
    (fun k => x2 (ix3 b p k)) (fun k => x4 (ix3 0 k e)) (x3 (ix3 b p e))

/-- What a grid point writes back. -/
theorem out_block (c : Dev nD) (t : Fin cfg0.N) (r : Fin 512) (e : Fin 2048) :
    out0_6 (iblk m c 0 t) (iblk m c 1 t) (iblk m c 2 t) (iblk m c 3 t) (iblk m c 4 t) (iblk m c 5 t) (ix2 r e)
      = result (acts m c) (attended m c) (states m c) (resid m c) (weight m c) (batch t r (point_lt t)) (pos t r) e := by
  unfold out0_6
  canon_tiles x h
  idx_vars x
  rw [pay_at]
  obtain rfl : r = x0 := Fin.ext h0
  obtain rfl : e = x1 := Fin.ext h1
  pointwise
  simp only [read0, read1, read2, read3, read4, read5]
  rfl

/-- The result's array after the run. -/
def array (x0 : S4x2048x6144.Idx → EReal) (x1 x2 : S4x2048x1024.Idx → EReal) (x3 : S4x2048x2048.Idx → EReal) (x4 : S1x2048x2048.Idx → EReal) :
    S8192x2048.Idx → EReal := fun i =>
  result x0 x1 x2 x3 x4 ⟨(i 0 : ℕ) / 2048, by have : (i 0 : ℕ) < 8192 := (i 0).isLt; omega⟩ ⟨(i 0 : ℕ) % 2048, by omega⟩ (i 1)

/-- The written blocks make up that array. -/
theorem out_array (c : Dev nD) : (dats m 0 c).arrAt 6 cfg0.N = array (acts m c) (attended m c) (states m c) (resid m c) (weight m c) := by
  refine (dats m 0 c).arrAt_eq_of_covers 6 _ (by decide +kernel) fun t hf y => ?_
  blk_simp
  rw [after0_6]
  idx_vars y
  have ht := point_lt t
  have he : ((View.whole main_v9).slice (win0_6.rect t)).emb (ix2 y0 y1) = (ix2 ⟨t.val * 512 + y0, by omega⟩ y1 : S8192x2048.Idx) := by
    blk_ext [index_maps t]
  rw [he]
  exact out_block m c t y0 y1

/-- After the run the result array holds these entries, and the arguments are as before. -/
theorem run (g : Dev nD → PrngReg) : θ_run defs (onTc (τ := τ) (main (F := Ideal))) ⟨m, fun _ => 0, g⟩ fun r => ∀ c : Dev nD,
      r.2.mem ((c : Thread nD τ).loc main_v9) = array (acts m c) (attended m c) (states m c) (resid m c) (weight m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (out_array m c), (h c).2⟩) (run_blocks m g)

end Kernel

section Reference
open Cert.Reference2Ideal Cert.Reference2Ideal.Read

/-- The reference's gate: a value times its logistic function. -/
def refGate (x : EReal) : EReal := x * Ideal.div 1 (1 + Ideal.exp (-x))

variable (x0 : FVec Ideal S4x2048x6144 .f32) (x1 x2 : FVec Ideal S4x2048x1024 .f32) (x3 : FVec Ideal S4x2048x2048 .f32) (x4 : FVec Ideal S1x2048x2048 .f32)

/-- The reference's gated attention. -/
theorem attended_at (b : Fin 4) (p : Fin 2048) (k : Fin 1024) :
    val_main_v7 (F := Ideal) x0 x1 (ix3 b p k) = refGate (x0 (ix3 b p ⟨3072 + k, by omega⟩)) * x1 (ix3 b p k) := by
  pointwise [val_main_v7, val_main_v6, val_main_call0_v5, val_main_call0_v4, val_main_call0_cst_0, val_main_call0_v3, val_main_call0_v2,
    val_main_call0_cst, val_main_call0_v1, val_main_call0_v0, val_main_v3, refGate]

/-- The reference's gated states. -/
theorem states_at (b : Fin 4) (p : Fin 2048) (k : Fin 1024) :
    val_main_v9 (F := Ideal) x0 x2 (ix3 b p k) = refGate (x0 (ix3 b p ⟨5120 + k, by omega⟩)) * x2 (ix3 b p k) := by
  pointwise [val_main_v9, val_main_v8, val_main_call1_v5, val_main_call1_v4, val_main_call1_cst_0, val_main_call1_v3, val_main_call1_v2,
    val_main_call1_cst, val_main_call1_v1, val_main_call1_v0, val_main_v5, refGate]

/-- The reference's result at an index. -/
theorem out_at (i : Fin 8192) (e : Fin 2048) :
    val_main_v14 (F := Ideal) x0 x1 x2 x3 x4 (ix2 i e) = x3 (ix3 ⟨(i : ℕ) / 2048, by omega⟩ ⟨(i : ℕ) % 2048, by omega⟩ e)
      + (∑ k : Fin 1024, val_main_v7 (F := Ideal) x0 x1 (ix3 ⟨(i : ℕ) / 2048, by omega⟩ ⟨(i : ℕ) % 2048, by omega⟩ k) * x4 (ix3 0 ⟨k, by omega⟩ e)
        + ∑ k : Fin 1024, val_main_v9 (F := Ideal) x0 x2 (ix3 ⟨(i : ℕ) / 2048, by omega⟩ ⟨(i : ℕ) % 2048, by omega⟩ k) * x4 (ix3 0 ⟨1024 + k, by omega⟩ e)) := by
  pointwise [val_main_v14, val_main_v13, val_main_v12, val_main_v11, val_main_v10]

end Reference

/-- The shape facts the precondition states. -/
theorem pre_facts : Cert.Pre_gates_above.Facts := ⟨by decide, by decide, by decide⟩

open Cert.Kernel2Ideal

variable (m : (ℓ : Loc nD τ sig) → Buf (Elt Ideal) ℓ)

/-- Under the precondition both gate activations are above minus infinity. -/
theorem gates_above [hp : Cert.Pre_gates_above.Facts] (h : Cert.Pre_Kernel2Ideal_gates_above m) (c : Dev nD) (b : Fin 4) (p : Fin 2048) (k : Fin 1024) :
    acts m c (ix3 b p ⟨3072 + k, by omega⟩) ≠ ⊥ ∧ acts m c (ix3 b p ⟨5120 + k, by omega⟩) ≠ ⊥ := by
  have h1 := congrFun (h c).1 (ix3 b p k)
  have h2 := congrFun (h c).2 (ix3 b p k)
  have x1 : extractStridedSlice Cert.Pre_gates_above.S4x2048x1024 ![0, 0, 3072] (acts m c) hp.slices_S4x2048x6144_S4x2048x1024_0_0_3072
      (ix3 b p k) = acts m c (ix3 b p ⟨3072 + k, by omega⟩) := by pointwise
  have x2 : extractStridedSlice Cert.Pre_gates_above.S4x2048x1024 ![0, 0, 5120] (acts m c) hp.slices_S4x2048x6144_S4x2048x1024_0_0_5120
      (ix3 b p k) = acts m c (ix3 b p ⟨5120 + k, by omega⟩) := by pointwise
  rw [← x1, ← x2]
  constructor
  · exact Cert.Gate.above_of_gt _ h1
  · exact Cert.Gate.above_of_gt _ h2

/-- Above minus infinity the two forms of the gate agree. -/
theorem refGate_eq (x : EReal) (hx : x ≠ ⊥) : refGate x = gate x := (Cert.Gate.silu_eq x hx).symm

/-- The reference's result is the kernel's where the gates are above minus infinity. -/
theorem out_eq_at (x0 : FVec Ideal S4x2048x6144 .f32) (x1 x2 : FVec Ideal S4x2048x1024 .f32) (x3 : FVec Ideal S4x2048x2048 .f32) (x4 : FVec Ideal S1x2048x2048 .f32)
    (h : ∀ (b : Fin 4) (p : Fin 2048) (k : Fin 1024), x0 (ix3 b p ⟨3072 + k, by omega⟩) ≠ ⊥ ∧ x0 (ix3 b p ⟨5120 + k, by omega⟩) ≠ ⊥) (i : Fin 8192) (e : Fin 2048) :
    Cert.Reference2Ideal.Read.val_main_v14 (F := Ideal) x0 x1 x2 x3 x4 (ix2 i e)
      = result x0 x1 x2 x3 x4 ⟨i / 2048, by omega⟩ ⟨i % 2048, by omega⟩ e := by
  rw [out_at]
  simp only [attended_at, states_at, refGate_eq _ (h _ _ _).1, refGate_eq _ (h _ _ _).2]
  rfl

/-- Kernel and reference give equal arrays. -/
theorem out_eq [hp : Cert.Pre_gates_above.Facts] (h : Cert.Pre_Kernel2Ideal_gates_above m) (c : Dev nD) :
    Cert.Reference2Ideal.Read.val_main_v14 (F := Ideal) (acts m c) (attended m c) (states m c) (resid m c) (weight m c)
      = array (acts m c) (attended m c) (states m c) (resid m c) (weight m c) := by
  funext i
  idx_vars i
  exact out_eq_at _ _ _ _ _ (fun b p (k : Fin 1024) => gates_above m h c b p k) i0 i1

/-- The gated output projection and its reference give equal results. -/
theorem equal : Cert.algebraic_Kernel2Ideal_Reference2Ideal_pre_gates_above (hKernel2Ideal := Cert.Kernel2Ideal.Gen.facts)
    (hReference2Ideal := Cert.Reference2Ideal.Gen.facts) (hPre_gates_above := pre_facts) := by
  intro m g m' g' hpre hagree
  refine ⟨fun c => array (acts m c) (attended m c) (states m c) (resid m c) (weight m c), run m g,
    (θ_run _ _ _).mono (fun r h c => ?_) (Cert.Reference2Ideal.Value.run m' g')⟩
  obtain ⟨h0, hr⟩ := h c
  obtain ⟨e0, e1, e2, e3, e4⟩ := hagree c
  refine ⟨h0.trans ?_, hr⟩
  rw [Cert.Reference2Ideal.Read.val_main_v14_eq, e0, e1, e2, e3, e4]
  exact out_eq (hp := pre_facts) m hpre c

/-- The reference runs, keeps its arguments and leaves every counter at zero. -/
theorem reference_runs : Cert.quiescent_Reference2Ideal (hReference2Ideal := Cert.Reference2Ideal.Gen.facts) := by
  intro m g _
  exact (θ_run _ _ _).mono (fun r h => ⟨fun c => (h c).2, sem_eq_zero_of_no_sems (by decide) r.2⟩) (Cert.Reference2Ideal.Value.run m g)

end Cert.OutProj

end
-- ==== Proof.Norm.lean ====
module

public import proofs.«01_k».proof.Proof.Gate

@[expose] public section

noncomputable section

namespace Cert.Norm

open Idealize.ShloMosaic

/-- The mean of a row. -/
def mean (v : Fin 2048 → EReal) : EReal := Ideal.div (∑ k, v k) (Ideal.ofBits .f32 0x45000000#32)

/-- One over the root of a row's mean square, a small offset added to it. -/
def invRoot (v : Fin 2048 → EReal) : EReal := Ideal.rsqrt (mean (fun k => v k * v k) + Ideal.ofBits .f32 0x358637BD#32)

/-- A row less its mean. -/
def centred (v : Fin 2048 → EReal) (k : Fin 2048) : EReal := v k - mean v

/-- The layer norm of a row: the centred row over its root mean square, scaled and offset. -/
def layer (v g b : Fin 2048 → EReal) (k : Fin 2048) : EReal := centred v k * invRoot (centred v) * g k + b k

/-- The divisor of the mean is 2048. -/
theorem count_eq : Ideal.ofBits .f32 0x45000000#32 = ((2048 : ℝ) : EReal) := by
  simp [Ideal.ofBits, Ideal.ieee]
  rw [← EReal.coe_mul]
  norm_num

/-- The small offset is a positive real. -/
theorem offset_pos : ∃ r : ℝ, 0 < r ∧ Ideal.ofBits .f32 0x358637BD#32 = r := by
  simp only [Ideal.ofBits, Ideal.ieee]
  refine ⟨_, ?_, rfl⟩
  norm_num
  rw [if_neg (by decide)]
  positivity

/-- The mean of reals is a real. -/
theorem mean_real (v : Fin 2048 → EReal) (h : ∀ k, ∃ r : ℝ, v k = r) : ∃ r : ℝ, mean v = r := by
  obtain ⟨s, hs⟩ := Cert.Attn.sum_real Finset.univ v fun k _ => h k
  exact ⟨s * (1 / 2048), by rw [mean, count_eq, Ideal.div_coe (by norm_num), hs, EReal.coe_mul]⟩

/-- A product of reals is a real. -/
theorem mul_real (x y : EReal) (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- One over the root mean square of reals is a real. -/
theorem invRoot_real (v : Fin 2048 → EReal) (h : ∀ k, ∃ r : ℝ, v k = r) : ∃ r : ℝ, invRoot v = r := by
  obtain ⟨s, hs⟩ := Cert.Attn.sum_real Finset.univ (fun k => v k * v k) fun k _ => mul_real _ _ (h k) (h k)
  have h0 : 0 ≤ s := by
    rw [← EReal.coe_nonneg, ← hs]
    refine Finset.sum_nonneg fun k _ => ?_
    obtain ⟨a, ha⟩ := h k
    rw [ha, ← EReal.coe_mul]
    exact EReal.coe_nonneg.2 (mul_self_nonneg a)
  obtain ⟨o, ho, he⟩ := offset_pos
  have hp : 0 < s * (1 / 2048) + o := by positivity
  refine ⟨(Real.sqrt (s * (1 / 2048) + o))⁻¹, ?_⟩
  rw [invRoot, mean, count_eq, Ideal.div_coe (by norm_num), hs, he, ← EReal.coe_mul, ← EReal.coe_add, Ideal.rsqrt_coe,
    if_neg (not_lt.2 hp.le), if_neg hp.ne']

/-- Reals less their mean are reals. -/
theorem centred_real (v : Fin 2048 → EReal) (h : ∀ k, ∃ r : ℝ, v k = r) (k : Fin 2048) : ∃ r : ℝ, centred v k = r := by
  obtain ⟨a, ha⟩ := h k
  obtain ⟨b, hb⟩ := mean_real v h
  exact ⟨a - b, by rw [centred, ha, hb, EReal.coe_sub]⟩

/-- The layer norm of reals is a real. -/
theorem layer_real (v g b : Fin 2048 → EReal) (h : ∀ k, ∃ r : ℝ, v k = r) (hg : ∀ k, ∃ r : ℝ, g k = r) (hb : ∀ k, ∃ r : ℝ, b k = r)
    (k : Fin 2048) : ∃ r : ℝ, layer v g b k = r := by
  obtain ⟨x, hx⟩ := mul_real _ _ (mul_real _ _ (centred_real v h k) (invRoot_real _ (centred_real v h))) (hg k)
  obtain ⟨y, hy⟩ := hb k
  exact ⟨x + y, by rw [layer, hx, hy, EReal.coe_add]⟩

end Cert.Norm
-- ==== Proof.Final.lean ====
module

public import proofs.«01_k».proof.Defs
public import proofs.«01_k».proof.Proof.Norm
public import proofs.«01_k».proof.Proof.OutProj
public import proofs.«01_k».proof.Proof.Gen.Kernel3Ideal.Value
public import proofs.«01_k».proof.Proof.Gen.Reference3Ideal.Read

@[expose] public section

set_option maxRecDepth 16384

noncomputable section

namespace Cert.Final

open Idealize.ShloMosaic Idealize.ShloMosaic.TcCoe Idealize.SL.Sem
open Cert.OutProj (gate refGate refGate_eq batch pos)
open Cert.Norm (mean invRoot centred layer)

section Kernel
open Cert.Kernel3Ideal Cert.Kernel3Ideal.Gen Cert.Kernel3Ideal.Value

/-- The gated layer norm at an index. -/
theorem gated_at (z : FVec Ideal S512x2048 .f32) (g b : FVec Ideal S1x2048 .f32) (s : FVec Ideal S512x2048 .bf16) (r : Fin 512) (k : Fin 2048) :
    k0_pay2 (F := Ideal) z g b s (ix2 r k)
      = gate (layer (fun k => z (ix2 r k)) (fun k => g (ix2 0 k)) (fun k => b (ix2 0 k)) k) * s (ix2 r k) := by
  pointwise [k0_pay2, gate, layer, invRoot, centred, mean]

/-- The stored block at an index: the residual plus the product, over its root mean square. -/
theorem pay_at (y : FVec Ideal S512x2048 .bf16) (x : FVec Ideal S512x2048 .f32) (w : FVec Ideal S2048x2048 .bf16) (f : FVec Ideal S1x2048 .f32)
    (r : Fin 512) (e : Fin 2048) :
    k0_pay1 (F := Ideal) y x w (constant S512x2048 .f32 0x00000000#32) f (ix2 r e)
      = (x (ix2 r e) + ∑ k : Fin 2048, y (ix2 r k) * w (ix2 k e))
        * invRoot (fun e => x (ix2 r e) + ∑ k : Fin 2048, y (ix2 r k) * w (ix2 k e)) * f (ix2 0 e) := by
  pointwise [k0_pay1, invRoot, mean]

variable (m : (ℓ : Loc nD τ sig) → Buf (Elt Ideal) ℓ)

/-- The convolution's output. -/
abbrev conv (c : Dev nD) : S4x2048x2048.Idx → EReal := m ((c : Thread nD τ).loc main_arg0)
/-- The gate's values. -/
abbrev gates (c : Dev nD) : S4x2048x2048.Idx → EReal := m ((c : Thread nD τ).loc main_arg1)
/-- The residual. -/
abbrev resid (c : Dev nD) : S4x2048x2048.Idx → EReal := m ((c : Thread nD τ).loc main_arg2)
/-- The layer norm's scale. -/
abbrev scale (c : Dev nD) : S1x2048.Idx → EReal := m ((c : Thread nD τ).loc main_arg3)
/-- The layer norm's offset. -/
abbrev shift (c : Dev nD) : S1x2048.Idx → EReal := m ((c : Thread nD τ).loc main_arg4)
/-- The output projection's weight. -/
abbrev weight (c : Dev nD) : S1x2048x2048.Idx → EReal := m ((c : Thread nD τ).loc main_arg5)
/-- The final norm's scale. -/
abbrev last (c : Dev nD) : S2048.Idx → EReal := m ((c : Thread nD τ).loc main_arg6)

/-- Where the windows stand at each grid point. -/
theorem index_maps : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![t.val, 0]
    ∧ win0_6.index t = ![0, 0] ∧ win0_7.index t = ![t.val, 0]
    := (by decide +kernel : ∀ t : Fin grid0.N, _)

/-- There are sixteen grid points. -/
theorem point_lt (t : Fin cfg0.N) : t.val < 16 := lt_of_lt_of_eq t.isLt N_0

/-- The first block's rows are the convolution's. -/
theorem read0 (c : Dev nD) (t : Fin cfg0.N) (r : Fin 512) (k : Fin 2048) :
    iblk m c 0 t (ix2 r k) = conv m c (ix3 (batch t r (point_lt t)) (pos t r) k) := by
  have ht := point_lt t
  have h : iblk m c 0 t (ix2 r k) = V m c main_v0 (ix2 ⟨t.val * 512 + r, by omega⟩ k) := by blk_ext [iblk, index_maps t]
  rw [h]; entry_read; pointwise; rfl

/-- The second block's rows are the gate's values. -/
theorem read1 (c : Dev nD) (t : Fin cfg0.N) (r : Fin 512) (k : Fin 2048) :
    iblk m c 1 t (ix2 r k) = gates m c (ix3 (batch t r (point_lt t)) (pos t r) k) := by
  have ht := point_lt t
  have h : iblk m c 1 t (ix2 r k) = V m c main_v2 (ix2 ⟨t.val * 512 + r, by omega⟩ k) := by blk_ext [iblk, index_maps t]
  rw [h]; entry_read; pointwise; rfl

/-- The third block is the layer norm's scale. -/
theorem read2 (c : Dev nD) (t : Fin cfg0.N) (k : Fin 2048) : iblk m c 2 t (ix2 0 k) = scale m c (ix2 0 k) := by
  have h : iblk m c 2 t (ix2 0 k) = V m c main_v9 (ix2 0 k) := by blk_ext [iblk, index_maps t]
  rw [h]; entry_read; pointwise

/-- The fourth block is the layer norm's offset. -/
theorem read3 (c : Dev nD) (t : Fin cfg0.N) (k : Fin 2048) : iblk m c 3 t (ix2 0 k) = shift m c (ix2 0 k) := by
  have h : iblk m c 3 t (ix2 0 k) = V m c main_v10 (ix2 0 k) := by blk_ext [iblk, index_maps t]
  rw [h]; entry_read; pointwise

/-- The fifth block is the weight. -/
theorem read4 (c : Dev nD) (t : Fin cfg0.N) (k e : Fin 2048) : iblk m c 4 t (ix2 k e) = weight m c (ix3 0 k e) := by
  have h : iblk m c 4 t (ix2 k e) = V m c main_v6 (ix2 k e) := by blk_ext [iblk, index_maps t]
  rw [h]; entry_read; pointwise

/-- The sixth block's rows are the residual's. -/
theorem read5 (c : Dev nD) (t : Fin cfg0.N) (r : Fin 512) (k : Fin 2048) :
    iblk m c 5 t (ix2 r k) = resid m c (ix3 (batch t r (point_lt t)) (pos t r) k) := by
  have ht := point_lt t
  have h : iblk m c 5 t (ix2 r k) = V m c main_v7 (ix2 ⟨t.val * 512 + r, by omega⟩ k) := by blk_ext [iblk, index_maps t]
  rw [h]; entry_read; pointwise; rfl

/-- The seventh block is the final norm's scale. -/
theorem read6 (c : Dev nD) (t : Fin cfg0.N) (k : Fin 2048) : iblk m c 6 t (ix2 0 k) = last m c (ix1 k) := by
  have h : iblk m c 6 t (ix2 0 k) = V m c main_v8 (ix2 0 k) := by blk_ext [iblk, index_maps t]
  rw [h]; entry_read; pointwise

/-- The residual stream after the convolution's mixer: `q` is the gate function. -/
def stream (q : EReal → EReal) (x0 x1 x2 : S4x2048x2048.Idx → EReal) (x3 x4 : S1x2048.Idx → EReal) (x5 : S1x2048x2048.Idx → EReal)
    (b : Fin 4) (p e : Fin 2048) : EReal :=
  x2 (ix3 b p e) + ∑ k : Fin 2048,
    q (layer (fun k => x0 (ix3 b p k)) (fun k => x3 (ix2 0 k)) (fun k => x4 (ix2 0 k)) k) * x1 (ix3 b p k) * x5 (ix3 0 k e)

/-- The result's entry: the stream over its root mean square, scaled. -/
def result (q : EReal → EReal) (x0 x1 x2 : S4x2048x2048.Idx → EReal) (x3 x4 : S1x2048.Idx → EReal) (x5 : S1x2048x2048.Idx → EReal)
    (x6 : S2048.Idx → EReal) (b : Fin 4) (p e : Fin 2048) : EReal :=
  stream q x0 x1 x2 x3 x4 x5 b p e * invRoot (stream q x0 x1 x2 x3 x4 x5 b p) * x6 (ix1 e)

/-- What a grid point writes back. -/
theorem out_block (c : Dev nD) (t : Fin cfg0.N) (r : Fin 512) (e : Fin 2048) :
    out0_7 (iblk m c 0 t) (iblk m c 1 t) (iblk m c 2 t) (iblk m c 3 t) (iblk m c 4 t) (iblk m c 5 t) (iblk m c 6 t) (ix2 r e)
      = result gate (conv m c) (gates m c) (resid m c) (scale m c) (shift m c) (weight m c) (last m c) (batch t r (point_lt t)) (pos t r) e := by
  unfold out0_7
  canon_tiles x h
  idx_vars x
  rw [pay_at]
  obtain rfl : r = x0 := Fin.ext h0
  obtain rfl : e = x1 := Fin.ext h1
  simp only [gated_at, k0_pay3, k0_pay4]
  pointwise
  simp only [read0, read1, read2, read3, read4, read5, read6]
  rfl

/-- The result's array after the run. -/
def array (q : EReal → EReal) (x0 x1 x2 : S4x2048x2048.Idx → EReal) (x3 x4 : S1x2048.Idx → EReal) (x5 : S1x2048x2048.Idx → EReal) (x6 : S2048.Idx → EReal) :
    S8192x2048.Idx → EReal := fun i =>
  result q x0 x1 x2 x3 x4 x5 x6 ⟨(i 0 : ℕ) / 2048, by have : (i 0 : ℕ) < 8192 := (i 0).isLt; omega⟩ ⟨(i 0 : ℕ) % 2048, by omega⟩ (i 1)

/-- The written blocks make up that array. -/
theorem out_array (c : Dev nD) : (dats m 0 c).arrAt 7 cfg0.N
    = array gate (conv m c) (gates m c) (resid m c) (scale m c) (shift m c) (weight m c) (last m c) := by
  refine (dats m 0 c).arrAt_eq_of_covers 7 _ (by decide +kernel) fun t hf y => ?_
  blk_simp
  rw [after0_7]
  idx_vars y
  have ht := point_lt t
  have he : ((View.whole main_v11).slice (win0_7.rect t)).emb (ix2 y0 y1) = (ix2 ⟨t.val * 512 + y0, by omega⟩ y1 : S8192x2048.Idx) := by
    blk_ext [index_maps t]
  rw [he]
  exact out_block m c t y0 y1

end Kernel

section Reference
open Cert.Reference3Ideal Cert.Reference3Ideal.Read

variable (x0 x1 x2 : FVec Ideal S4x2048x2048 .f32) (x3 x4 : FVec Ideal S1x2048 .f32) (x5 : FVec Ideal S1x2048x2048 .f32) (x6 : FVec Ideal S2048 .f32)

/-- The reference's mean of a row. -/
theorem mean_at (b : Fin 4) (p : Fin 2048) : val_main_v3 (F := Ideal) x0 (ix3 b p 0) = mean (fun k => x0 (ix3 b p k)) := by
  pointwise [val_main_v3, val_main_v2, val_main_v1, val_main_v0, val_main_cst, val_main_cst_0, mean]

/-- The reference's one over the root mean square of a centred row. -/
theorem root_at (b : Fin 4) (p : Fin 2048) :
    val_main_v15 (F := Ideal) x0 (ix3 b p 0) = invRoot (centred (fun k => x0 (ix3 b p k))) := by
  pointwise [val_main_v15, val_main_v14, val_main_v13, val_main_cst_3, val_main_v10, val_main_v9, val_main_cst_2, val_main_v8, val_main_v7,
    val_main_cst_1, val_main_v6, val_main_v5, val_main_v4, mean_at, invRoot, centred]
  rfl

/-- The reference's layer norm. -/
theorem layer_at (b : Fin 4) (p k : Fin 2048) : val_main_v25 (F := Ideal) x0 x3 x4 (ix3 b p k)
    = layer (fun k => x0 (ix3 b p k)) (fun k => x3 (ix2 0 k)) (fun k => x4 (ix2 0 k)) k := by
  pointwise [val_main_v25, val_main_v24, val_main_v23, val_main_v22, val_main_v21, val_main_v20, val_main_v19, val_main_v18, val_main_v17,
    val_main_v16, val_main_v12, val_main_v11, mean_at, root_at, layer, centred]

/-- The reference's gated layer norm. -/
theorem gated_ref_at (b : Fin 4) (p k : Fin 2048) : val_main_v27 (F := Ideal) x0 x1 x3 x4 (ix3 b p k)
    = refGate (layer (fun k => x0 (ix3 b p k)) (fun k => x3 (ix2 0 k)) (fun k => x4 (ix2 0 k)) k) * x1 (ix3 b p k) := by
  pointwise [val_main_v27, val_main_v26, val_main_call0_v5, val_main_call0_v4, val_main_call0_cst_0, val_main_call0_v3, val_main_call0_v2,
    val_main_call0_cst, val_main_call0_v1, val_main_call0_v0, layer_at, refGate]

/-- The reference's residual stream. -/
theorem stream_at (b : Fin 4) (p e : Fin 2048) :
    val_main_v30 (F := Ideal) x0 x1 x2 x3 x4 x5 (ix3 b p e) = stream refGate x0 x1 x2 x3 x4 x5 b p e := by
  pointwise [val_main_v30, val_main_v29, val_main_v28, gated_ref_at, stream]

/-- The reference's one over the stream's root mean square. -/
theorem last_root_at (b : Fin 4) (p : Fin 2048) :
    val_main_v38 (F := Ideal) x0 x1 x2 x3 x4 x5 (ix3 b p 0) = invRoot (stream refGate x0 x1 x2 x3 x4 x5 b p) := by
  pointwise [val_main_v38, val_main_v37, val_main_v36, val_main_cst_6, val_main_v35, val_main_v34, val_main_cst_5, val_main_v33, val_main_v32,
    val_main_cst_4, val_main_v31, stream_at, invRoot, mean]

/-- The reference's result at an index. -/
theorem out_at (i : Fin 8192) (e : Fin 2048) : val_main_v44 (F := Ideal) x0 x1 x2 x3 x4 x5 x6 (ix2 i e)
    = result refGate x0 x1 x2 x3 x4 x5 x6 ⟨(i : ℕ) / 2048, by omega⟩ ⟨(i : ℕ) % 2048, by omega⟩ e := by
  pointwise [val_main_v44, val_main_v43, val_main_v42, val_main_v41, val_main_v40, val_main_v39, stream_at, last_root_at, result]

end Reference

/-- The shape facts the precondition states. -/
theorem pre_facts : Cert.Pre_finite_conv.Facts := ⟨by decide, by decide⟩

open Cert.Kernel3Ideal

variable (m : (ℓ : Loc nD τ sig) → Buf (Elt Ideal) ℓ)

/-- Under the precondition every layer norm is a real. -/
theorem layer_real [hp : Cert.Pre_finite_conv.Facts] (h : Cert.Pre_Kernel3Ideal_finite_conv m) (c : Dev nD) (b : Fin 4) (p k : Fin 2048) :
    layer (fun k => conv m c (ix3 b p k)) (fun k => scale m c (ix2 0 k)) (fun k => shift m c (ix2 0 k)) k ≠ ⊥ := by
  obtain ⟨r, hr⟩ := Cert.Norm.layer_real _ _ _ (fun k => Cert.Attn.real_of_lt _ (congrFun (h c).1 (ix3 b p k)))
    (fun k => Cert.Attn.real_of_lt _ (congrFun (h c).2.1 (ix2 0 k))) (fun k => Cert.Attn.real_of_lt _ (congrFun (h c).2.2 (ix2 0 k))) k
  exact hr ▸ EReal.coe_ne_bot r

/-- Kernel and reference give equal arrays. -/
theorem out_eq [hp : Cert.Pre_finite_conv.Facts] (h : Cert.Pre_Kernel3Ideal_finite_conv m) (c : Dev nD) :
    Cert.Reference3Ideal.Read.val_main_v44 (F := Ideal) (conv m c) (gates m c) (resid m c) (scale m c) (shift m c) (weight m c) (last m c)
      = array gate (conv m c) (gates m c) (resid m c) (scale m c) (shift m c) (weight m c) (last m c) := by
  have hs : stream refGate (conv m c) (gates m c) (resid m c) (scale m c) (shift m c) (weight m c)
      = stream gate (conv m c) (gates m c) (resid m c) (scale m c) (shift m c) (weight m c) := by
    funext b p e
    exact congrArg (_ + ·) (Finset.sum_congr rfl fun k _ => by rw [refGate_eq _ (layer_real m h c b p k)])
  funext i
  idx_vars i
  refine (out_at _ _ _ _ _ _ _ i0 i1).trans ?_
  simp only [result, hs]
  rfl

/-- The layer norm, output projection and final norm give the reference's result. -/
theorem equal : Cert.algebraic_Kernel3Ideal_Reference3Ideal_pre_finite_conv (hKernel3Ideal := Cert.Kernel3Ideal.Gen.facts)
    (hReference3Ideal := Cert.Reference3Ideal.Gen.facts) (hPre_finite_conv := pre_facts) := by
  intro m g m' g' hpre hagree
  refine ⟨fun c => array gate (conv m c) (gates m c) (resid m c) (scale m c) (shift m c) (weight m c) (last m c),
    (θ_run _ _ _).mono (fun _ h c => ⟨(h c).1.trans (out_array m c), (h c).2⟩) (Cert.Kernel3Ideal.Value.run_blocks m g),
    (θ_run _ _ _).mono (fun r h c => ?_) (Cert.Reference3Ideal.Value.run m' g')⟩
  obtain ⟨h0, hr⟩ := h c
  obtain ⟨e0, e1, e2, e3, e4, e5, e6⟩ := hagree c
  refine ⟨h0.trans ?_, hr⟩
  rw [Cert.Reference3Ideal.Read.val_main_v44_eq, e0, e1, e2, e3, e4, e5, e6]
  exact out_eq (hp := pre_facts) m hpre c

/-- The reference runs, keeps its arguments and leaves every counter at zero. -/
theorem reference_runs : Cert.quiescent_Reference3Ideal (hReference3Ideal := Cert.Reference3Ideal.Gen.facts) := by
  intro m g _
  exact (θ_run _ _ _).mono (fun r h => ⟨fun c => (h c).2, sem_eq_zero_of_no_sems (by decide) r.2⟩) (Cert.Reference3Ideal.Value.run m g)

end Cert.Final
-- ==== Proof.InRing.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

/-!
The input projection streams its weights: 48 column blocks are copied from HBM into three slots of a scratch buffer, two
blocks ahead of the one in use. This file names the slots, the blocks and the semaphore cells, says when each branch of the
body is taken, and turns what the launch hands over into the ring of slots and back.
-/

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

local notation "𝕄" => MT nD τ sig Unit (Elt F) ℕ (Pipeline.UD sig nD τ) ℕ

/-! ## When the branches are taken -/

/-- The first point starts the first two copies. -/
abbrev Opens (i : grid0.Coords) : Prop := k0_cond1 i = 1#1
/-- A point with a block still to come two steps ahead starts its copy. -/
abbrev Ahead (i : grid0.Coords) : Prop := k0_cond2 i = 1#1
/-- The first column block of a row tile normalizes the tile. -/
abbrev Norms (i : grid0.Coords) : Prop :=
  Scalar.cmpi .ne (Scalar.extui (Scalar.cmpi .eq (BitVec.ofNat 32 (i 1).val) 0#32)) (0#32 : BitVec 32) = 1#1
/-- The column blocks the second result keeps. -/
abbrev Keeps (i : grid0.Coords) : Prop := k0_cond4 i = 1#1

/-- Only the first point opens the ring. -/
theorem opens_iff : ∀ t : Fin grid0.N, Opens (grid0.coords t) ↔ t.val = 0 := by decide +kernel
/-- All but the last two points start a copy. -/
theorem ahead_iff : ∀ t : Fin grid0.N, Ahead (grid0.coords t) ↔ t.val < 46 := by decide +kernel
/-- Every sixth point normalizes a row tile. -/
theorem norms_iff : ∀ t : Fin grid0.N, Norms (grid0.coords t) ↔ t.val % 6 = 0 := by decide +kernel
/-- The second result keeps column blocks 1, 2 and 4. -/
theorem keeps_iff : ∀ t : Fin grid0.N, Keeps (grid0.coords t) ↔ (t.val % 6 = 1 ∨ t.val % 6 = 2 ∨ t.val % 6 = 4) := by
  decide +kernel

/-! ## Slots, blocks, cells -/

/-- The row tile normalized, kept between points. -/
abbrev kept : Memref sig .tc .vmem S1024x2048 .bf16 := Memref.whole cc0_scratch0
/-- The scratch buffer of the three slots. -/
abbrev slots : Memref sig .tc .vmem S3x2048x1024 .bf16 := Memref.whole cc0_scratch1
/-- The weights, in HBM. -/
abbrev weights : Memref sig .tc .hbm S2048x6144 .bf16 := Memref.whole main_v4

instance : NeZero grid0.N := ⟨by rw [N_0]; decide⟩

/-- A slot lies in the scratch buffer, -/
theorem slot_inb (s : Fin 3) : ∀ a, (![s.val, 0, 0] : Fin 3 → Nat) a + S1x2048x1024.size a ≤ S3x2048x1024.size a := by
  revert s; decide
/-- a column block in the weights, -/
theorem block_inb (b : Fin 48) : ∀ a, (![0, 1024 * (b.val % 6)] : Fin 2 → Nat) a + S2048x1024.size a ≤ S2048x6144.size a := by
  revert b; decide
/-- a cell among the semaphores. -/
theorem cell_inb (s : Fin 3) : ∀ a, (![s.val] : Fin 1 → Nat) a + S1.size a ≤ S3.size a := by revert s; decide

/-- Slot `s`. -/
def slot (s : Fin 3) : Memref sig .tc .vmem S2048x1024 .bf16 :=
  (slots.slice (Rect.unit (s := S3x2048x1024) ![s.val, 0, 0] S1x2048x1024.size (slot_inb s)) (fun _ => rfl)).squeeze
    S2048x1024 squeezes_S1x2048x1024_S2048x1024
/-- The column block step `b` multiplies by. -/
def block (b : Fin 48) : Memref sig .tc .hbm S2048x1024 .bf16 :=
  weights.slice (Rect.unit (s := S2048x6144) ![0, 1024 * (b.val % 6)] S2048x1024.size (block_inb b)) (fun _ => rfl)
/-- The semaphore cell of slot `s`. -/
def cell (s : Fin 3) : DmaSems sig S_ :=
  (cc0_scratch2.slice (Rect.unit (s := S3) ![s.val] S1.size (cell_inb s))).squeeze S_ squeezes_S1_S_
/-- The cell's semaphore. -/
abbrev cellSem (s : Fin 3) : SemLoc sig := SemLoc.dma (cell s).sem

section Families
variable (c : Dev nD)

/-- Contents of a memref's buffer on core `c`. -/
abbrev On {sp : Space} {S : Shape} {e : EltTy} (M : Memref sig .tc sp S e) : Type := Buf (Elt F) (M.view.loc (c : Thread nD τ))
/-- A memref's buffer held whole. -/
abbrev holds {sp : Space} {S : Shape} {e : EltTy} (M : Memref sig .tc sp S e) (f : On (F := F) c M) : sProp 𝕄 :=
  M.view.loc (c : Thread nD τ) ↦{fullShare} f

variable (W : On (F := F) c weights)
/-- The share of the weights lent to slot `s`: a half, and two quarters. -/
abbrev lent (s : Fin 3) : PosShare TreeShare :=
  if s.val = 0 then fullShare.left else if s.val = 1 then fullShare.right.left else fullShare.right.right
/-- Slot `s` holding `f`. -/
abbrev slotAt (s : Fin 3) (f : On (F := F) c (slot s)) : sProp 𝕄 :=
  (slot s).view.loc (c : Thread nD τ) ↦[(slot s).view.set]{fullShare} f
/-- The cell of slot `s` at zero. -/
abbrev cellAt (s : Fin 3) : sProp 𝕄 := semVal ((c : Thread nD τ), cellSem s) 0
/-- Block `b` of the share lent to slot `s`. -/
abbrev lentBlock (s : Fin 3) (b : Fin 48) : sProp 𝕄 :=
  (block b).view.loc (c : Thread nD τ) ↦[(block b).view.set]{lent s} W
/-- What is left of the share when block `b` is lent. -/
def lentRest (s : Fin 3) (b : Fin 48) : sProp 𝕄 := ((c : Thread nD τ).loc main_v4) ↦[Finset.univ \ (block b).view.set]{lent s} W
/-- The whole share. -/
abbrev lentAll (s : Fin 3) : sProp 𝕄 := ((c : Thread nD τ).loc main_v4) ↦[Finset.univ]{lent s} W
/-- Slot `s` once block `b` has arrived over `f`. -/
abbrev arrived (s : Fin 3) (b : Fin 48) (f : On (F := F) c (slot s)) : On (F := F) c (slot s) :=
  (slot s).view.writes (Elt F) f [⟨Rect.whole S2048x1024, ReadAs.same.apply ((block b).view.read (Elt F) W)⟩]
/-- The copy of block `b` into slot `s` under way: its end hands back the slot and the lent block. -/
abbrev copying (s : Fin 3) (b : Fin 48) (f : On (F := F) c (slot s)) : sProp 𝕄 :=
  Transfers.Flight countersEmb (c : Thread nD τ) (cellSem s) default ((slot s).view.amount (cellSem s))
    iprop(slotAt c s (arrived c W s b f) ∗ lentBlock c W s b)
/-- A slot at rest has its share of the weights with it. -/
abbrev atRest (s : Fin 3) (f : On (F := F) c (slot s)) : sProp 𝕄 := iprop(slotAt c s f ∗ lentAll c W s)
/-- A slot being filled: the copy, and what is left of the share. -/
abbrev filling (s : Fin 3) (b : Fin 48) (f : On (F := F) c (slot s)) : sProp 𝕄 := iprop(copying c W s b f ∗ lentRest c W s b)
/-- A block on its way needs nothing else. -/
abbrev nothing (_ : Fin 48) : sProp 𝕄 := iprop(emp)
/-- The ring before point `k`: at the start every slot at rest, later two blocks on their way. -/
def ring (k : ℕ) : sProp 𝕄 :=
  if k = 0 then Ring.At₀ (cellAt c) (atRest c W) nothing
  else Ring.At 2 (cellAt c) (atRest c W) nothing (filling c W) k

/-- A slot's share splits into any one block and the rest. -/
theorem lend (s : Fin 3) (b : Fin 48) : lentAll (F := F) c W s ⊣⊢ iprop(lentBlock c W s b ∗ lentRest c W s b) := by
  unfold lentRest; exact pointsTo_split_subset (Finset.subset_univ _)
/-- The weights whole are the three shares. -/
theorem shares : (holds c weights W : sProp 𝕄) ⊣⊢ iprop(lentAll c W 0 ∗ lentAll c W 1 ∗ lentAll c W 2) := by
  refine ⟨?_, ?_⟩
  · iintro H
    ihave H' := (pointsTo_share (PosShare.mem_left_op_right fullShare)).1 $$ H
    icases H' with ⟨Ha, Hb⟩
    ihave H'' := (pointsTo_share (PosShare.mem_left_op_right fullShare.right)).1 $$ Hb
    icases H'' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc
end Families

/-! ## The launch's pieces and the ring -/

/-- The kernel's own semaphores. -/
abbrev semCells : Fin 3 → SemLoc sig := fun j => (![SemLoc.dma 7, SemLoc.dma 8, SemLoc.dma 9] : Fin 3 → SemLoc sig) j
/-- They are none of the pipeline's. -/
theorem semCells_own : Pipeline.OwnSemFacts spec0 semCells := by decide
/-- The one array the kernel copies from itself. -/
def hbmRefs : Finset (Ref sig .tc) := {main_v4}
/-- No window is on it. -/
theorem hbmRefs_sub : hbmRefs ⊆ Pipeline.restRefs sig spec0 := by decide

/-- The elements of slot `s` in the scratch buffer. -/
abbrev part (s : Fin 3) : Finset S3x2048x1024.Idx :=
  (Rect.unit (s := S3x2048x1024) ![s.val, 0, 0] S1x2048x1024.size (slot_inb s)).set
/-- A slot's elements are its part of the buffer. -/
theorem slot_set (s : Fin 3) : (slot s).view.set = part s := by
  simp only [slot, Memref.view_squeeze, View.set_reshape]; exact View.set_slice_whole _ _
/-- The parts do not meet. -/
theorem part_disjoint (s s' : Fin 3) (h : s ≠ s') : Disjoint (part s) (part s') :=
  Ring.lead_disjoint (s := S3x2048x1024) (0 : Fin 3) 1 (fun s : Fin 3 => (![s.val, 0, 0] : Fin 3 → Nat))
    S1x2048x1024.size slot_inb (fun s => by simp) rfl s s' h
/-- Together they are the buffer. -/
theorem part_cover : Finset.univ.biUnion part = Finset.univ :=
  Ring.lead_cover (s := S3x2048x1024) (0 : Fin 3) 1 (fun s : Fin 3 => (![s.val, 0, 0] : Fin 3 → Nat))
    S1x2048x1024.size slot_inb (fun s => by simp)
    (fun s a ha => by fin_cases a <;> first | exact absurd rfl ha | rfl) rfl
    (fun a ha => by fin_cases a <;> first | exact absurd rfl ha | rfl) rfl

section Hand
variable (c : Dev nD)
theorem slotAt_eq (s : Fin 3) (f) :
    slotAt (F := F) c s f = (((c : Thread nD τ).loc cc0_scratch1) ↦[part s]{fullShare} f : sProp 𝕄) := by
  unfold slotAt; rw [slot_set]; rfl
set_option maxHeartbeats 1000000 in
/-- The scratch buffer is its three slots, -/
theorem slots_apart : iprop(∃ d, owns (c : Thread nD τ) slots fullShare d)
    ⊢ (iprop((∃ f, slotAt (F := F) c 0 f) ∗ (∃ f, slotAt (F := F) c 1 f) ∗ ∃ f, slotAt (F := F) c 2 f) : sProp 𝕄) := by
  simp only [slots, owns_whole]
  exact Ring.slots3_split (U := Pipeline.UD sig nD τ) (ℓ := (c : Thread nD τ).loc cc0_scratch1) (q := fullShare)
    part part_disjoint part_cover (slotAt c 0) (slotAt c 1) (slotAt c 2) (slotAt_eq c 0) (slotAt_eq c 1) (slotAt_eq c 2)
set_option maxHeartbeats 1000000 in
/-- and back. -/
theorem slots_together : (iprop((∃ f, slotAt (F := F) c 0 f) ∗ (∃ f, slotAt (F := F) c 1 f) ∗ ∃ f, slotAt (F := F) c 2 f) : sProp 𝕄)
    ⊢ iprop(∃ d, owns (c : Thread nD τ) slots fullShare d) := by
  simp only [slots, owns_whole]
  exact Ring.slots3_join (U := Pipeline.UD sig nD τ) (ℓ := (c : Thread nD τ).loc cc0_scratch1) (q := fullShare)
    part part_disjoint part_cover (slotAt c 0) (slotAt c 1) (slotAt c 2) (slotAt_eq c 0) (slotAt_eq c 1) (slotAt_eq c 2)

/-- The three cells at zero, as the launch lists them. -/
abbrev cellsZero : sProp 𝕄 := iprop(semVal ((c : Thread nD τ), SemLoc.dma 7) 0
  ∗ semVal ((c : Thread nD τ), SemLoc.dma 8) 0 ∗ semVal ((c : Thread nD τ), SemLoc.dma 9) 0)
omit [FloatOps F] in
theorem cells_eq : (iprop(cellAt (F := F) c 0 ∗ cellAt c 1 ∗ cellAt c 2) : sProp 𝕄) = cellsZero c := by
  unfold cellAt
  rw [show cellSem 0 = SemLoc.dma 7 by decide, show cellSem 1 = SemLoc.dma 8 by decide, show cellSem 2 = SemLoc.dma 9 by decide]

/-- The scratch buffer, the cells at zero and the weights are the ring before the first point, -/
theorem ring_start (W : On (F := F) c weights) :
    iprop((∃ d, owns (c : Thread nD τ) slots fullShare d) ∗ cellsZero c ∗ holds c weights W) ⊢ ring c W 0 := by
  unfold ring; rw [if_pos rfl]; unfold Ring.At₀
  rw [Ring.bigSep_fin3, ← cells_eq]
  simp only [Ring.free]
  iintro ⟨HS, ⟨Ca, Cb, Cc⟩, HW⟩
  iapply Ring.with_homes₀
  ihave HS := (slots_apart (F := F) c) $$ HS
  icases HS with ⟨⟨%da, Sa⟩, ⟨%db, Sb⟩, ⟨%dc, Sc⟩⟩
  ihave HW := (shares (F := F) c W).1 $$ HW
  icases HW with ⟨Wa, Wb, Wc⟩
  isplitl [Ca Sa Wa]
  · isplitl [Ca]; · iexact Ca
    iexists da; isplitl [Sa]; · iexact Sa
    iexact Wa
  isplitl [Cb Sb Wb]
  · isplitl [Cb]; · iexact Cb
    iexists db; isplitl [Sb]; · iexact Sb
    iexact Wb
  isplitl [Cc]; · iexact Cc
  iexists dc; isplitl [Sc]; · iexact Sc
  iexact Wc
/-- and after the last point the ring gives them back. -/
theorem ring_end (W : On (F := F) c weights) :
    ring c W 48 ⊢ iprop((∃ d, owns (c : Thread nD τ) slots fullShare d) ∗ cellsZero c ∗ holds c weights W) := by
  unfold ring; rw [if_neg (by decide)]
  iintro H
  ihave H := (Ring.free3_of_At_last _ _ _ _) $$ H
  rw [← cells_eq]
  simp only [Ring.free]
  icases H with ⟨-, ⟨Ca, ⟨%fa, Sa, Wa⟩⟩, ⟨Cb, ⟨%fb, Sb, Wb⟩⟩, ⟨Cc, ⟨%fc, Sc, Wc⟩⟩⟩
  isplitl [Sa Sb Sc]
  · iapply (slots_together (F := F) c)
    isplitl [Sa]; · iexists fa; iexact Sa
    isplitl [Sb]; · iexists fb; iexact Sb
    iexists fc; iexact Sc
  isplitl [Ca Cb Cc]
  · isplitl [Ca]; · iexact Ca
    isplitl [Cb]; · iexact Cb
    iexact Cc
  iapply (shares (F := F) c W).2
  isplitl [Wa]; · iexact Wa
  isplitl [Wb]; · iexact Wb
  iexact Wc
end Hand

/-! ## The body's spellings -/

section Spell
omit [FloatOps F]
/-- A slot spelt at other but equal offsets. -/
theorem slot_spelt {o : Fin 3 → Nat} {s : Fin 3} (h : o = ![s.val, 0, 0]) (hb) :
    (slots.slice (Rect.unit (s := S3x2048x1024) o S1x2048x1024.size hb) (fun _ => rfl)).squeeze S2048x1024
      squeezes_S1x2048x1024_S2048x1024 = slot s := by subst h; rfl
/-- The same of a block, -/
theorem block_spelt {o : Fin 2 → Nat} {b : Fin 48} (h : o = ![0, 1024 * (b.val % 6)]) (hb) :
    weights.slice (Rect.unit (s := S2048x6144) o S2048x1024.size hb) (fun _ => rfl) = block b := by subst h; rfl
/-- and of a cell. -/
theorem cell_spelt {o : Fin 1 → Nat} {s : Fin 3} (h : o = ![s.val]) (hb) :
    (cc0_scratch2.slice (Rect.unit (s := S3) o S1.size hb)).squeeze S_ squeezes_S1_S_ = cell s := by subst h; rfl

/-- Where the first point's first copy goes and comes from, -/
theorem off_first : ∀ t : Fin grid0.N, Opens (grid0.coords t) →
    k0_off2 0#32 = ![(Ring.sl 3 t.val).val, 0, 0] ∧ k0_off1 0#32 = ![(Ring.sl 3 t.val).val]
    ∧ k0_off3 0#32 = ![0, 1024 * ((Ring.bk 48 t.val).val % 6)] := by decide +kernel
/-- its second copy, -/
theorem off_second : ∀ t : Fin grid0.N, Opens (grid0.coords t) →
    k0_off2 1#32 = ![(Ring.sl 3 (t.val + 1)).val, 0, 0] ∧ k0_off1 1#32 = ![(Ring.sl 3 (t.val + 1)).val]
    ∧ k0_off3 1#32 = ![0, 1024 * ((Ring.bk 48 (t.val + 1)).val % 6)] := by decide +kernel
/-- the copy two steps ahead, -/
theorem off_ahead : ∀ t : Fin grid0.N, Ahead (grid0.coords t) →
    k0_off5 (grid0.coords t) = ![(Ring.sl 3 (t.val + 2)).val, 0, 0] ∧ k0_off4 (grid0.coords t) = ![(Ring.sl 3 (t.val + 2)).val]
    ∧ k0_off6 (grid0.coords t) = ![0, 1024 * ((Ring.bk 48 (t.val + 2)).val % 6)] := by decide +kernel
/-- and the copy a point waits for. -/
theorem off_here : ∀ t : Fin grid0.N,
    k0_off8 (grid0.coords t) = ![(Ring.sl 3 t.val).val, 0, 0] ∧ k0_off7 (grid0.coords t) = ![(Ring.sl 3 t.val).val]
    ∧ k0_off9 (grid0.coords t) = ![0, 1024 * ((Ring.bk 48 t.val).val % 6)]
    ∧ k0_off10 (grid0.coords t) = ![(Ring.sl 3 t.val).val, 0, 0] := by decide +kernel

/-- The first copy's slot, cell and block. -/
@[sl_canon] theorem first_slot (t : Fin grid0.N) (h : Opens (grid0.coords t)) :
    (slots.slice (Rect.unit (s := S3x2048x1024) (k0_off2 0#32) S1x2048x1024.size (k0_off2_inb (grid0.coords t) h 0)) (fun _ => rfl)).squeeze S2048x1024 squeezes_S1x2048x1024_S2048x1024
      = slot (Ring.sl 3 t.val) := slot_spelt (off_first t h).1 _
@[sl_canon] theorem first_cell (t : Fin grid0.N) (h : Opens (grid0.coords t)) :
    (cc0_scratch2.slice (Rect.unit (s := S3) (k0_off1 0#32) S1.size (k0_off1_inb (grid0.coords t) h 0))).squeeze S_ squeezes_S1_S_
      = cell (Ring.sl 3 t.val) := cell_spelt (off_first t h).2.1 _
@[sl_canon] theorem first_block (t : Fin grid0.N) (h : Opens (grid0.coords t)) :
    weights.slice (Rect.unit (s := S2048x6144) (k0_off3 0#32) S2048x1024.size (k0_off3_inb (grid0.coords t) h 0)) (fun _ => rfl)
      = block (Ring.bk 48 t.val) := block_spelt (off_first t h).2.2 _
/-- The second copy's. -/
@[sl_canon] theorem second_slot (t : Fin grid0.N) (h : Opens (grid0.coords t)) :
    (slots.slice (Rect.unit (s := S3x2048x1024) (k0_off2 1#32) S1x2048x1024.size (k0_off2_inb (grid0.coords t) h 1)) (fun _ => rfl)).squeeze S2048x1024 squeezes_S1x2048x1024_S2048x1024
      = slot (Ring.sl 3 (t.val + 1)) := slot_spelt (off_second t h).1 _
@[sl_canon] theorem second_cell (t : Fin grid0.N) (h : Opens (grid0.coords t)) :
    (cc0_scratch2.slice (Rect.unit (s := S3) (k0_off1 1#32) S1.size (k0_off1_inb (grid0.coords t) h 1))).squeeze S_ squeezes_S1_S_
      = cell (Ring.sl 3 (t.val + 1)) := cell_spelt (off_second t h).2.1 _
@[sl_canon] theorem second_block (t : Fin grid0.N) (h : Opens (grid0.coords t)) :
    weights.slice (Rect.unit (s := S2048x6144) (k0_off3 1#32) S2048x1024.size (k0_off3_inb (grid0.coords t) h 1)) (fun _ => rfl)
      = block (Ring.bk 48 (t.val + 1)) := block_spelt (off_second t h).2.2 _
/-- Those of the copy two steps ahead. -/
@[sl_canon] theorem ahead_slot (t : Fin grid0.N) (h : Ahead (grid0.coords t)) :
    (slots.slice (Rect.unit (s := S3x2048x1024) (k0_off5 (grid0.coords t)) S1x2048x1024.size (k0_off5_inb (grid0.coords t) h)) (fun _ => rfl)).squeeze S2048x1024 squeezes_S1x2048x1024_S2048x1024
      = slot (Ring.sl 3 (t.val + 2)) := slot_spelt (off_ahead t h).1 _
@[sl_canon] theorem ahead_cell (t : Fin grid0.N) (h : Ahead (grid0.coords t)) :
    (cc0_scratch2.slice (Rect.unit (s := S3) (k0_off4 (grid0.coords t)) S1.size (k0_off4_inb (grid0.coords t) h))).squeeze S_ squeezes_S1_S_
      = cell (Ring.sl 3 (t.val + 2)) := cell_spelt (off_ahead t h).2.1 _
@[sl_canon] theorem ahead_block (t : Fin grid0.N) (h : Ahead (grid0.coords t)) :
    weights.slice (Rect.unit (s := S2048x6144) (k0_off6 (grid0.coords t)) S2048x1024.size (k0_off6_inb (grid0.coords t) h)) (fun _ => rfl)
      = block (Ring.bk 48 (t.val + 2)) := block_spelt (off_ahead t h).2.2 _
/-- Those a point waits for and reads. -/
@[sl_canon] theorem here_slot (t : Fin grid0.N) :
    (slots.slice (Rect.unit (s := S3x2048x1024) (k0_off8 (grid0.coords t)) S1x2048x1024.size (k0_off8_inb (grid0.coords t))) (fun _ => rfl)).squeeze S2048x1024 squeezes_S1x2048x1024_S2048x1024
      = slot (Ring.sl 3 t.val) := slot_spelt (off_here t).1 _
@[sl_canon] theorem here_cell (t : Fin grid0.N) :
    (cc0_scratch2.slice (Rect.unit (s := S3) (k0_off7 (grid0.coords t)) S1.size (k0_off7_inb (grid0.coords t)))).squeeze S_ squeezes_S1_S_
      = cell (Ring.sl 3 t.val) := cell_spelt (off_here t).2.1 _
@[sl_canon] theorem here_block (t : Fin grid0.N) :
    weights.slice (Rect.unit (s := S2048x6144) (k0_off9 (grid0.coords t)) S2048x1024.size (k0_off9_inb (grid0.coords t))) (fun _ => rfl)
      = block (Ring.bk 48 t.val) := block_spelt (off_here t).2.2.1 _
/-- The load of the block in use reads its slot. -/
instance (priority := high) here_load (t : Fin grid0.N) : ClosedOff (k0_off10 (grid0.coords t)) :=
  ⟨![(Ring.sl 3 t.val).val, 0, 0], (off_here t).2.2.2⟩
end Spell

/-! ## What the body loads and stores -/

/-- Block `b` of the weights as the body loads it. -/
def fetched {c : Dev nD} (W : On (F := F) c weights) (b : Fin 48) : Vec F S1x2048x1024 .bf16 :=
  shapeCast S1x2048x1024 ((block b).view.read (Elt F) W) (by decide)

omit [FloatOps F] in
/-- Loading the slot in use yields the block that arrived in it, whatever was there before. -/
theorem load_arrived {c : Dev nD} (W : On (F := F) c weights) (t : Fin grid0.N) (f) (inb) :
    View.readAt (Elt F) slots.view (Rect.unit (s := S3x2048x1024) (k0_off10 (grid0.coords t)) S1x2048x1024.size inb).toLoadRect
      (arrived c W (Ring.sl 3 t.val) (Ring.bk 48 t.val) f) = fetched W (Ring.bk 48 t.val) := by
  unfold fetched arrived
  have hr : ∀ (s : Fin 3) (o : Fin 3 → Nat) (inb), o = ![s.val, 0, 0] → ∀ g,
      View.readAt (Elt F) slots.view (Rect.unit (s := S3x2048x1024) o S1x2048x1024.size inb).toLoadRect g
        = shapeCast S1x2048x1024 ((slot s).view.read (Elt F) g) (by decide) := by
    intro s o inb h g
    subst h
    funext j
    show _ = slots.view.read (Elt F) g _
    rw [View.readAt_apply]
    refine congrArg (slots.view.read (Elt F) g) ?_
    show _ = (Rect.unit (s := S3x2048x1024) ![s.val, 0, 0] S1x2048x1024.size inb).emb
      (Shape.reshapeEquiv _ (Shape.reshapeEquiv _ j))
    rw [Shape.reshapeEquiv_reshapeEquiv, Shape.reshapeEquiv_self]
    rfl
  refine (hr _ _ inb (off_here t).2.2.2 _).trans ?_
  exact congrArg (fun v => shapeCast S1x2048x1024 v (by decide)) (View.read_writes_whole (slot (Ring.sl 3 t.val)).view f _)

end Cert.InProj

end
-- ==== Proof.InRuns.lean ====
module

public import proofs.«01_k».proof.Proof.InRing

@[expose] public section

set_option maxRecDepth 16384

noncomputable section

/-!
The body run once in each of its roles: at the first point, at the first column block of a later row tile, at a column block
in the middle, and at the last two points, where no copy is left to start.
-/

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

local notation "𝕄" => MT nD τ sig Unit (Elt F) ℕ (Pipeline.UD sig nD τ) ℕ

variable (c : Dev nD) (t : Fin grid0.N)
  (arg2 : Memref sig .tc .vmem S1024x2048 .f32) (harg2 : arg2.IsWhole) (arg3 : Memref sig .tc .vmem S1x2048 .f32) (harg3 : arg3.IsWhole)
  (arg5 : Memref sig .tc .vmem S1024x1024 .bf16) (harg5 : arg5.IsWhole) (arg6 : Memref sig .tc .vmem S1024x1024 .f32) (harg6 : arg6.IsWhole)
  (x : Vec F S1024x2048 .f32) (g : Vec F S1x2048 .f32) (xn : Vec F S1024x2048 .bf16) (d : Vec F S1024x1024 .f32)
  (wt : On (F := F) c weights)

/-- What a point works on, the normalized tile apart: its two inputs, the first result's buffer at anything and the second
    result's at `d`. -/
abbrev before : sProp 𝕄 :=
  iprop(owns (c : Thread nD τ) arg2 fullShare x ∗ owns (c : Thread nD τ) arg3 fullShare g
    ∗ (∃ d, owns (c : Thread nD τ) arg5 fullShare d) ∗ owns (c : Thread nD τ) arg6 fullShare d)
/-- What it leaves: the inputs as they were, the product narrowed in the first result's buffer, the product in the second's
    where it is kept, and the normalized tile. -/
abbrev after : sProp 𝕄 :=
  iprop(owns (c : Thread nD τ) arg2 fullShare x ∗ owns (c : Thread nD τ) arg3 fullShare g
    ∗ owns (c : Thread nD τ) arg5 fullShare (k0_pay3 xn (fetched wt (Ring.bk 48 t.val)))
    ∗ owns (c : Thread nD τ) arg6 fullShare (if Keeps (grid0.coords t) then k0_pay2 xn (fetched wt (Ring.bk 48 t.val)) else d)
    ∗ owns (c : Thread nD τ) kept fullShare xn ∗ (∃ W', owes (c : Thread nD τ) 0 W'))
/-- The body at point `t`. -/
abbrev body : Prog (TpuEff nD τ sig (Elt F) Λ₀ .tc) PUnit :=
  cc0_norm_in_proj (grid0.coords t) arg2 harg2 arg3 harg3 weights (Memref.isWhole_whole _) arg5 harg5 arg6 harg6
    kept (Memref.isWhole_whole _) slots (Memref.isWhole_whole _) cc0_scratch2

set_option maxHeartbeats 1000000 in
/-- A column block in the middle: the copy two steps ahead is started, the block in use awaited and multiplied. -/
theorem run_mid (hO : ¬Opens (grid0.coords t)) (hA : Ahead (grid0.coords t)) (hN : ¬Norms (grid0.coords t))
    (W : Waits sig Unit) (K : PUnit → sProp 𝕄) :
    iprop(before c arg2 arg3 arg5 arg6 x g d ∗ owns (c : Thread nD τ) kept fullShare xn
      ∗ Ring.inflight (filling c wt) (Ring.sl 3 t.val) (Ring.bk 48 t.val)
      ∗ Ring.free (cellAt c) (atRest c wt) (Ring.sl 3 (t.val + 2)) ∗ owes (c : Thread nD τ) 0 W
      ∗ (iprop(after c t arg2 arg3 arg5 arg6 x g xn d wt ∗ Ring.inflight (filling c wt) (Ring.sl 3 (t.val + 2)) (Ring.bk 48 (t.val + 2))
          ∗ Ring.free (cellAt c) (atRest c wt) (Ring.sl 3 t.val)) -∗ K ⟨⟩))
    ⊢ wp frame (wpE (defs₀ (F := F)) Variants.none c none) Set.univ (body t arg2 harg2 arg3 harg3 arg5 harg5 arg6 harg6) K := by
  haveI : Fact (¬Opens (grid0.coords t)) := ⟨hO⟩
  haveI : Fact (Ahead (grid0.coords t)) := ⟨hA⟩
  haveI : Fact (¬Norms (grid0.coords t)) := ⟨hN⟩
  unfold before after body
  simp only [cc0_norm_in_proj_eq_skeleton]; unfold cc0_norm_in_proj_skel
  simp only [k0_part1_eq_skeleton]
  unfold Ring.free Ring.inflight
  by_cases hK : Keeps (grid0.coords t)
  all_goals
    first | rw [if_pos hK] | rw [if_neg hK]
    iintro ⟨⟨X, G, ⟨%d5, A⟩, B⟩, N, ⟨%fa, Fl, Fr⟩, ⟨Cc, ⟨%fc, Sc, Wc⟩⟩, HW, Hk⟩
    unfold owns
    icases X with ⟨%fx, %hx, X⟩
    icases G with ⟨%fg, %hg, G⟩
    icases A with ⟨%f5, -, A⟩
    icases B with ⟨%f6, %h6, B⟩
    icases N with ⟨%fn, %hn, N⟩
    ihave Wc := (lend c wt (Ring.sl 3 (t.val + 2)) (Ring.bk 48 (t.val + 2))).1 $$ Wc
    icases Wc with ⟨Bc, Rc⟩
    sl_exec (disch := first | sl_exact hO | sl_exact hA | sl_exact hN | sl_exact hK)
    sl_step
    iapply Hk
    isplitl [X G A B N HW]
    · isplitl [X]
      · iexists _; isplitr; · ipureintro; exact hx
        iexact X
      isplitl [G]
      · iexists _; isplitr; · ipureintro; exact hg
        iexact G
      isplitl [A]
      · iexists _; isplitr; swap; · iexact A
        ipureintro
        exact (View.read_writes_full _ _ _ _ _).trans (congrArg₂ k0_pay3 ((View.readAt_full _ _ _).trans hn) (load_arrived wt t _ _))
      isplitl [B]
      · iexists _; isplitr; swap; · iexact B
        ipureintro
        first
          | exact h6
          | exact (View.read_writes_full _ _ _ _ _).trans (congrArg₂ k0_pay2 ((View.readAt_full _ _ _).trans hn) (load_arrived wt t _ _))
      isplitl [N]
      · iexists _; isplitr; swap; · iexact N
        ipureintro
        exact hn
      iexists _; iexact HW
    isplitl [Cc Rc]
    · iexists _; isplitl [Cc]; · iexact Cc
      iexact Rc
    isplitl [Fl]; · iexact Fl
    iexists _; isplitl [Fl_dst]; · iexact Fl_dst
    iapply (lend c wt (Ring.sl 3 t.val) (Ring.bk 48 t.val)).2
    isplitl [Fl_src]; · iexact Fl_src
    iexact Fr

set_option maxHeartbeats 1000000 in
/-- The first column block of a later row tile: the tile is normalized first. -/
theorem run_row (hO : ¬Opens (grid0.coords t)) (hA : Ahead (grid0.coords t)) (hN : Norms (grid0.coords t)) (hK : ¬Keeps (grid0.coords t))
    (W : Waits sig Unit) (K : PUnit → sProp 𝕄) :
    iprop(before c arg2 arg3 arg5 arg6 x g d ∗ (∃ d, owns (c : Thread nD τ) kept fullShare d)
      ∗ Ring.inflight (filling c wt) (Ring.sl 3 t.val) (Ring.bk 48 t.val)
      ∗ Ring.free (cellAt c) (atRest c wt) (Ring.sl 3 (t.val + 2)) ∗ owes (c : Thread nD τ) 0 W
      ∗ (iprop(after c t arg2 arg3 arg5 arg6 x g (k0_pay1 x g) d wt ∗ Ring.inflight (filling c wt) (Ring.sl 3 (t.val + 2)) (Ring.bk 48 (t.val + 2))
          ∗ Ring.free (cellAt c) (atRest c wt) (Ring.sl 3 t.val)) -∗ K ⟨⟩))
    ⊢ wp frame (wpE (defs₀ (F := F)) Variants.none c none) Set.univ (body t arg2 harg2 arg3 harg3 arg5 harg5 arg6 harg6) K := by
  haveI : Fact (¬Opens (grid0.coords t)) := ⟨hO⟩
  haveI : Fact (Ahead (grid0.coords t)) := ⟨hA⟩
  haveI : Fact (Norms (grid0.coords t)) := ⟨hN⟩
  unfold before after body
  simp only [cc0_norm_in_proj_eq_skeleton]; unfold cc0_norm_in_proj_skel
  simp only [k0_part1_eq_skeleton]
  unfold Ring.free Ring.inflight
  rw [if_neg hK]
  iintro ⟨⟨X, G, ⟨%d5, A⟩, B⟩, ⟨%xo, N⟩, ⟨%fa, Fl, Fr⟩, ⟨Cc, ⟨%fc, Sc, Wc⟩⟩, HW, Hk⟩
  unfold owns
  icases X with ⟨%fx, %hx, X⟩
  icases G with ⟨%fg, %hg, G⟩
  icases A with ⟨%f5, -, A⟩
  icases B with ⟨%f6, %h6, B⟩
  icases N with ⟨%fn, -, N⟩
  ihave Wc := (lend c wt (Ring.sl 3 (t.val + 2)) (Ring.bk 48 (t.val + 2))).1 $$ Wc
  icases Wc with ⟨Bc, Rc⟩
  sl_exec (disch := first | sl_exact hO | sl_exact hA | sl_exact hN | sl_exact hK)
  sl_step
  iapply Hk
  have normed := congrArg₂ (k0_pay1 (F := F)) ((View.readAt_full _ fx inb_S1024x2048_S1024x2048_0_0).trans hx)
    ((View.readAt_full _ fg inb_S1x2048_S1x2048_0_0).trans hg)
  isplitl [X G A B N HW]
  · isplitl [X]
    · iexists _; isplitr; · ipureintro; exact hx
      iexact X
    isplitl [G]
    · iexists _; isplitr; · ipureintro; exact hg
      iexact G
    isplitl [A]
    · iexists _; isplitr; swap; · iexact A
      ipureintro
      exact (View.read_writes_full _ _ _ _ _).trans (congrArg₂ k0_pay3 ((View.readCov_full kept.view _ _ _ _).trans normed) (load_arrived wt t _ _))
    isplitl [B]
    · iexists _; isplitr; · ipureintro; exact h6
      iexact B
    isplitl [N]
    · iexists _; isplitr; swap; · iexact N
      ipureintro
      exact (View.read_writes_full _ _ _ _ _).trans normed
    iexists _; iexact HW
  isplitl [Cc Rc]
  · iexists _; isplitl [Cc]; · iexact Cc
    iexact Rc
  isplitl [Fl]; · iexact Fl
  iexists _; isplitl [Fl_dst]; · iexact Fl_dst
  iapply (lend c wt (Ring.sl 3 t.val) (Ring.bk 48 t.val)).2
  isplitl [Fl_src]; · iexact Fl_src
  iexact Fr

set_option maxHeartbeats 1000000 in
/-- The last two points: no copy is left to start. -/
theorem run_tail (hO : ¬Opens (grid0.coords t)) (hA : ¬Ahead (grid0.coords t)) (hN : ¬Norms (grid0.coords t))
    (W : Waits sig Unit) (K : PUnit → sProp 𝕄) :
    iprop(before c arg2 arg3 arg5 arg6 x g d ∗ owns (c : Thread nD τ) kept fullShare xn
      ∗ Ring.inflight (filling c wt) (Ring.sl 3 t.val) (Ring.bk 48 t.val) ∗ owes (c : Thread nD τ) 0 W
      ∗ (iprop(after c t arg2 arg3 arg5 arg6 x g xn d wt ∗ Ring.free (cellAt c) (atRest c wt) (Ring.sl 3 t.val)) -∗ K ⟨⟩))
    ⊢ wp frame (wpE (defs₀ (F := F)) Variants.none c none) Set.univ (body t arg2 harg2 arg3 harg3 arg5 harg5 arg6 harg6) K := by
  haveI : Fact (¬Opens (grid0.coords t)) := ⟨hO⟩
  haveI : Fact (¬Ahead (grid0.coords t)) := ⟨hA⟩
  haveI : Fact (¬Norms (grid0.coords t)) := ⟨hN⟩
  unfold before after body
  simp only [cc0_norm_in_proj_eq_skeleton]; unfold cc0_norm_in_proj_skel
  simp only [k0_part1_eq_skeleton]
  unfold Ring.free Ring.inflight
  by_cases hK : Keeps (grid0.coords t)
  all_goals
    first | rw [if_pos hK] | rw [if_neg hK]
    iintro ⟨⟨X, G, ⟨%d5, A⟩, B⟩, N, ⟨%fa, Fl, Fr⟩, HW, Hk⟩
    unfold owns
    icases X with ⟨%fx, %hx, X⟩
    icases G with ⟨%fg, %hg, G⟩
    icases A with ⟨%f5, -, A⟩
    icases B with ⟨%f6, %h6, B⟩
    icases N with ⟨%fn, %hn, N⟩
    sl_exec (disch := first | sl_exact hO | sl_exact hA | sl_exact hN | sl_exact hK)
    sl_step
    iapply Hk
    isplitl [X G A B N HW]
    · isplitl [X]
      · iexists _; isplitr; · ipureintro; exact hx
        iexact X
      isplitl [G]
      · iexists _; isplitr; · ipureintro; exact hg
        iexact G
      isplitl [A]
      · iexists _; isplitr; swap; · iexact A
        ipureintro
        exact (View.read_writes_full _ _ _ _ _).trans (congrArg₂ k0_pay3 ((View.readAt_full _ _ _).trans hn) (load_arrived wt t _ _))
      isplitl [B]
      · iexists _; isplitr; swap; · iexact B
        ipureintro
        first
          | exact h6
          | exact (View.read_writes_full _ _ _ _ _).trans (congrArg₂ k0_pay2 ((View.readAt_full _ _ _).trans hn) (load_arrived wt t _ _))
      isplitl [N]
      · iexists _; isplitr; swap; · iexact N
        ipureintro
        exact hn
      iexists _; iexact HW
    isplitl [Fl]; · iexact Fl
    iexists _; isplitl [Fl_dst]; · iexact Fl_dst
    iapply (lend c wt (Ring.sl 3 t.val) (Ring.bk 48 t.val)).2
    isplitl [Fl_src]; · iexact Fl_src
    iexact Fr

set_option maxHeartbeats 1000000 in
/-- The first point: the first three copies are started and the first row tile is normalized. -/
theorem run_first (hO : Opens (grid0.coords t)) (hA : Ahead (grid0.coords t)) (hN : Norms (grid0.coords t)) (hK : ¬Keeps (grid0.coords t))
    (W : Waits sig Unit) (K : PUnit → sProp 𝕄) :
    iprop(before c arg2 arg3 arg5 arg6 x g d ∗ (∃ d, owns (c : Thread nD τ) kept fullShare d)
      ∗ Ring.free (cellAt c) (atRest c wt) (Ring.sl 3 t.val)
      ∗ Ring.free (cellAt c) (atRest c wt) (Ring.sl 3 (t.val + 1))
      ∗ Ring.free (cellAt c) (atRest c wt) (Ring.sl 3 (t.val + 2)) ∗ owes (c : Thread nD τ) 0 W
      ∗ (iprop(after c t arg2 arg3 arg5 arg6 x g (k0_pay1 x g) d wt ∗ Ring.inflight (filling c wt) (Ring.sl 3 (t.val + 1)) (Ring.bk 48 (t.val + 1))
          ∗ Ring.inflight (filling c wt) (Ring.sl 3 (t.val + 2)) (Ring.bk 48 (t.val + 2))
          ∗ Ring.free (cellAt c) (atRest c wt) (Ring.sl 3 t.val)) -∗ K ⟨⟩))
    ⊢ wp frame (wpE (defs₀ (F := F)) Variants.none c none) Set.univ (body t arg2 harg2 arg3 harg3 arg5 harg5 arg6 harg6) K := by
  haveI : Fact (Opens (grid0.coords t)) := ⟨hO⟩
  haveI : Fact (Ahead (grid0.coords t)) := ⟨hA⟩
  haveI : Fact (Norms (grid0.coords t)) := ⟨hN⟩
  unfold before after body
  simp only [cc0_norm_in_proj_eq_skeleton]; unfold cc0_norm_in_proj_skel
  simp only [k0_part1_eq_skeleton]
  unfold Ring.free Ring.inflight
  rw [if_neg hK]
  iintro ⟨⟨X, G, ⟨%d5, A⟩, B⟩, ⟨%xo, N⟩, ⟨Ca, ⟨%fa, Sa, Wa⟩⟩, ⟨Cb, ⟨%fb, Sb, Wb⟩⟩, ⟨Cc, ⟨%fc, Sc, Wc⟩⟩, HW, Hk⟩
  unfold owns
  icases X with ⟨%fx, %hx, X⟩
  icases G with ⟨%fg, %hg, G⟩
  icases A with ⟨%f5, -, A⟩
  icases B with ⟨%f6, %h6, B⟩
  icases N with ⟨%fn, -, N⟩
  ihave Wa := (lend c wt (Ring.sl 3 t.val) (Ring.bk 48 t.val)).1 $$ Wa
  icases Wa with ⟨Ba, Ra⟩
  ihave Wb := (lend c wt (Ring.sl 3 (t.val + 1)) (Ring.bk 48 (t.val + 1))).1 $$ Wb
  icases Wb with ⟨Bb, Rb⟩
  ihave Wc := (lend c wt (Ring.sl 3 (t.val + 2)) (Ring.bk 48 (t.val + 2))).1 $$ Wc
  icases Wc with ⟨Bc, Rc⟩
  sl_exec (disch := first | sl_exact hO | sl_exact hA | sl_exact hN | sl_exact hK)
  sl_step
  iapply Hk
  have normed := congrArg₂ (k0_pay1 (F := F)) ((View.readAt_full _ fx inb_S1024x2048_S1024x2048_0_0).trans hx)
    ((View.readAt_full _ fg inb_S1x2048_S1x2048_0_0).trans hg)
  isplitl [X G A B N HW]
  · isplitl [X]
    · iexists _; isplitr; · ipureintro; exact hx
      iexact X
    isplitl [G]
    · iexists _; isplitr; · ipureintro; exact hg
      iexact G
    isplitl [A]
    · iexists _; isplitr; swap; · iexact A
      ipureintro
      exact (View.read_writes_full _ _ _ _ _).trans (congrArg₂ k0_pay3 ((View.readCov_full kept.view _ _ _ _).trans normed) (load_arrived wt t _ _))
    isplitl [B]
    · iexists _; isplitr; · ipureintro; exact h6
      iexact B
    isplitl [N]
    · iexists _; isplitr; swap; · iexact N
      ipureintro
      exact (View.read_writes_full _ _ _ _ _).trans normed
    iexists _; iexact HW
  isplitl [Cb Rb]
  · iexists _; isplitl [Cb]; · iexact Cb
    iexact Rb
  isplitl [Cc Rc]
  · iexists _; isplitl [Cc]; · iexact Cc
    iexact Rc
  isplitl [Ca]; · iexact Ca
  iexists _; isplitl [Sa]; · iexact Sa
  iapply (lend c wt (Ring.sl 3 t.val) (Ring.bk 48 t.val)).2
  isplitl [Ba]; · iexact Ba
  iexact Ra

end Cert.InProj

end
-- ==== Proof.InFrame.lean ====
module

public import proofs.«01_k».proof.Proof.InRuns
public import proofs.«01_k».proof.Proof.Gen.Kernel4Ideal.Frame
public import Idealize.ShloMosaic.Lib.Pipeline.TableIdle
public import Idealize.ShloMosaic.Lib.Claim

@[expose] public section

set_option maxRecDepth 16384

noncomputable section

/-!
The input projection as a whole: what each buffer holds after every point, what holds between two points, and the run of the
whole program over any number type.
-/

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel4Ideal Cert.Kernel4Ideal.Gen

variable {F : FTy → Type} [FloatOps F]

local notation "𝕄" => MT nD τ sig Unit (Elt F) ℕ (Pipeline.UD sig nD τ) ℕ

/-! ## The ring from one point to the next -/

section Steps
variable (c : Dev nD) (W : On (F := F) c weights) (k : ℕ)

/-- The first point takes three slots at rest; once two copies are under way and its own slot is at rest again, the ring
    stands before the second point. -/
theorem ring_first (h : k = 0) :
    ring c W k ⊢ iprop(Ring.free (cellAt c) (atRest c W) (Ring.sl 3 k) ∗ Ring.free (cellAt c) (atRest c W) (Ring.sl 3 (k + 1))
      ∗ Ring.free (cellAt c) (atRest c W) (Ring.sl 3 (k + 2))
      ∗ ((Ring.inflight (filling c W) (Ring.sl 3 (k + 1)) (Ring.bk 48 (k + 1)) ∗ Ring.inflight (filling c W) (Ring.sl 3 (k + 2)) (Ring.bk 48 (k + 2))
          ∗ Ring.free (cellAt c) (atRest c W) (Ring.sl 3 k)) -∗ ring c W (k + 1))) := by
  unfold ring
  rw [if_pos h, if_neg (by omega : ¬k + 1 = 0), Ring.At₀_eq3' _ _ _ k h (by decide : 3 ≤ 48),
    Ring.At3_one' _ _ _ _ k h (by decide : 3 ≤ 48)]
  iintro ⟨-, A, B, C⟩
  isplitl [A]; · iexact A
  isplitl [B]; · iexact B
  isplitl [C]; · iexact C
  iintro H
  iapply (Ring.with_homes (Idealize.SL.BI.Entails.refl _))
  iexact H

/-- A point with a copy left to start takes the block on its way to it and the slot at rest, and gives back the copy it
    started and its own slot. -/
theorem ring_ahead (h0 : k ≠ 0) (h : k + 2 < 48) :
    ring c W k ⊢ iprop(Ring.inflight (filling c W) (Ring.sl 3 k) (Ring.bk 48 k) ∗ Ring.free (cellAt c) (atRest c W) (Ring.sl 3 (k + 2))
      ∗ ((Ring.inflight (filling c W) (Ring.sl 3 (k + 2)) (Ring.bk 48 (k + 2))
          ∗ Ring.free (cellAt c) (atRest c W) (Ring.sl 3 k)) -∗ ring c W (k + 1))) := by
  unfold ring
  rw [if_neg h0, if_neg (by omega : ¬k + 1 = 0), Ring.At3_here _ _ _ _ k h, Ring.At3_next _ _ _ _ k h,
    Ring.slotAt3_next0 _ _ _ k (by omega), Ring.slotAt3_next1 _ _ _ k h]
  iintro ⟨-, A, B, C⟩
  isplitl [A]; · iexact A
  isplitl [C]; · iexact C
  iintro ⟨D, E⟩
  iapply (Ring.with_homes (Idealize.SL.BI.Entails.refl _))
  isplitl [B]; · iexact B
  isplitl [D]; · iexact D
  iexact E

/-- One of the last two points only takes the block on its way to it. -/
theorem ring_tail (h0 : k ≠ 0) (h : 48 ≤ k + 2) (hk : k < 48) :
    ring c W k ⊢ iprop(Ring.inflight (filling c W) (Ring.sl 3 k) (Ring.bk 48 k)
      ∗ (Ring.free (cellAt c) (atRest c W) (Ring.sl 3 k) -∗ ring c W (k + 1))) := by
  unfold ring
  rw [if_neg h0, if_neg (by omega : ¬k + 1 = 0), Ring.At3_here_tail _ _ _ _ k hk, Ring.At3_next_tail _ _ _ _ k h hk,
    Ring.slotAt3_tail_role _ _ _ k]
  iintro ⟨-, A, B, C⟩
  isplitl [A]; · iexact A
  iintro E
  iapply (Ring.with_homes (Idealize.SL.BI.Entails.refl _))
  isplitl [B]; · iexact B
  isplitl [C]; · iexact C
  iexact E
end Steps

variable (m : (ℓ : Loc nD τ sig) → Buf (Elt F) ℓ) (ρ : Dev nD → PrngReg)

/-! ## What the buffers hold -/

/-- The point that normalizes the row tile in use at point `k`. -/
def rowStart (k : ℕ) : Fin grid0.N := ⟨6 * (k / 6) % 48, lt_of_lt_of_eq (Nat.mod_lt _ (by decide)) N_0.symm⟩
/-- The first point of a row tile is its own start. -/
theorem rowStart_self (t : Fin grid0.N) (h : t.val % 6 = 0) : rowStart t.val = t := by
  have := lt_of_lt_of_eq t.isLt N_0
  apply Fin.ext; show 6 * (t.val / 6) % 48 = t.val; omega
/-- A point and the one before it in the same row tile have the same start. -/
theorem rowStart_pred (k : ℕ) (h : k % 6 ≠ 0) : rowStart (k - 1) = rowStart k := by
  apply Fin.ext; show 6 * ((k - 1) / 6) % 48 = 6 * (k / 6) % 48; omega

/-- The normalized row tile in use at point `k`, -/
def tile (c : Dev nD) (k : ℕ) : Vec F S1024x2048 .bf16 := k0_pay1 (iblk m c 0 (rowStart k)) (iblk m c 1 (rowStart k))
/-- the column block of the weights there, -/
def wblock (c : Dev nD) (k : ℕ) : Vec F S1x2048x1024 .bf16 := fetched (c := c) (V m c main_v4) (Ring.bk 48 k)
/-- and their product. -/
def product (c : Dev nD) (k : ℕ) : Vec F S1024x1024 .f32 := k0_pay2 (tile m c k) (wblock m c k)

/-- What holds before point `k`: the row tile normalized (anything at the start), the generator, and the ring. -/
def Between (c : Dev nD) (k : ℕ) : sProp 𝕄 :=
  iprop((if k = 0 then iprop(∃ d, owns (c : Thread nD τ) kept fullShare d) else owns (c : Thread nD τ) kept fullShare (tile m c (k - 1)))
    ∗ (∃ r, prngReg c r) ∗ ring c (V m c main_v4) k)

/-- The data of the run. The inputs' buffers keep their blocks; the first result's holds the product narrowed; the second's
    holds the last product kept. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay3 (tile m c t.val) (wblock m c t.val)
    | ⟨3, _⟩ => if t.val % 6 = 3 ∨ t.val % 6 = 5 then product m c (t.val - 1) else product m c t.val
  Φ t := Between m c t.val
  q _ := fullShare
  owed _ := 0

/-- An array before the launch is as the host lines leave it. -/
theorem A_eq (c : Dev nD) (w : Fin cfg0.W) : (dats m 0 c).A w = V m c (Pipeline.arrRef spec0 w) := by dsimp only [dats]
/-- What lies between the points, before point `t`. -/
theorem between_start (c : Dev nD) (t : Fin cfg0.N) : (dats m 0 c).Φ t.castSucc = Between m c t.val := by
  dsimp only [dats]; simp only [Fin.val_castSucc]
/-- And after it. -/
theorem between_end (c : Dev nD) (t : Fin cfg0.N) : (dats m 0 c).Φ t.succ = Between m c (t.val + 1) := by
  dsimp only [dats]; simp only [Fin.val_succ]
/-- The first window holds its block after every point. -/
theorem after_x (c : Dev nD) (t : Fin cfg0.N) : (dats m 0 c).after 0 t = iblk m c 0 t := by dsimp only [dats]
/-- So does the second. -/
theorem after_gain (c : Dev nD) (t : Fin cfg0.N) : (dats m 0 c).after 1 t = iblk m c 1 t := by dsimp only [dats]
/-- The third holds the rounded product. -/
theorem after_narrow (c : Dev nD) (t : Fin cfg0.N) :
    (dats m 0 c).after 2 t = k0_pay3 (tile m c t.val) (wblock m c t.val) := by dsimp only [dats]
/-- The fourth holds the last product kept. -/
theorem after_wide (c : Dev nD) (t : Fin cfg0.N) : (dats m 0 c).after 3 t
    = if t.val % 6 = 3 ∨ t.val % 6 = 5 then product m c (t.val - 1) else product m c t.val := by dsimp only [dats]

/-- The inputs' buffers hold their blocks at every point. -/
theorem before_x (c : Dev nD) (t : Fin cfg0.N) (d) : (dats m 0 c).before 0 t d = iblk m c 0 t :=
  ((dats m 0 c).before_in_eq_fetched 0 rfl (fun _ => rfl) (fun _ _ _ => rfl) (fun t => by rw [after_x]; rfl) t d).trans rfl
/-- The norm's scale is in place before every point. -/
theorem before_gain (c : Dev nD) (t : Fin cfg0.N) (d) : (dats m 0 c).before 1 t d = iblk m c 1 t :=
  ((dats m 0 c).before_in_eq_fetched 1 rfl (fun _ => rfl) (fun _ _ _ => rfl) (fun t => by rw [after_gain]; rfl) t d).trans rfl

/-- A point that keeps its product writes the fourth window. -/
theorem wide_kept (t : Fin cfg0.N) (h : Keeps (grid0.coords t)) : cfg0.idle 3 (cfg0.grid.coords t) = false := by
  show (!(k0_cond4 (grid0.coords t) == 1#1)) = false
  rw [show k0_cond4 (grid0.coords t) = 1#1 from h]; rfl
/-- Any other leaves it. -/
theorem wide_idle (t : Fin cfg0.N) (h : ¬Keeps (grid0.coords t)) : cfg0.idle 3 (cfg0.grid.coords t) = true := by
  show (!(k0_cond4 (grid0.coords t) == 1#1)) = true
  rw [beq_eq_false_iff_ne.mpr h]; rfl
/-- The fourth window is never fetched. -/
theorem wide_no_fetch (t : Fin cfg0.N) : (cfg0.win 3).fetch t = false := rfl

/-- Where the second result's block is written back though the point keeps nothing, its buffer holds the product kept one
    point earlier. -/
theorem before_wide (c : Dev nD) (t : Fin cfg0.N) (h : t.val % 6 = 3 ∨ t.val % 6 = 5) (d) :
    (dats m 0 c).before 3 t d = product m c (t.val - 1) := by
  rw [Dat.before_of_pos _ 3 t (by omega) (wide_no_fetch t), if_neg (by rw [flush0_3]; dsimp only; omega)]
  unfold Dat.left
  rw [wide_kept _ ((keeps_iff _).mpr (by dsimp only; omega))]
  show (dats m 0 c).kept 3 _ d = _
  unfold Dat.kept
  rw [Pipeline.fill_of_clip_none 3 _ (fun _ => rfl) d ((dats m 0 c).after 3 _), Pipeline.Window.fill_cut, after_wide,
    if_neg (by dsimp only; omega)]

/-- What a point leaves in the second result's buffer is what the data say. -/
theorem wide_left (c : Dev nD) (t : Fin cfg0.N) (d) :
    owns (c : Thread nD τ) (st0_3 t) fullShare (if Keeps (grid0.coords t) then product m c t.val else (dats m 0 c).before 3 t d)
      ⊢ ((dats m 0 c).leavesExact 3 t : sProp 𝕄) := by
  have hk := keeps_iff t
  unfold Dat.leavesExact
  by_cases hK : Keeps (grid0.coords t)
  · rw [if_pos hK, wide_kept t hK, after_wide, if_neg (by have := hk.mp hK; omega)]
  · rw [if_neg hK, wide_idle t hK]
    have hn : ¬(t.val % 6 = 1 ∨ t.val % 6 = 2 ∨ t.val % 6 = 4) := fun h => hK (hk.mpr h)
    by_cases h : t.val % 6 = 3 ∨ t.val % 6 = 5
    · rw [(flush0_3 t).mpr (by omega), before_wide m c t h d, after_wide, if_pos h]
    · rw [show (cfg0.win 3).flush t = false from Bool.eq_false_iff.mpr fun hf => by have := (flush0_3 t).mp hf; omega]
      iintro H
      iexists d
      iexact H

/-! ## The body at a point -/

/-- What the body is called with, -/
def Pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it returns. -/
def Post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- What a run of the body leaves, with the ring one step on, is what the body returns. -/
theorem returned (c : Dev nD) (t : Fin cfg0.N) (d) (xn : Vec F S1024x2048 .bf16) (hx : xn = tile m c t.val) :
    iprop(after c t (st0_0 t) (st0_1 t) (st0_2 t) (st0_3 t) (iblk m c 0 t) (iblk m c 1 t) xn ((dats m 0 c).before 3 t d) (V m c main_v4)
      ∗ (∃ r, prngReg c r) ∗ ring c (V m c main_v4) (t.val + 1)) ⊢ Post m c t := by
  subst hx
  unfold Post after
  rw [between_end, after_x, after_gain, after_narrow]
  unfold Dat.owesAt Pipeline.owesWithin Between
  rw [show (dats m 0 c).owed t.succ = 0 from rfl, if_neg (by omega : ¬t.val + 1 = 0), Nat.add_sub_cancel]
  iintro ⟨⟨X, G, A, B, N, ⟨%W', HW⟩⟩, Hg, R⟩
  isplitl [N Hg R]
  · isplitl [N]; · iexact N
    isplitl [Hg]; · iexact Hg
    iexact R
  isplitl [HW]
  · iexists W'; isplitr; · ipureintro; exact fun _ _ => Or.inl trivial
    iexact HW
  isplitl [X]; · iexact X
  isplitl [G]; · iexact G
  isplitl [A]; · iexact A
  iapply (wide_left m c t d)
  iexact B

set_option maxHeartbeats 1000000 in
/-- The body at any point. -/
theorem at_point (c : Dev nD) (t : Fin cfg0.N) :
    Pre m c t ⊢ wp frame (wpE (defs₀ (F := F)) Variants.none c none) Set.univ (bodyAt0 t) (fun _ => Post m c t) := by
  have hN : t.val < 48 := lt_of_lt_of_eq t.isLt (show cfg0.N = 48 from N_0)
  unfold Pre
  simp only [before_x, before_gain]
  rw [between_start]
  unfold Dat.owesAt Pipeline.owesWithin
  rw [show (dats m 0 c).owed t.castSucc = 0 from rfl]
  unfold Between
  by_cases h0 : t.val = 0
  · rw [if_pos h0]
    iintro ⟨⟨N, Hg, R⟩, ⟨%W, -, HW⟩, ⟨%d0, X⟩, ⟨%d1, G⟩, ⟨%d2, A⟩, ⟨%d3, B⟩⟩
    ihave R := (ring_first c (V m c main_v4) t.val h0) $$ R
    icases R with ⟨Ra, Rb, Rc, R⟩
    iapply (run_first c t (st0_0 t) _ (st0_1 t) _ (st0_2 t) _ (st0_3 t) _ (iblk m c 0 t) (iblk m c 1 t) ((dats m 0 c).before 3 t d3)
      (V m c main_v4) ((opens_iff t).mpr h0) ((ahead_iff t).mpr (by omega)) ((norms_iff t).mpr (by omega))
      (fun h => by have := (keeps_iff t).mp h; omega) W _)
    isplitl [X G A B]
    · isplitl [X]; · iexact X
      isplitl [G]; · iexact G
      isplitl [A]; · iexists _; iexact A
      iexact B
    isplitl [N]; · iexact N
    isplitl [Ra]; · iexact Ra
    isplitl [Rb]; · iexact Rb
    isplitl [Rc]; · iexact Rc
    isplitl [HW]; · iexact HW
    iintro ⟨H, Rs⟩
    iapply (returned m c t d3 _ (by unfold tile; rw [rowStart_self t (by omega)]))
    isplitl [H]; · iexact H
    isplitl [Hg]; · iexact Hg
    iapply R; iexact Rs
  rw [if_neg h0]
  by_cases h6 : t.val % 6 = 0
  · iintro ⟨⟨N, Hg, R⟩, ⟨%W, -, HW⟩, ⟨%d0, X⟩, ⟨%d1, G⟩, ⟨%d2, A⟩, ⟨%d3, B⟩⟩
    ihave R := (ring_ahead c (V m c main_v4) t.val h0 (by omega)) $$ R
    icases R with ⟨Ra, Rc, R⟩
    iapply (run_row c t (st0_0 t) _ (st0_1 t) _ (st0_2 t) _ (st0_3 t) _ (iblk m c 0 t) (iblk m c 1 t) ((dats m 0 c).before 3 t d3)
      (V m c main_v4) (fun h => h0 ((opens_iff t).mp h)) ((ahead_iff t).mpr (by omega)) ((norms_iff t).mpr h6)
      (fun h => by have := (keeps_iff t).mp h; omega) W _)
    isplitl [X G A B]
    · isplitl [X]; · iexact X
      isplitl [G]; · iexact G
      isplitl [A]; · iexists _; iexact A
      iexact B
    isplitl [N]; · iexists _; iexact N
    isplitl [Ra]; · iexact Ra
    isplitl [Rc]; · iexact Rc
    isplitl [HW]; · iexact HW
    iintro ⟨H, Rs⟩
    iapply (returned m c t d3 _ (by unfold tile; rw [rowStart_self t h6]))
    isplitl [H]; · iexact H
    isplitl [Hg]; · iexact Hg
    iapply R; iexact Rs
  have same : tile m c (t.val - 1) = tile m c t.val := by unfold tile; rw [rowStart_pred _ h6]
  by_cases hA : t.val < 46
  · iintro ⟨⟨N, Hg, R⟩, ⟨%W, -, HW⟩, ⟨%d0, X⟩, ⟨%d1, G⟩, ⟨%d2, A⟩, ⟨%d3, B⟩⟩
    ihave R := (ring_ahead c (V m c main_v4) t.val h0 (by omega)) $$ R
    icases R with ⟨Ra, Rc, R⟩
    iapply (run_mid c t (st0_0 t) _ (st0_1 t) _ (st0_2 t) _ (st0_3 t) _ (iblk m c 0 t) (iblk m c 1 t) (tile m c (t.val - 1)) ((dats m 0 c).before 3 t d3)
      (V m c main_v4) (fun h => h0 ((opens_iff t).mp h)) ((ahead_iff t).mpr hA) (fun h => h6 ((norms_iff t).mp h)) W _)
    isplitl [X G A B]
    · isplitl [X]; · iexact X
      isplitl [G]; · iexact G
      isplitl [A]; · iexists _; iexact A
      iexact B
    isplitl [N]; · iexact N
    isplitl [Ra]; · iexact Ra
    isplitl [Rc]; · iexact Rc
    isplitl [HW]; · iexact HW
    iintro ⟨H, Rs⟩
    iapply (returned m c t d3 _ same)
    isplitl [H]; · iexact H
    isplitl [Hg]; · iexact Hg
    iapply R; iexact Rs
  · iintro ⟨⟨N, Hg, R⟩, ⟨%W, -, HW⟩, ⟨%d0, X⟩, ⟨%d1, G⟩, ⟨%d2, A⟩, ⟨%d3, B⟩⟩
    ihave R := (ring_tail c (V m c main_v4) t.val h0 (by omega) hN) $$ R
    icases R with ⟨Ra, R⟩
    iapply (run_tail c t (st0_0 t) _ (st0_1 t) _ (st0_2 t) _ (st0_3 t) _ (iblk m c 0 t) (iblk m c 1 t) (tile m c (t.val - 1)) ((dats m 0 c).before 3 t d3)
      (V m c main_v4) (fun h => h0 ((opens_iff t).mp h)) (fun h => hA ((ahead_iff t).mp h)) (fun h => h6 ((norms_iff t).mp h)) W _)
    isplitl [X G A B]
    · isplitl [X]; · iexact X
      isplitl [G]; · iexact G
      isplitl [A]; · iexists _; iexact A
      iexact B
    isplitl [N]; · iexact N
    isplitl [Ra]; · iexact Ra
    isplitl [HW]; · iexact HW
    iintro ⟨H, Rs⟩
    iapply (returned m c t d3 _ same)
    isplitl [H]; · iexact H
    isplitl [Hg]; · iexact Hg
    iapply R; iexact Rs

/-- The body table's row at a point is the body. -/
theorem row (t : Fin cfg0.N) : defs₀ (F := F) .tc cfg0.body (cfg0.bodyArgs t (cfg0.slots t)) = bodyAt0 t := by
  unfold defs₀; rw [Defs.onTc_tc]
/-- What the pipeline asks of the body, at every point. -/
theorem obligation (c : Dev nD) : BodyObligation (dats (F := F) m 0 c) (defs₀ (F := F)) Variants.none () Set.univ := fun t => by
  rw [bigSep_W0, bigSep_W0, row]
  exact triple_restated (at_point m c t) rfl .rfl fun _ => .rfl

/-! ## The launch and the run -/

/-- What the launch hands over. -/
theorem handed (c : Dev nD) : Pipeline.ΦD semCells spec0 hbmRefs (V m) c
    = iprop(((∃ d, owns (c : Thread nD τ) kept fullShare d) ∗ (∃ d, owns (c : Thread nD τ) slots fullShare d))
        ∗ (∃ r, prngReg c r) ∗ cellsZero c ∗ holds c weights (V m c main_v4)) := by
  rw [Pipeline.ΦD_eq, scopedRest0_eq, Pipeline.ownSems0_eq_of_list c semCells [0, 1, 2] (by decide) (by decide),
    BI.bigSep_eq_bigSepL_of_eq (S := hbmRefs) [main_v4] (by decide) (by decide)]
  simp only [kept, slots, owns_whole]
  rfl
/-- It is what holds before the first point, -/
theorem enters (c : Dev nD) : Pipeline.ΦD semCells spec0 hbmRefs (V m) c ⊢ (dats m 0 c).Φ 0 := by
  rw [handed, show (dats m 0 c).Φ 0 = Between m c 0 from rfl]
  unfold Between
  rw [if_pos rfl]
  iintro ⟨⟨N, S⟩, Hg, Z, H⟩
  isplitl [N]; · iexact N
  isplitl [Hg]; · iexact Hg
  iapply (ring_start c (V m c main_v4))
  isplitl [S]; · iexact S
  isplitl [Z]; · iexact Z
  iexact H
/-- and what holds after the last point gives it back. -/
theorem leaves (c : Dev nD) : (dats m 0 c).Φ (Fin.last cfg0.N) ⊢ Pipeline.ΦD semCells spec0 hbmRefs (V m) c := by
  rw [handed, show (dats m 0 c).Φ (Fin.last cfg0.N) = Between m c grid0.N from rfl, show grid0.N = 48 by rw [N_0]]
  unfold Between
  rw [if_neg (by decide)]
  iintro ⟨N, Hg, R⟩
  ihave R := (ring_end c (V m c main_v4)) $$ R
  icases R with ⟨S, Z, H⟩
  isplitl [N S]
  · isplitl [N]; · iexists _; iexact N
    iexact S
  isplitl [Hg]; · iexact Hg
  isplitl [Z]; · iexact Z
  iexact H

/-- The host operations around the launch. -/
theorem host (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The later ones do not touch the weight. -/
theorem later_sub : ∀ ops ∈ ([hostOps1] : List (List (HloOp τ sig (Elt F)))), ∀ op ∈ ops,
    op.bufs ⊆ Pipeline.tailRefsBut sig Pipeline.Prefetch.none spec0 hbmRefs := by
  intro ops hops op hop
  obtain rfl := List.mem_singleton.mp hops
  refine Pipeline.sub_tailRefsBut _ _ _ op ((List.forall_iff_forall_mem.mp hostOps1_sub) op hop) (fun k => k.elim0) fun b hb => ?_
  obtain rfl := Finset.mem_singleton.mp hb
  simp only [hostOps1, List.mem_cons, List.mem_nil_iff, or_false] at hop
  rcases hop with rfl | rfl | rfl
  all_goals
    simp only [StableHlo.reshape_bufs, StableHlo.unary_bufs, Finset.mem_insert, Finset.mem_singleton, not_or]
    exact ⟨StableHlo.devRef_ne_of_ne (by decide), StableHlo.devRef_ne_of_ne (by decide)⟩

set_option backward.isDefEq.respectTransparency.types false in
/-- Every run ends with the arrays as the data say, the other buffers as the later host operations leave them, and every counter
at zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 semCells defs₀ Variants.none semCells_own hbmRefs hbmRefs_sub m ρ main
    (hbody := fun c => (obligation m c).loose) (hshare := fun c => (dats m 0 c).share_full fun _ => rfl)
    (howed := fun _ _ => rfl) (V₀ := V0 m) (opss := [hostOps1]) (hsub := later_sub) (hfresh := sfx_fresh) (hkeep := sfx_keeps)
    (hmain := host m Variants.none) (hA := A_eq m) (hin := enters m) (hout := leaves m)

/-- A buffer that is no array and that no later host operation writes ends as it entered. -/
theorem stays (c : Dev nD) (b : Ref sig .tc) (ha : ∀ w, Pipeline.arrRef spec0 w ≠ b) (h6 : b ≠ main_v6) (h7 : b ≠ main_v7) (h8 : b ≠ main_v8) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes,
        StableHlo.reshape_writes, Finset.mem_singleton]
      exact ⟨StableHlo.devRef_ne_of_ne h6, StableHlo.devRef_ne_of_ne h7, StableHlo.devRef_ne_of_ne h8⟩)),
    Pipeline.withArrays_of_ne _ c (V0 m c) _ b ha]

/-- The last columns of the second result, its last three positions of every batch. -/
abbrev lastRows (v : FVec F S8192x3072 .f32) : FVec F S1x4x3x1024 .f32 :=
  broadcastInDim S1x4x3x1024 ![1, 2, 3] bcast_S4x3x1024_S1x4x3x1024_1_2_3
    (extractStridedSlice S4x3x1024 ![0, 2045, 2048] (shapeCast S4x2048x3072 v shapeCasts_S8192x3072_S4x2048x3072)
      slices_S4x2048x3072_S4x3x1024_0_2045_2048)

/-- The later host operations take them. -/
theorem later_rows (c : Dev nD) :
    Pipeline.afterTail₀ cfgs (dats m) 0 (V0 m) [hostOps1] c main_v8 = lastRows ((dats m 0 c).arrAt 3 cfg0.N) := by
  have h := Pipeline.withArrays_arr spec0 launch0.win.arr_inj c (V0 m c) (fun w => (dats m 0 c).arrAt w cfg0.N) 3
  unfold Pipeline.afterTail₀
  after_results
  exact congrArg lastRows h

end Cert.InProj

end
-- ==== Proof.InProj.lean ====
module

public import proofs.«01_k».proof.Defs
public import proofs.«01_k».proof.Proof.InFrame
public import proofs.«01_k».proof.Proof.Norm
public import proofs.«01_k».proof.Proof.Gen.Kernel4
public import proofs.«01_k».proof.Proof.Gen.Kernel4Ideal
public import proofs.«01_k».proof.Proof.Gen.Reference4Ideal.Read
public import Idealize.ShloMosaic.Lib.Pipeline.ValueKit
public import Idealize.ShloMosaic.Lib.Pointwise

@[expose] public section

set_option maxRecDepth 16384

noncomputable section

/-!
What the norm and input projection compute, and that the reference computes the same.
-/

namespace Cert.InProj

open Idealize.ShloMosaic Idealize.ShloMosaic.TcCoe Idealize.SL.Sem
open Cert.Norm

/-- A row over its root mean square, scaled. -/
def scaled (v g : Fin 2048 → EReal) (k : Fin 2048) : EReal := v k * invRoot v * g k

/-- One entry of the projection: a row, normed and scaled, times a column of the weight. -/
def entry (v g w : Fin 2048 → EReal) : EReal := ∑ k : Fin 2048, scaled v g k * w k

section Frames
open Cert.Kernel4Ideal Cert.Kernel4Ideal.Gen

/-- After the run the arguments are as before and every counter is at zero, whatever the numbers are. -/
theorem unchanged {F : FTy → Type} [FloatOps F] (m : (ℓ : Loc nD τ sig) → Buf (Elt F) ℓ) (g : Dev nD → PrngReg) :
    θ_run defs (onTc (τ := τ) (main (F := F))) ⟨m, fun _ => 0, g⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun _ h => ⟨fun c => ⟨
      ((h.1 c).2 main_arg0 (Pipeline.mem_restRefs_of main_arg0 (by decide) (by decide))).trans
        ((stays m c main_arg0 (by decide) (by decide) (by decide) (by decide)).trans (V_main_arg0 m c)),
      ((h.1 c).2 main_arg1 (Pipeline.mem_restRefs_of main_arg1 (by decide) (by decide))).trans
        ((stays m c main_arg1 (by decide) (by decide) (by decide) (by decide)).trans (V_main_arg1 m c)),
      ((h.1 c).2 main_arg2 (Pipeline.mem_restRefs_of main_arg2 (by decide) (by decide))).trans
        ((stays m c main_arg2 (by decide) (by decide) (by decide) (by decide)).trans (V_main_arg2 m c))⟩, h.2⟩)
    (run m g)

/-- The kernel runs over the extended reals, keeps its arguments and leaves every counter at zero. -/
theorem frame_ideal : Cert.quiescent_Kernel4Ideal (hKernel4Ideal := Cert.Kernel4Ideal.Gen.facts) := fun m g _ => unchanged m g

/-- The two programs' kernel bodies are the same. -/
theorem same_body : Cert.Kernel4.defs₀ (F := Bits) = Cert.Kernel4Ideal.defs₀ (F := Bits) := by
  unfold Cert.Kernel4.defs₀ Cert.Kernel4Ideal.defs₀
  refine congrArg _ (funext fun l => funext fun a => ?_)
  match l, a with
  | 0, (_, _) => rfl

/-- So are their definitions. -/
theorem same_defs : Cert.Kernel4.defs (F := Bits) = Cert.Kernel4Ideal.defs (F := Bits) := congrArg (Pipeline.defs _) same_body

/-- The kernel runs on bits likewise: its text is the same. -/
theorem frame_kernel : Cert.quiescent_Kernel4 (hKernel4 := Cert.Kernel4.Gen.facts) := fun m g _ => by
  rw [same_defs]
  exact unchanged (F := Bits) m g

end Frames

section Kernel
open Cert.Kernel4Ideal Cert.Kernel4Ideal.Gen

/-- The projection's entry of batch `b`, position `p`, column `e`. -/
def result (x0 : S4x2048x2048.Idx → EReal) (x1 : S1x2048.Idx → EReal) (x2 : S1x2048x6144.Idx → EReal)
    (b : Fin 4) (p : Fin 2048) (e : Fin 6144) : EReal :=
  entry (fun k => x0 (ix3 b p k)) (fun k => x1 (ix2 0 k)) (fun k => x2 (ix3 0 k e))

/-- The normed tile at an index. -/
theorem normed_at (x : FVec Ideal S1024x2048 .f32) (g : FVec Ideal S1x2048 .f32) (r : Fin 1024) (k : Fin 2048) :
    k0_pay1 (F := Ideal) x g (ix2 r k) = scaled (fun k => x (ix2 r k)) (fun k => g (ix2 0 k)) k := by
  pointwise [k0_pay1, scaled, invRoot, mean]

/-- A product at an index. -/
theorem product_at (x : FVec Ideal S1024x2048 .bf16) (w : FVec Ideal S1x2048x1024 .bf16) (r e : Fin 1024) :
    k0_pay2 (F := Ideal) x w (ix2 r e) = ∑ k : Fin 2048, x (ix2 r k) * w (ix3 0 k e) := by
  pointwise [k0_pay2]

variable (m : (ℓ : Loc nD τ sig) → Buf (Elt Ideal) ℓ)

/-- The residual stream. -/
abbrev acts (c : Dev nD) : S4x2048x2048.Idx → EReal := m ((c : Thread nD τ).loc main_arg0)
/-- The norm's scale. -/
abbrev gains (c : Dev nD) : S1x2048.Idx → EReal := m ((c : Thread nD τ).loc main_arg1)
/-- The projection's weight. -/
abbrev weight (c : Dev nD) : S1x2048x6144.Idx → EReal := m ((c : Thread nD τ).loc main_arg2)

/-- What the launch finds is what the host operations before it leave. -/
theorem entered (c : Dev nD) (b : Ref sig .tc) :
    V m c b = StableHlo.after hostOps0 (fun b => m (c, b)) (Proc.devRef .tc b) := rfl

/-- Where the windows stand at each grid point. -/
theorem index_maps : ∀ t : Fin cfg0.N, win0_0.index t = ![t.val / 6, 0] ∧ win0_1.index t = ![0, 0]
    ∧ win0_2.index t = ![t.val / 6, t.val % 6] ∧ win0_3.index t = ![t.val / 6, t.val % 6 / 2]
    := (by decide +kernel : ∀ t : Fin grid0.N, _)

/-- There are 48 grid points. -/
theorem point_lt (t : Fin cfg0.N) : t.val < 48 := lt_of_lt_of_eq t.isLt N_0

/-- The batch that row `r` of the row tile in use at point `t` belongs to. -/
def batch (t : ℕ) (r : Fin 1024) (ht : t < 48) : Fin 4 := ⟨(t / 6 * 1024 + r) / 2048, by omega⟩
/-- The position of that row in its batch. -/
def pos (t : ℕ) (r : Fin 1024) : Fin 2048 := ⟨(t / 6 * 1024 + r) % 2048, by omega⟩

/-- The first block's rows are the residual stream's. -/
theorem read0 (c : Dev nD) (t : Fin cfg0.N) (r : Fin 1024) (k : Fin 2048) :
    iblk m c 0 t (ix2 r k) = acts m c (ix3 (batch t r (point_lt t)) (pos t r) k) := by
  have ht := point_lt t
  have h : iblk m c 0 t (ix2 r k) = V m c main_v0 (ix2 ⟨t.val / 6 * 1024 + r, by omega⟩ k) := by blk_ext [iblk, index_maps t]
  rw [h, entered]; entry_read; pointwise; rfl

/-- The second block is the norm's scale. -/
theorem read1 (c : Dev nD) (t : Fin cfg0.N) (k : Fin 2048) : iblk m c 1 t (ix2 0 k) = gains m c (ix2 0 k) := by
  have h : iblk m c 1 t (ix2 0 k) = V m c main_v2 (ix2 0 k) := by blk_ext [iblk, index_maps t]
  rw [h, entered]; entry_read; pointwise

/-- The streamed block's columns are the weight's. -/
theorem wblock_at (c : Dev nD) (t : ℕ) (ht : t < 48) (k : Fin 2048) (e : Fin 1024) :
    wblock m c t (ix3 0 k e) = weight m c (ix3 0 k ⟨1024 * (t % 6) + e, by omega⟩) := by
  have h : wblock m c t (ix3 0 k e) = V m c main_v4 (ix2 k ⟨1024 * (t % 6) + e, by omega⟩) := by
    unfold wblock fetched
    pointwise
    have hb : (Ring.bk 48 t).val = t := Nat.mod_eq_of_lt ht
    show V m c main_v4 _ = _
    refine congrArg (V m c main_v4) ?_
    funext a
    refine Fin.ext ((ValueKit.view_emb_slice_whole_unit_val main_v4 ![0, 1024 * ((Ring.bk 48 t).val % 6)] S2048x1024.size _ (ix2 k e) a).trans ?_)
    refine (Fin.forall_fin_two (p := fun a : Fin 2 => (![0, 1024 * ((Ring.bk 48 t).val % 6)] : Fin 2 → ℕ) a
      + (ix2 k e a : ℕ) = (ix2 k (⟨1024 * (t % 6) + e, by omega⟩ : Fin 6144) a : ℕ))).mpr ⟨Nat.zero_add _, ?_⟩ a
    exact congrArg (fun n => 1024 * (n % 6) + (e : ℕ)) hb
  rw [h, entered]; entry_read; pointwise

/-- The normed tile in use at a point. -/
theorem tile_at (c : Dev nD) (t : ℕ) (ht : t < 48) (r : Fin 1024) (k : Fin 2048) :
    tile m c t (ix2 r k) = scaled (fun k => acts m c (ix3 (batch t r ht) (pos t r) k)) (fun k => gains m c (ix2 0 k)) k := by
  have hr : (rowStart t).val / 6 = t / 6 := by show 6 * (t / 6) % 48 / 6 = t / 6; omega
  unfold tile
  rw [normed_at]
  simp only [read0, read1]
  have hb : batch (rowStart t).val r (point_lt _) = batch t r ht := Fin.ext (by show _ / 2048 = _ / 2048; rw [hr])
  have hp : pos (rowStart t).val r = pos t r := Fin.ext (by show _ % 2048 = _ % 2048; rw [hr])
  rw [hb, hp]

/-- The product at a point. -/
theorem point_at (c : Dev nD) (t : ℕ) (ht : t < 48) (r e : Fin 1024) : product m c t (ix2 r e)
    = result (acts m c) (gains m c) (weight m c) (batch t r ht) (pos t r) ⟨1024 * (t % 6) + e, by omega⟩ := by
  unfold product
  rw [product_at]
  simp only [tile_at m c t ht, wblock_at m c t ht]
  rfl

/-- The column of the projection that column `e` of the second result is. -/
def column (e : Fin 3072) : Fin 6144 := if h : e.val < 2048 then ⟨e.val + 1024, by omega⟩ else ⟨e.val + 2048, by omega⟩

/-- The first result's array after the run. -/
def narrow (x0 : S4x2048x2048.Idx → EReal) (x1 : S1x2048.Idx → EReal) (x2 : S1x2048x6144.Idx → EReal) : S8192x6144.Idx → EReal := fun i =>
  result x0 x1 x2 ⟨(i 0 : ℕ) / 2048, by have : (i 0 : ℕ) < 8192 := (i 0).isLt; omega⟩ ⟨(i 0 : ℕ) % 2048, by omega⟩ (i 1)
/-- The second result's. -/
def wide (x0 : S4x2048x2048.Idx → EReal) (x1 : S1x2048.Idx → EReal) (x2 : S1x2048x6144.Idx → EReal) : S8192x3072.Idx → EReal := fun i =>
  result x0 x1 x2 ⟨(i 0 : ℕ) / 2048, by have : (i 0 : ℕ) < 8192 := (i 0).isLt; omega⟩ ⟨(i 0 : ℕ) % 2048, by omega⟩ (column (i 1))

/-- The first result's blocks make up its array. -/
theorem narrow_array (c : Dev nD) : (dats m 0 c).arrAt 2 cfg0.N = narrow (acts m c) (gains m c) (weight m c) := by
  refine (dats m 0 c).arrAt_eq_of_covers 2 _ (by decide +kernel) fun t hf y => ?_
  blk_simp
  rw [after_narrow]
  idx_vars y
  have ht := point_lt t
  have he : ((View.whole main_v5_0).slice (win0_2.rect t)).emb (ix2 y0 y1)
      = (ix2 ⟨t.val / 6 * 1024 + y0, by omega⟩ ⟨t.val % 6 * 1024 + y1, by omega⟩ : S8192x6144.Idx) := by
    blk_ext [index_maps t]
  rw [he]
  refine (point_at m c t.val ht y0 y1).trans ?_
  show result _ _ _ _ _ _ = result _ _ _ _ _ _
  congr 1
  exact Fin.ext (by show 1024 * (t.val % 6) + _ = t.val % 6 * 1024 + _; omega)

/-- The second result's blocks make up its array. -/
theorem wide_array (c : Dev nD) : (dats m 0 c).arrAt 3 cfg0.N = wide (acts m c) (gains m c) (weight m c) := by
  refine (dats m 0 c).arrAt_eq_of_covers 3 _ (by decide +kernel) fun t hf y => ?_
  have hodd := (flush0_3 t).mp hf
  blk_simp
  rw [after_wide]
  idx_vars y
  have ht := point_lt t
  have he : ((View.whole main_v5_1).slice (win0_3.rect t)).emb (ix2 y0 y1)
      = (ix2 ⟨t.val / 6 * 1024 + y0, by omega⟩ ⟨t.val % 6 / 2 * 1024 + y1, by omega⟩ : S8192x3072.Idx) := by
    blk_ext [index_maps t]
  rw [he]
  by_cases h : t.val % 6 = 3 ∨ t.val % 6 = 5
  · rw [if_pos h]
    refine (point_at m c (t.val - 1) (by omega) y0 y1).trans ?_
    have hb : batch (t.val - 1) y0 (by omega) = batch t.val y0 ht := Fin.ext (by show _ / 2048 = _ / 2048; omega)
    have hp : pos (t.val - 1) y0 = pos t.val y0 := Fin.ext (by show _ % 2048 = _ % 2048; omega)
    rw [hb, hp]
    show result _ _ _ _ _ _ = result _ _ _ _ _ _
    congr 1
    show _ = column ⟨t.val % 6 / 2 * 1024 + y1, _⟩
    unfold column
    split <;> rename_i hc <;> simp only [Fin.mk.injEq] <;> simp only [] at hc <;> omega
  · rw [if_neg h]
    refine (point_at m c t.val ht y0 y1).trans ?_
    show result _ _ _ _ _ _ = result _ _ _ _ _ _
    congr 1
    show _ = column ⟨t.val % 6 / 2 * 1024 + y1, _⟩
    unfold column
    split <;> rename_i hc <;> simp only [Fin.mk.injEq] <;> simp only [] at hc <;> omega

/-- The recurrence input at the last three positions of every batch. -/
def recent (x0 : S4x2048x2048.Idx → EReal) (x1 : S1x2048.Idx → EReal) (x2 : S1x2048x6144.Idx → EReal) : S1x4x3x1024.Idx → EReal := fun i =>
  result x0 x1 x2 (i 1) ⟨2045 + (i 2 : ℕ), by have : (i 2 : ℕ) < 3 := (i 2).isLt; omega⟩
    ⟨4096 + (i 3 : ℕ), by have : (i 3 : ℕ) < 1024 := (i 3).isLt; omega⟩

/-- The second result's last columns are it. -/
theorem recent_array (x0 : S4x2048x2048.Idx → EReal) (x1 : S1x2048.Idx → EReal) (x2 : S1x2048x6144.Idx → EReal) :
    lastRows (F := Ideal) (wide x0 x1 x2) = recent x0 x1 x2 := by
  funext i
  idx_vars i
  unfold recent
  pointwise
  unfold wide column
  rw [dif_neg (by simp)]
  congr 1
  · exact Fin.ext (show ((i1 : ℕ) * 2048 + (2045 + (i2 : ℕ))) / 2048 = i1 by omega)
  · exact Fin.ext (show ((i1 : ℕ) * 2048 + (2045 + (i2 : ℕ))) % 2048 = 2045 + i2 by omega)
  · exact Fin.ext (show 2048 + (i3 : ℕ) + 2048 = 4096 + i3 by omega)

/-- After the run the results hold these arrays, and the arguments are as before. -/
theorem run_results (g : Dev nD → PrngReg) : θ_run defs (onTc (τ := τ) (main (F := Ideal))) ⟨m, fun _ => 0, g⟩ fun r => ∀ c : Dev nD,
      r.2.mem ((c : Thread nD τ).loc main_v5_0) = narrow (acts m c) (gains m c) (weight m c)
      ∧ r.2.mem ((c : Thread nD τ).loc main_v5_1) = wide (acts m c) (gains m c) (weight m c)
      ∧ r.2.mem ((c : Thread nD τ).loc main_v8) = recent (acts m c) (gains m c) (weight m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 2).trans (narrow_array m c), ((h.1 c).1 3).trans (wide_array m c),
      ((h.1 c).2 main_v8 (Pipeline.mem_restRefs_of main_v8 (by decide) (by decide))).trans
        ((later_rows m c).trans ((congrArg lastRows (wide_array m c)).trans (recent_array _ _ _))),
      ((h.1 c).2 main_arg0 (Pipeline.mem_restRefs_of main_arg0 (by decide) (by decide))).trans
        ((stays m c main_arg0 (by decide) (by decide) (by decide) (by decide)).trans (V_main_arg0 m c)),
      ((h.1 c).2 main_arg1 (Pipeline.mem_restRefs_of main_arg1 (by decide) (by decide))).trans
        ((stays m c main_arg1 (by decide) (by decide) (by decide) (by decide)).trans (V_main_arg1 m c)),
      ((h.1 c).2 main_arg2 (Pipeline.mem_restRefs_of main_arg2 (by decide) (by decide))).trans
        ((stays m c main_arg2 (by decide) (by decide) (by decide) (by decide)).trans (V_main_arg2 m c))⟩)
    (run m g)

end Kernel

section Reference
open Cert.Reference4Ideal Cert.Reference4Ideal.Read

variable (x0 : FVec Ideal S4x2048x2048 .f32) (x1 : FVec Ideal S1x2048 .f32) (x2 : FVec Ideal S1x2048x6144 .f32)

/-- The reference's one over the root mean square of a row. -/
theorem root_at (b : Fin 4) (p : Fin 2048) : val_main_v7 (F := Ideal) x0 (ix3 b p 0) = invRoot (fun k => x0 (ix3 b p k)) := by
  pointwise [val_main_v7, val_main_v6, val_main_v5, val_main_cst_1, val_main_v4, val_main_v3, val_main_cst_0, val_main_v2, val_main_v1,
    val_main_v0, val_main_cst, invRoot, mean]

/-- The reference's normed and scaled row. -/
theorem scaled_at (b : Fin 4) (p k : Fin 2048) : val_main_v13 (F := Ideal) x0 x1 (ix3 b p k)
    = scaled (fun k => x0 (ix3 b p k)) (fun k => x1 (ix2 0 k)) k := by
  pointwise [val_main_v13, val_main_v12, val_main_v11, val_main_v10, val_main_v9, val_main_v8, root_at, scaled]

/-- The reference's projection. -/
theorem projected_at (b : Fin 4) (p : Fin 2048) (e : Fin 6144) :
    val_main_v15 (F := Ideal) x0 x1 x2 (ix3 b p e) = result x0 x1 x2 b p e := by
  pointwise [val_main_v15, val_main_v14, scaled_at, result, entry]

/-- The reference's projection, its batches one after the other. -/
theorem rows_at (i : Fin 8192) (e : Fin 6144) : val_main_v16 (F := Ideal) x0 x1 x2 (ix2 i e)
    = result x0 x1 x2 ⟨i / 2048, by omega⟩ ⟨i % 2048, by omega⟩ e := by
  rw [← projected_at]
  pointwise [val_main_v16]

/-- The reference's first result. -/
theorem narrow_eq : val_main_v17 (F := Ideal) x0 x1 x2 = narrow x0 x1 x2 := by
  funext i
  idx_vars i
  exact rows_at x0 x1 x2 i0 i1

/-- The reference's second result. -/
theorem wide_eq : val_main_v21 (F := Ideal) x0 x1 x2 = wide x0 x1 x2 := by
  funext i
  idx_vars i
  unfold wide
  pointwise [val_main_v21, val_main_v20, val_main_v19, val_main_v18, rows_at]
  have h3 : (i1 : ℕ) < 3072 := i1.isLt
  unfold column
  by_cases h1 : (i1 : ℕ) < 1024
  · rw [dif_pos h1, dif_pos (show (i1 : ℕ) < 2048 by omega)]
    exact congrArg (result x0 x1 x2 _ _) (Fin.ext (Nat.add_comm _ _))
  rw [dif_neg h1]
  by_cases h2 : (i1 : ℕ) - 1024 < 1024
  · rw [dif_pos h2, dif_pos (show (i1 : ℕ) < 2048 by omega)]
    exact congrArg (result x0 x1 x2 _ _) (Fin.ext (show 2048 + ((i1 : ℕ) - 1024) = i1 + 1024 by omega))
  · rw [dif_neg h2, dif_neg (show ¬(i1 : ℕ) < 2048 by omega)]
    exact congrArg (result x0 x1 x2 _ _) (Fin.ext (show 4096 + ((i1 : ℕ) - 1024 - 1024) = i1 + 2048 by omega))

/-- The reference's third result. -/
theorem recent_eq : val_main_v26 (F := Ideal) x0 x1 x2 = recent x0 x1 x2 := by
  funext i
  idx_vars i
  unfold recent
  pointwise [val_main_v26, val_main_v25, val_main_v24, val_main_v23, projected_at]
  rw [dif_neg (by omega)]
  congr 1
  exact Fin.ext (show 2048 + (i2 : ℕ) - 3 = 2045 + i2 by omega)

end Reference

/-- The norm and input projection and their reference give equal results. -/
theorem equal : Cert.algebraic_Kernel4Ideal_Reference4Ideal (hKernel4Ideal := Cert.Kernel4Ideal.Gen.facts)
    (hReference4Ideal := Cert.Reference4Ideal.Gen.facts) := by
  intro m g m' g' _ hagree
  refine ⟨fun c => narrow (acts m c) (gains m c) (weight m c), fun c => wide (acts m c) (gains m c) (weight m c),
    fun c => recent (acts m c) (gains m c) (weight m c), run_results m g,
    (θ_run _ _ _).mono (fun r h c => ?_) (Cert.Reference4Ideal.Value.run m' g')⟩
  obtain ⟨h0, h1, h2, hr⟩ := h c
  obtain ⟨e0, e1, e2⟩ := hagree c
  refine ⟨h0.trans ?_, h1.trans ?_, h2.trans ?_, hr⟩
  · rw [Cert.Reference4Ideal.Read.val_main_v17_eq, e0, e1, e2]
    exact narrow_eq _ _ _
  · rw [Cert.Reference4Ideal.Read.val_main_v21_eq, e0, e1, e2]
    exact wide_eq _ _ _
  · rw [Cert.Reference4Ideal.Read.val_main_v26_eq, e0, e1, e2]
    exact recent_eq _ _ _

/-- The reference runs, keeps its arguments and leaves every counter at zero. -/
theorem reference_runs : Cert.quiescent_Reference4Ideal (hReference4Ideal := Cert.Reference4Ideal.Gen.facts) := by
  intro m g _
  exact (θ_run _ _ _).mono (fun r h => ⟨fun c => (h c).2.2.2, sem_eq_zero_of_no_sems (by decide) r.2⟩) (Cert.Reference4Ideal.Value.run m g)

end Cert.InProj

end
-- ==== Proof.LruMath.lean ====
module

public import proofs.«01_k».proof.Proof.Gate

@[expose] public section

noncomputable section

/-!
The recurrence in plain numbers: a step by step run, the doubling that computes it, and the forms of its coefficients.
-/

namespace Cert.Lru

open Idealize.ShloMosaic

/-- A product of coefficients over the last `n` steps ending at `k`. -/
def prods (a : ℕ → EReal) : ℕ → ℕ → EReal
  | 0, _ => 1
  | n + 1, k => a k * prods a n (k - 1)

/-- What the last `n` steps ending at `k` add up to from a state of zero. -/
def sums (a b : ℕ → EReal) : ℕ → ℕ → EReal
  | 0, _ => 0
  | n + 1, k => b k + a k * sums a b n (k - 1)

/-- The state after `k` steps from `h`. -/
def states (a b : ℕ → EReal) (h : EReal) : ℕ → EReal
  | 0 => h
  | k + 1 => a k * states a b h k + b k

/-- A nonnegative real factor distributes. -/
theorem mul_add_of (a x y : EReal) (h : ∃ r : ℝ, 0 ≤ r ∧ a = r) : a * (x + y) = a * x + a * y := by
  obtain ⟨r, h0, rfl⟩ := h
  exact EReal.left_distrib_of_nonneg_of_ne_top (by exact_mod_cast h0) (EReal.coe_ne_top r) x y

variable (a b : ℕ → EReal)

theorem prods_add (m n k : ℕ) : prods a (m + n) k = prods a m k * prods a n (k - m) := by
  induction m generalizing k with
  | zero => simp [prods]
  | succ m ih =>
    rw [show m + 1 + n = (m + n) + 1 by omega, prods, ih, prods, mul_assoc, Nat.sub_sub, Nat.add_comm 1 m]

theorem sums_add (ha : ∀ k, ∃ r : ℝ, 0 ≤ r ∧ a k = r) (m n k : ℕ) : sums a b (m + n) k = sums a b m k + prods a m k * sums a b n (k - m) := by
  induction m generalizing k with
  | zero => simp [prods, sums]
  | succ m ih =>
    rw [show m + 1 + n = (m + n) + 1 by omega, sums, ih, sums, prods, mul_add_of _ _ _ (ha k), Nat.sub_sub, Nat.add_comm 1 m, mul_assoc, add_assoc]

/-- The last `n` steps take the state before them to the state after them. -/
theorem states_window (ha : ∀ k, ∃ r : ℝ, 0 ≤ r ∧ a k = r) (h : EReal) (n k : ℕ) (hn : n ≤ k) :
    prods a n k * states a b h (k + 1 - n) + sums a b n k = states a b h (k + 1) := by
  induction n generalizing k with
  | zero => simp [prods, sums]
  | succ n ih =>
    obtain ⟨k, rfl⟩ : ∃ j, k = j + 1 := ⟨k - 1, by omega⟩
    rw [prods, sums, Nat.add_sub_cancel, states, ← ih k (by omega), mul_add_of _ _ _ (ha _), mul_assoc, show k + 1 + 1 - (n + 1) = k + 1 - n by omega,
      add_comm (b _), add_assoc]

/-- The coefficients of 32 steps, after 32 steps that change nothing. -/
def front (x : EReal) (f : Fin 32 → EReal) (k : ℕ) : EReal := if h : 32 ≤ k ∧ k < 64 then f ⟨k - 32, by omega⟩ else x

theorem front_row (x : EReal) (f : Fin 32 → EReal) (r : Fin 32) : front x f (r + 32) = f r := by
  rw [front, dif_pos ⟨by omega, by omega⟩]
  congr 1

theorem front_before (x : EReal) (f : Fin 32 → EReal) (k : ℕ) (h : k < 32) : front x f k = x := by
  rw [front, dif_neg (by omega)]

variable (f g : Fin 32 → EReal)

/-- The product over the last `n` steps ending at row `r`, stopping at the first row. -/
def prodRow (n : ℕ) (r : Fin 32) : EReal := prods (front 1 f) n (r + 32)
/-- The sum over the last `n` steps ending at row `r`, stopping at the first row. -/
def sumRow (n : ℕ) (r : Fin 32) : EReal := sums (front 1 f) (front 0 g) n (r + 32)
/-- The state after row `r`. -/
def stateRow (h : EReal) : ℕ → EReal
  | 0 => h
  | k + 1 => if hk : k < 32 then f ⟨k, hk⟩ * stateRow h k + g ⟨k, hk⟩ else stateRow h k

theorem prods_before (n k : ℕ) (h : k < 32) : prods (front 1 f) n k = 1 := by
  induction n generalizing k with
  | zero => rfl
  | succ n ih => rw [prods, front_before _ _ _ h, ih _ (by omega), one_mul]

theorem sums_before (n k : ℕ) (h : k < 32) : sums (front 1 f) (front 0 g) n k = 0 := by
  induction n generalizing k with
  | zero => rfl
  | succ n ih => rw [sums, front_before _ _ _ h, front_before _ _ _ h, ih _ (by omega), mul_zero, add_zero]

theorem front_real (hf : ∀ r, ∃ x : ℝ, 0 ≤ x ∧ f r = x) (k : ℕ) : ∃ x : ℝ, 0 ≤ x ∧ front 1 f k = x := by
  unfold front
  split
  · exact hf _
  · exact ⟨1, by norm_num, by simp⟩

theorem prodRow_one (r : Fin 32) : prodRow f 1 r = f r := by
  simp [prodRow, prods, front_row]

theorem sumRow_one (r : Fin 32) : sumRow f g 1 r = g r := by
  simp [sumRow, sums, front_row]

/-- Doubling the window of a product. -/
theorem prodRow_double (n : ℕ) (r : Fin 32) :
    prodRow f (n + n) r = prodRow f n r * if h : (r : ℕ) < n then 1 else prodRow f n ⟨r - n, by omega⟩ := by
  rw [prodRow, prods_add, prodRow]
  congr 1
  split
  · exact prods_before _ _ _ (by omega)
  · rw [prodRow]; congr 1; show (r : ℕ) + 32 - n = r - n + 32; omega

/-- Doubling the window of a sum. -/
theorem sumRow_double (hf : ∀ r, ∃ x : ℝ, 0 ≤ x ∧ f r = x) (n : ℕ) (r : Fin 32) :
    sumRow f g (n + n) r = sumRow f g n r + prodRow f n r * if h : (r : ℕ) < n then 0 else sumRow f g n ⟨r - n, by omega⟩ := by
  rw [sumRow, sums_add _ _ (front_real f hf), sumRow, prodRow]
  congr 2
  split
  · exact sums_before _ _ _ _ (by omega)
  · rw [sumRow]; congr 1; show (r : ℕ) + 32 - n = r - n + 32; omega

theorem states_front (h : EReal) (k : ℕ) (hk : k ≤ 32) : states (front 1 f) (front 0 g) h k = h := by
  induction k with
  | zero => rfl
  | succ k ih => rw [states, ih (by omega), front_before _ _ _ (by omega), front_before _ _ _ (by omega), one_mul, add_zero]

theorem states_row (h : EReal) (k : ℕ) (hk : k ≤ 32) : states (front 1 f) (front 0 g) h (k + 32) = stateRow f g h k := by
  induction k with
  | zero => exact states_front _ _ _ _ le_rfl
  | succ k ih =>
    rw [show k + 1 + 32 = (k + 32) + 1 by omega, states, ih (by omega), stateRow, dif_pos (by omega)]
    exact congrArg₂ (fun x y => x * stateRow f g h k + y) (front_row 1 f ⟨k, by omega⟩) (front_row 0 g ⟨k, by omega⟩)

/-- The whole windows give the state after each row. -/
theorem stateRow_eq (hf : ∀ r, ∃ x : ℝ, 0 ≤ x ∧ f r = x) (h : EReal) (r : Fin 32) :
    prodRow f 32 r * h + sumRow f g 32 r = stateRow f g h (r + 1) := by
  have e := states_window (front 1 f) (front 0 g) (front_real f hf) h 32 (r + 32) (by omega)
  rw [states_front _ _ _ _ (by omega), show (r : ℕ) + 32 + 1 = (r + 1) + 32 by omega, states_row _ _ _ _ (by omega)] at e
  exact e

/-- The logarithm of the logistic function, as the kernel and the reference both compute it. -/
def logSig (x : EReal) : EReal := -(max (-x) 0 + Ideal.log1p (Ideal.exp (-(max x (-x)))))

theorem log1p_nonneg (x : EReal) (h : 0 ≤ x) : 0 ≤ Ideal.log1p x := by
  unfold Ideal.log1p
  induction x with
  | bot => simp at h
  | top => rw [show (1 : EReal) + ⊤ = ⊤ from EReal.add_top_of_ne_bot (EReal.coe_ne_bot 1)]; simp
  | coe r =>
    have h0 : 0 ≤ r := by exact_mod_cast h
    rw [← EReal.coe_one, ← EReal.coe_add, Ideal.log_coe, if_neg (by linarith)]
    exact_mod_cast Real.log_nonneg (by linarith)

theorem exp_nonneg (x : EReal) : 0 ≤ Ideal.exp x := by
  induction x with
  | bot => simp
  | top => simp
  | coe r => rw [Ideal.exp_coe]; exact_mod_cast (Real.exp_pos r).le

theorem logSig_nonpos (x : EReal) : logSig x ≤ 0 := by
  unfold logSig
  rw [EReal.neg_le, neg_zero]
  exact add_nonneg (le_max_right _ _) (log1p_nonneg _ (exp_nonneg _))

theorem logistic_nonneg (x : EReal) : 0 ≤ Ideal.logistic x := by
  induction x with
  | bot => simp
  | top => simp
  | coe r =>
    rw [Ideal.logistic_coe]
    exact_mod_cast inv_nonneg.2 (by have := Real.exp_pos (-r); linarith)

/-- The pattern of eight. -/
theorem eight_eq : Ideal.ofBits .f32 0x41000000#32 = ((8 : ℝ) : EReal) := by
  simp [Ideal.ofBits, Ideal.ieee]
  rw [← EReal.coe_mul]
  norm_num

/-- The pattern of two. -/
theorem two_eq : Ideal.ofBits .f32 0x40000000#32 = ((2 : ℝ) : EReal) := by
  simp [Ideal.ofBits, Ideal.ieee]
  rw [← EReal.coe_mul]
  norm_num

/-- The pattern of minus two. -/
theorem neg_two_eq : Ideal.ofBits .f32 0xC0000000#32 = ((-2 : ℝ) : EReal) := by
  simp [Ideal.ofBits, Ideal.ieee]
  rw [← EReal.coe_mul]
  norm_num

/-- The pattern of one. -/
theorem one_eq : Ideal.ofBits .f32 0x3F800000#32 = 1 := by
  simp [Ideal.ofBits, Ideal.ieee]
  rw [← EReal.coe_mul]
  norm_num

/-- The logarithm of a step's coefficient. -/
def logA (u l : EReal) : EReal := Ideal.ofBits .f32 0x41000000#32 * Ideal.logistic u * logSig l

theorem logA_nonpos (u l : EReal) : logA u l ≤ 0 := by
  unfold logA
  rw [eight_eq]
  refine EReal.mul_nonpos_iff.2 (Or.inl ⟨mul_nonneg (α := EReal) (show (0 : EReal) ≤ ((8 : ℝ) : EReal) by exact_mod_cast (by norm_num : (0 : ℝ) ≤ 8)) (logistic_nonneg u), logSig_nonpos l⟩)

/-- A step's coefficient is a nonnegative real. -/
theorem coeff_real (x : EReal) (h : x ≤ 0) : ∃ r : ℝ, 0 ≤ r ∧ Ideal.exp x = r := by
  induction x with
  | bot => exact ⟨0, le_rfl, by simp⟩
  | top => simp at h
  | coe r => exact ⟨Real.exp r, (Real.exp_pos r).le, rfl⟩

theorem real_tanh_exp (r : ℝ) : 1 - Real.tanh r ≠ 0 ∧ -2 * Real.tanh r * (1 / (1 - Real.tanh r)) = 1 - Real.exp (2 * r) := by
  have h1 : Real.exp (2 * r) = Real.exp r * Real.exp r := by rw [← Real.exp_add]; ring_nf
  have h2 : Real.exp r * Real.exp (-r) = 1 := by rw [← Real.exp_add]; simp
  have p1 := Real.exp_pos r
  rw [Real.tanh_eq_sinh_div_cosh, Real.sinh_eq, Real.cosh_eq, h1]
  generalize Real.exp r = u at *
  generalize Real.exp (-r) = v at *
  have hv : v = u⁻¹ := by field_simp; linarith
  subst hv
  have hu : u ≠ 0 := p1.ne'
  have hs : u * u + 1 ≠ 0 := by positivity
  have e : 1 - (u - u⁻¹) / 2 / ((u + u⁻¹) / 2) = 2 / (u * u + 1) := by field_simp; ring
  rw [e]
  refine ⟨by positivity, ?_⟩
  field_simp
  ring

/-- The input's scale from a hyperbolic tangent is the one from an exponential. -/
theorem scale_eq (x : EReal) (h : x ≤ 0) :
    Ideal.div (Ideal.ofBits .f32 0xC0000000#32 * Ideal.tanh x) (1 - Ideal.tanh x) = -(Ideal.exp (Ideal.ofBits .f32 0x40000000#32 * x) - 1) := by
  rw [two_eq, neg_two_eq]
  induction x with
  | top => simp at h
  | bot =>
    rw [EReal.coe_mul_bot_of_pos (by norm_num), Ideal.tanh_bot, Ideal.exp_bot, show (1 : EReal) - (-1) = ((2 : ℝ) : EReal) by
      rw [← EReal.coe_one, ← EReal.coe_neg, ← EReal.coe_sub]; norm_num, Ideal.div_coe (by norm_num), ← EReal.coe_one, ← EReal.coe_neg,
      ← EReal.coe_mul, ← EReal.coe_mul, ← EReal.coe_zero, ← EReal.coe_sub, ← EReal.coe_neg]
    norm_num
  | coe r =>
    rw [← EReal.coe_mul, Ideal.tanh_coe, Ideal.exp_coe, ← EReal.coe_one, ← EReal.coe_sub, Ideal.div_coe (real_tanh_exp r).1, ← EReal.coe_mul,
      ← EReal.coe_mul, (real_tanh_exp r).2, ← EReal.coe_sub, ← EReal.coe_neg]
    norm_num

end Cert.Lru

end
-- ==== Proof.LruSpec.lean ====
module

public import proofs.«01_k».proof.Proof.LruMath
public import Idealize.ShloMosaic.Lib.Pipeline.ValueKit

@[expose] public section

noncomputable section

/-!
The recurrence over one sequence of 32 positions, in plain numbers.
-/

namespace Cert.Lru

open Idealize.ShloMosaic

/-- A row for each of the 32 positions. -/
abbrev Rows := Fin 32 → Fin 1024 → EReal

/-- A gate's argument at a row and column: the column's block of inputs times its column of weights, plus the bias. -/
def mixed (z : Rows) (w : Fin 8 → Fin 128 → Fin 128 → EReal) (b : Fin 1024 → EReal) (r : Fin 32) (e : Fin 1024) : EReal :=
  ∑ d : Fin 128, z r ⟨(e : ℕ) / 128 * 128 + d, by omega⟩ * w ⟨(e : ℕ) / 128, by omega⟩ d ⟨(e : ℕ) % 128, by omega⟩ + b e

/-- What the recurrence reads of one sequence: its inputs, the three inputs before them, the state before them, and the weights. -/
structure Inputs where
  x : Rows
  past : Fin 3 → Fin 1024 → EReal
  state : Fin 1024 → EReal
  tap : Fin 4 → Fin 1024 → EReal
  bias : Fin 1024 → EReal
  wa : Fin 8 → Fin 128 → Fin 128 → EReal
  ba : Fin 1024 → EReal
  wx : Fin 8 → Fin 128 → Fin 128 → EReal
  bx : Fin 1024 → EReal
  lam : Fin 1024 → EReal

variable (I : Inputs)

/-- The inputs with the three before them in front. -/
def Inputs.seq (j : Fin 35) (e : Fin 1024) : EReal := if h : (j : ℕ) < 3 then I.past ⟨j, h⟩ e else I.x ⟨j - 3, by omega⟩ e

/-- The short convolution. -/
def Inputs.conv : Rows := fun r e =>
  I.seq ⟨r, by omega⟩ e * I.tap 0 e + I.seq ⟨r + 1, by omega⟩ e * I.tap 1 e + I.seq ⟨r + 2, by omega⟩ e * I.tap 2 e
    + I.seq ⟨r + 3, by omega⟩ e * I.tap 3 e + I.bias e

/-- The logarithm of a coefficient. -/
def Inputs.log (r : Fin 32) (e : Fin 1024) : EReal := logA (mixed I.conv I.wa I.ba r e) (I.lam e)

/-- A coefficient. -/
def Inputs.coeff (e : Fin 1024) (r : Fin 32) : EReal := Ideal.exp (I.log r e)

/-- A scaled input. -/
def Inputs.input (e : Fin 1024) (r : Fin 32) : EReal :=
  Ideal.sqrt (-(Ideal.exp (Ideal.ofBits .f32 0x40000000#32 * I.log r e) - 1)) * (Ideal.logistic (mixed I.conv I.wx I.bx r e) * I.conv r e)

/-- The state after `k` positions. -/
def Inputs.after (e : Fin 1024) (k : ℕ) : EReal := stateRow (I.coeff e) (I.input e) (I.state e) k

theorem Inputs.coeff_is_real (e : Fin 1024) (r : Fin 32) : ∃ x : ℝ, 0 ≤ x ∧ I.coeff e r = x := coeff_real _ (logA_nonpos _ _)

/-- What sequence `b` reads of the arguments. -/
def inputs (x : (⟨3, ![16, 32, 3072]⟩ : Shape).Idx → EReal) (p : (⟨4, ![1, 16, 3, 1024]⟩ : Shape).Idx → EReal) (h : (⟨3, ![1, 16, 1024]⟩ : Shape).Idx → EReal)
    (w : (⟨3, ![1, 4, 1024]⟩ : Shape).Idx → EReal) (cb : (⟨2, ![1, 1024]⟩ : Shape).Idx → EReal) (wa : (⟨4, ![1, 8, 128, 128]⟩ : Shape).Idx → EReal)
    (ba : (⟨2, ![1, 1024]⟩ : Shape).Idx → EReal) (wx : (⟨4, ![1, 8, 128, 128]⟩ : Shape).Idx → EReal) (bx lam : (⟨2, ![1, 1024]⟩ : Shape).Idx → EReal)
    (b : Fin 16) : Inputs where
  x r e := x (ix3 b r ⟨2048 + e, by omega⟩)
  past j e := p (ix4 0 b j e)
  state e := h (ix3 0 b e)
  tap k e := w (ix3 0 k e)
  bias e := cb (ix2 0 e)
  wa n d q := wa (ix4 0 n d q)
  ba e := ba (ix2 0 e)
  wx n d q := wx (ix4 0 n d q)
  bx e := bx (ix2 0 e)
  lam e := lam (ix2 0 e)

end Cert.Lru

end
-- ==== Proof.LruPay.lean ====
module

public import proofs.«01_k».proof.Proof.LruSpec
public import proofs.«01_k».proof.Proof.Gen.Kernel5Ideal.Skeleton
public import Idealize.ShloMosaic.Lib.Pipeline.ValueKit
public import Idealize.ShloMosaic.Lib.Pointwise

@[expose] public section

set_option maxRecDepth 16384

noncomputable section

/-!
The kernel's steps, entry by entry: the short convolution, the two gates, the coefficients and the doubling.
-/

namespace Cert.Lru

open Idealize.ShloMosaic Idealize.ShloMosaic.TcCoe Idealize.SL.Sem
open Cert.Kernel5Ideal Cert.Kernel5Ideal.Gen

/-- The short convolution at a row and column: bias, then the taps from the newest to the oldest. -/
theorem conv_at (b w3 w0 w1 w2 : FVec Ideal S1x1024 .f32) (x : FVec Ideal S1x32x1024 .f32) (y : FVec Ideal S40x1024 .f32) (r : Fin 32) (e : Fin 1024) :
    k0_pay10 (F := Ideal) y (k0_pay9 b w3 x y w0 w1) w2 (ix2 r e)
      = b (ix2 0 e) + w3 (ix2 0 e) * x (ix3 0 r e) + w0 (ix2 0 e) * y (ix2 ⟨r + 5, by omega⟩ e)
        + w1 (ix2 0 e) * y (ix2 ⟨r + 6, by omega⟩ e) + w2 (ix2 0 e) * y (ix2 ⟨r + 7, by omega⟩ e) := by
  have h5 : ((r : ℕ) + 5) % 40 = r + 5 := by omega
  have h6 : ((r : ℕ) + 6) % 40 = r + 6 := by omega
  have h7 : ((r : ℕ) + 7) % 40 = r + 7 := by omega
  pointwise [k0_pay10, k0_pay9]
  simp [h5, h6, h7]

/-- Eight blocks of 128 columns side by side. -/
theorem eight_at (p0 p1 p2 p3 p4 p5 p6 p7 : FVec Ideal S32x128 .f32) (r : Fin 32) (e : Fin 1024) :
    concatenate S32x1024 1 [⟨S32x128, p0⟩, ⟨S32x128, p1⟩, ⟨S32x128, p2⟩, ⟨S32x128, p3⟩, ⟨S32x128, p4⟩, ⟨S32x128, p5⟩, ⟨S32x128, p6⟩, ⟨S32x128, p7⟩]
      concatenates_S32x128_S32x128_S32x128_S32x128_S32x128_S32x128_S32x128_S32x128_S32x1024_d1 (ix2 r e)
      = (![p0, p1, p2, p3, p4, p5, p6, p7] ⟨(e : ℕ) / 128, by omega⟩) (ix2 r ⟨(e : ℕ) % 128, by omega⟩) := by
  obtain ⟨n, q, rfl⟩ : ∃ (n : Fin 8) (q : Fin 128), e = ⟨n * 128 + q, by omega⟩ :=
    ⟨⟨e / 128, by omega⟩, ⟨e % 128, by omega⟩, Fin.ext (by show (e : ℕ) = e / 128 * 128 + e % 128; omega)⟩
  have e1 : (⟨((n : ℕ) * 128 + q) / 128, by omega⟩ : Fin 8) = n := Fin.ext (by show ((n : ℕ) * 128 + q) / 128 = n; omega)
  have e2 : (⟨((n : ℕ) * 128 + q) % 128, by omega⟩ : Fin 128) = q := Fin.ext (by show ((n : ℕ) * 128 + q) % 128 = q; omega)
  simp only [e1, e2]
  fin_cases n
  all_goals
    pointwise
    repeat rw [dif_neg (by omega)]
    try rw [dif_pos (by omega)]
    try exact congrArg _ (congrArg (ix2 r) (Fin.ext (by dsimp only; omega)))

/-- Eight values, one of which is taken. -/
abbrev pick {α : Type} (x0 x1 x2 x3 x4 x5 x6 x7 : α) (n : Fin 8) : α := ![x0, x1, x2, x3, x4, x5, x6, x7] n

variable (y : FVec Ideal S40x1024 .f32) (c : FVec Ideal S32x1024 .f32) (t : FVec Ideal S1x1024 .f32)
  (u0 u1 u2 u3 u4 u5 u6 u7 : FVec Ideal S1x128x128 .bf16) (b : FVec Ideal S1x1024 .f32) (r : Fin 32) (e : Fin 1024)

/-- The input gate. -/
theorem gate_in_at :
    k0_pay34 (F := Ideal) (k0_pay12 y c t) (k0_pay15 y c t u0) (k0_pay18 y c t u1) (k0_pay21 (k0_pay19 y c t) u2) (k0_pay24 (k0_pay12 y c t) u3)
      (k0_pay27 (k0_pay12 y c t) u4) (k0_pay30 (k0_pay12 y c t) u5) (k0_pay31 (k0_pay12 y c t)) u6 u7 b (ix2 r e)
      = Ideal.logistic (mixed (fun r e => k0_pay10 (F := Ideal) y c t (ix2 r e)) (fun n d q => pick u0 u1 u2 u3 u4 u5 u6 u7 n (ix3 0 d q))
          (fun e => b (ix2 0 e)) r e) := by
  have hp : ∀ (n : Fin 8) (q : Fin 128), pick (k0_pay15 (F := Ideal) y c t u0) (k0_pay18 y c t u1) (k0_pay21 (k0_pay19 y c t) u2)
      (k0_pay24 (k0_pay12 y c t) u3) (k0_pay27 (k0_pay12 y c t) u4) (k0_pay30 (k0_pay12 y c t) u5)
      (k0_pay32 (k0_pay12 y c t) u6) (matmul dot_S32x128_S128x128_S32x128_1_0_0_1_n_n none (k0_pay33 (k0_pay12 y c t))
        (shapeCast S128x128 u7 shapeCasts_S1x128x128_S128x128) (constant S32x128 .f32 0x00000000#32)) n (ix2 r q)
      = ∑ d : Fin 128, k0_pay10 (F := Ideal) y c t (ix2 r ⟨n * 128 + d, by omega⟩) * pick u0 u1 u2 u3 u4 u5 u6 u7 n (ix3 0 d q) := by
    intro n q
    fin_cases n
    all_goals pointwise [k0_pay15, k0_pay18, k0_pay21, k0_pay24, k0_pay27, k0_pay30, k0_pay32, k0_pay12, k0_pay13, k0_pay16, k0_pay19, k0_pay22,
      k0_pay25, k0_pay28, k0_pay31, k0_pay33]
  have e1 := (eight_at _ _ _ _ _ _ _ _ r e).trans (hp ⟨(e : ℕ) / 128, by omega⟩ ⟨(e : ℕ) % 128, by omega⟩)
  have e2 : broadcastTo S32x1024 (shapeCast S1x1024 b shapeCasts_S1x1024_S1x1024) broadcasts_S1x1024_S32x1024 (ix2 r e) = b (ix2 0 e) := by pointwise
  refine Eq.trans ?_ (Cert.Gate.sigmoid_eq _)
  rw [mixed, ← e1, ← e2]
  rfl

/-- The recurrence gate, times eight. -/
theorem gate_rec_at :
    k0_pay35 (F := Ideal) (k0_pay12 y c t) (k0_pay14 y c t u0) (k0_pay17 y c t u1) (k0_pay20 y c t u2) (k0_pay23 (k0_pay12 y c t) u3)
      (k0_pay26 (k0_pay12 y c t) u4) (k0_pay29 (k0_pay12 y c t) u5) (k0_pay32 (k0_pay12 y c t) u6) u7 b (ix2 r e)
      = Ideal.ofBits .f32 0x41000000#32 * Ideal.logistic (mixed (fun r e => k0_pay10 (F := Ideal) y c t (ix2 r e))
          (fun n d q => pick u0 u1 u2 u3 u4 u5 u6 u7 n (ix3 0 d q)) (fun e => b (ix2 0 e)) r e) := by
  have hp : ∀ (n : Fin 8) (q : Fin 128), pick (k0_pay14 (F := Ideal) y c t u0) (k0_pay17 y c t u1) (k0_pay20 y c t u2)
      (k0_pay23 (k0_pay12 y c t) u3) (k0_pay26 (k0_pay12 y c t) u4) (k0_pay29 (k0_pay12 y c t) u5)
      (k0_pay32 (k0_pay12 y c t) u6) (matmul dot_S32x128_S128x128_S32x128_1_0_0_1_n_n none (k0_pay33 (k0_pay12 y c t))
        (shapeCast S128x128 u7 shapeCasts_S1x128x128_S128x128) (constant S32x128 .f32 0x00000000#32)) n (ix2 r q)
      = ∑ d : Fin 128, k0_pay10 (F := Ideal) y c t (ix2 r ⟨n * 128 + d, by omega⟩) * pick u0 u1 u2 u3 u4 u5 u6 u7 n (ix3 0 d q) := by
    intro n q
    fin_cases n
    all_goals pointwise [k0_pay14, k0_pay17, k0_pay20, k0_pay23, k0_pay26, k0_pay29, k0_pay32, k0_pay12, k0_pay13, k0_pay16, k0_pay19, k0_pay22,
      k0_pay25, k0_pay28, k0_pay31, k0_pay33]
  have e1 := (eight_at _ _ _ _ _ _ _ _ r e).trans (hp ⟨(e : ℕ) / 128, by omega⟩ ⟨(e : ℕ) % 128, by omega⟩)
  have e2 : broadcastTo S32x1024 (shapeCast S1x1024 b shapeCasts_S1x1024_S1x1024) broadcasts_S1x1024_S32x1024 (ix2 r e) = b (ix2 0 e) := by pointwise
  refine congrArg (Ideal.ofBits .f32 0x41000000#32 * ·) (Eq.trans ?_ (Cert.Gate.sigmoid_eq _))
  rw [mixed, ← e1, ← e2]
  rfl

variable (g l : FVec Ideal S32x1024 .f32) (lam : FVec Ideal S1x1024 .f32)

/-- The logarithm of the coefficients. -/
theorem log_at : k0_pay37 (F := Ideal) l (k0_pay36 lam) (ix2 r e) = l (ix2 r e) * logSig (lam (ix2 0 e)) := by
  pointwise [k0_pay37, k0_pay36, logSig]
  simp only [zero_sub]
  rfl

/-- The coefficients. -/
theorem coeff_at : k0_pay38 (F := Ideal) l (k0_pay36 lam) (ix2 r e) = Ideal.exp (l (ix2 r e) * logSig (lam (ix2 0 e))) := by
  rw [← log_at]; rfl

/-- The scaled inputs. -/
theorem input_at : k0_pay39 (F := Ideal) c g l (k0_pay36 lam) (ix2 r e)
    = Ideal.sqrt (Ideal.div (Ideal.ofBits .f32 0xC0000000#32 * Ideal.tanh (l (ix2 r e) * logSig (lam (ix2 0 e))))
        (Ideal.ofBits .f32 0x3F800000#32 - Ideal.tanh (l (ix2 r e) * logSig (lam (ix2 0 e))))) * (g (ix2 r e) * c (ix2 r e)) := by
  rw [← log_at]; rfl

end Cert.Lru

end
-- ==== Proof.LruScan.lean ====
module

public import proofs.«01_k».proof.Proof.LruPay

@[expose] public section

set_option maxRecDepth 16384

noncomputable section

/-!
The recurrence's blocks of 32 rows: each doubling step at a row and column.
-/

namespace Cert.Lru

open Idealize.ShloMosaic Idealize.ShloMosaic.TcCoe Idealize.SL.Sem
open Cert.Kernel5Ideal Cert.Kernel5Ideal.Gen

/-- The kernel's number of rows. -/
abbrev rows : BitVec 32 := Scalar.select (Scalar.cmpi .eq 32#32 0#32) 1#32 32#32

/-- The kernel's row number. -/
abbrev rowOf (r : ℕ) : BitVec 32 := IntOp.remsi .vector (BitVec.ofNat 32 r) rows

/-- The kernel's test that a row comes before row `d`. -/
abbrev before (d : BitVec 32) (r : ℕ) : BitVec 1 :=
  IntOp.cmpi .slt (Scalar.select (IntOp.andi (IntOp.xori (IntOp.cmpi .slt (rowOf r) 0#32) (Scalar.cmpi .slt rows 0#32)) (IntOp.cmpi .ne (rowOf r) 0#32))
    (IntOp.addi (rowOf r) rows) (rowOf r)) d

theorem before_one : ∀ r : Fin 32, before 1#32 r = if (r : ℕ) < 1 then 1#1 else 0#1 := by decide +kernel
theorem before_two : ∀ r : Fin 32, before 2#32 r = if (r : ℕ) < 2 then 1#1 else 0#1 := by decide +kernel
theorem before_four : ∀ r : Fin 32, before 4#32 r = if (r : ℕ) < 4 then 1#1 else 0#1 := by decide +kernel

/-- A rotation by `d` rows with the first `d` rows filled is a shift. -/
theorem shifted (d : ℕ) (m : BitVec 1) (r : Fin 32) (hm : m = if (r : ℕ) < d then 1#1 else 0#1) (hd : d < 32) (x : EReal) (f : Fin 32 → EReal) :
    Scalar.select m x (f ⟨((r : ℕ) + 32 - d) % 32, Nat.mod_lt _ (by omega)⟩) = if h : (r : ℕ) < d then x else f ⟨r - d, by omega⟩ := by
  rw [hm]
  by_cases h : (r : ℕ) < d
  · rw [if_pos h, dif_pos h]; rfl
  · rw [if_neg h, dif_neg h]
    refine Eq.trans rfl (congrArg f (Fin.ext ?_))
    show ((r : ℕ) + 32 - d) % 32 = r - d
    omega

/-- The same under a factor, filled with zero. -/
theorem shifted_mul (d : ℕ) (m : BitVec 1) (r : Fin 32) (hm : m = if (r : ℕ) < d then 1#1 else 0#1) (hd : d < 32) (a : EReal) (f : Fin 32 → EReal) :
    Scalar.select m 0 (a * f ⟨((r : ℕ) + 32 - d) % 32, Nat.mod_lt _ (by omega)⟩) = a * if h : (r : ℕ) < d then 0 else f ⟨r - d, by omega⟩ := by
  rw [← shifted d m r hm hd 0 f]
  unfold Scalar.select
  split
  · rw [mul_zero]
  · rfl

variable (A B : FVec Ideal S32x1024 .f32) (e : Fin 1024) (f g : Fin 32 → EReal)

theorem prods_two (hA : ∀ r, A (ix2 r e) = f r) (r : Fin 32) : k0_pay44 (F := Ideal) A (ix2 r e) = prodRow f 2 r := by
  rw [show (2 : ℕ) = 1 + 1 from rfl, prodRow_double]
  simp only [prodRow_one, ← hA]
  pointwise [k0_pay44]
  exact congrArg (A (ix2 r e) * ·) (shifted 1 _ r (before_one r) (by omega) 1 fun r => A (ix2 r e))

theorem prods_four (hA : ∀ r, A (ix2 r e) = prodRow f 2 r) (r : Fin 32) : k0_pay48 (F := Ideal) A (ix2 r e) = prodRow f 4 r := by
  rw [show (4 : ℕ) = 2 + 2 from rfl, prodRow_double]
  simp only [← hA]
  pointwise [k0_pay48]
  exact congrArg (A (ix2 r e) * ·) (shifted 2 _ r (before_two r) (by omega) 1 fun r => A (ix2 r e))

theorem prods_eight (hA : ∀ r, A (ix2 r e) = prodRow f 4 r) (r : Fin 32) : k0_pay54 (F := Ideal) A (ix2 r e) = prodRow f 8 r := by
  rw [show (8 : ℕ) = 4 + 4 from rfl, prodRow_double]
  simp only [← hA]
  pointwise [k0_pay54]
  exact congrArg (A (ix2 r e) * ·) (shifted 4 _ r (before_four r) (by omega) 1 fun r => A (ix2 r e))

theorem prods_sixteen (hA : ∀ r, A (ix2 r e) = prodRow f 4 r) (r : Fin 32) : k0_pay56 (F := Ideal) A (ix2 r e) = prodRow f 16 r := by
  rw [show (16 : ℕ) = 8 + 8 from rfl, prodRow_double]
  simp only [← prods_eight A e f hA]
  pointwise [k0_pay56]

variable (c i l : FVec Ideal S32x1024 .f32) (lam : FVec Ideal S1x1024 .f32) (hf : ∀ r, ∃ x : ℝ, 0 ≤ x ∧ f r = x)

include hf

theorem sums_two (hA : ∀ r, A (ix2 r e) = f r) (hB : ∀ r, k0_pay39 (F := Ideal) c i l lam (ix2 r e) = g r) (r : Fin 32) :
    k0_pay43 (F := Ideal) A (k0_pay39 c i l lam) (k0_pay40 c i l lam) k0_pay41 k0_pay42 (ix2 r e) = sumRow f g 2 r := by
  rw [show (2 : ℕ) = 1 + 1 from rfl, sumRow_double _ _ hf]
  simp only [prodRow_one, sumRow_one, ← hA, ← hB]
  pointwise [k0_pay43, k0_pay40, k0_pay41, k0_pay42]
  exact congrArg (k0_pay39 (F := Ideal) c i l lam (ix2 r e) + ·)
    (shifted_mul 1 _ r (before_one r) (by omega) (A (ix2 r e)) fun r => k0_pay39 (F := Ideal) c i l lam (ix2 r e))

theorem sums_four (b x y : FVec Ideal S32x1024 .f32) (m : IVec S32x1024 1) (z : FVec Ideal S32x1024 .f32) (hA : ∀ r, A (ix2 r e) = prodRow f 2 r)
    (hB : ∀ r, k0_pay43 (F := Ideal) b x y m z (ix2 r e) = sumRow f g 2 r) (r : Fin 32) :
    k0_pay47 (F := Ideal) (k0_pay43 b x y m z) A (k0_pay45 b x y m z) k0_pay46 (ix2 r e) = sumRow f g 4 r := by
  rw [show (4 : ℕ) = 2 + 2 from rfl, sumRow_double _ _ hf]
  simp only [← hA, ← hB]
  pointwise [k0_pay47, k0_pay45, k0_pay46]
  exact congrArg (k0_pay43 (F := Ideal) b x y m z (ix2 r e) + ·)
    (shifted_mul 2 _ r (before_two r) (by omega) (A (ix2 r e)) fun r => k0_pay43 (F := Ideal) b x y m z (ix2 r e))

theorem sums_sixteen (b x y : FVec Ideal S32x1024 .f32) (m : IVec S32x1024 32) (hA : ∀ r, A (ix2 r e) = prodRow f 4 r)
    (hB : ∀ r, k0_pay47 (F := Ideal) b x y m (ix2 r e) = sumRow f g 4 r) (r : Fin 32) :
    k0_pay55 (F := Ideal) (k0_pay47 b x y m) A (k0_pay49 b x y m) rows k0_pay50 k0_pay51 k0_pay52 k0_pay53 (ix2 r e) = sumRow f g 16 r := by
  have h8 : ∀ r : Fin 32, k0_pay47 (F := Ideal) b x y m (ix2 r e) + Scalar.select (before 4#32 r) 0
      (A (ix2 r e) * k0_pay47 (F := Ideal) b x y m (ix2 ⟨((r : ℕ) + 32 - 4) % 32, Nat.mod_lt _ (by omega)⟩ e)) = sumRow f g 8 r := by
    intro r
    rw [show (8 : ℕ) = 4 + 4 from rfl, sumRow_double _ _ hf]
    simp only [← hA, ← hB]
    exact congrArg (k0_pay47 (F := Ideal) b x y m (ix2 r e) + ·)
      (shifted_mul 4 _ r (before_four r) (by omega) (A (ix2 r e)) fun r => k0_pay47 (F := Ideal) b x y m (ix2 r e))
  rw [show (16 : ℕ) = 8 + 8 from rfl, sumRow_double _ _ hf]
  pointwise [k0_pay55, k0_pay49, k0_pay50, k0_pay51, k0_pay52, k0_pay53]
  refine congrArg₂ (· + ·) (h8 r) (congrArg₂ (· * ·) (prods_eight A e f hA r) ?_)
  by_cases h : (r : ℕ) < 8
  · rw [dif_pos h, dif_pos h]
  · rw [dif_neg h, dif_neg h]
    exact h8 ⟨r - 8, by omega⟩

/-- The last doubling, and the state before the block. -/
theorem states_at (p : FVec Ideal S1x1024 .f32) (hA : ∀ r, A (ix2 r e) = prodRow f 16 r) (hB : ∀ r, B (ix2 r e) = sumRow f g 16 r) (r : Fin 32) :
    k0_pay1 (F := Ideal) B A p (ix2 r e) = stateRow f g (p (ix2 0 e)) (r + 1) := by
  rw [← stateRow_eq f g hf, prodRow_double f 16 r, sumRow_double f g hf 16 r]
  simp only [← hA, ← hB]
  pointwise [k0_pay1]

omit hf

/-- The kernel's block of states, from its loads, when they are a sequence's inputs. -/
theorem block_at (I : Inputs) (x : FVec Ideal S40x1024 .f32) (y : FVec Ideal S32x1024 .f32) (t : FVec Ideal S1x1024 .f32)
    (u0 u1 u2 u3 u4 u5 u6 u7 w0 w1 w2 w3 w4 w5 w6 w7 : FVec Ideal S1x128x128 .bf16) (ba bx lam p : FVec Ideal S1x1024 .f32)
    (hz : ∀ r e, k0_pay10 (F := Ideal) x y t (ix2 r e) = I.conv r e)
    (hu : ∀ n d q, pick u0 u1 u2 u3 u4 u5 u6 u7 n (ix3 0 d q) = I.wa n d q)
    (hw : ∀ n d q, pick w0 w1 w2 w3 w4 w5 w6 w7 n (ix3 0 d q) = I.wx n d q)
    (hba : ∀ e, ba (ix2 0 e) = I.ba e) (hbx : ∀ e, bx (ix2 0 e) = I.bx e) (hl : ∀ e, lam (ix2 0 e) = I.lam e) (hp : ∀ e, p (ix2 0 e) = I.state e)
    (g i a : FVec Ideal S32x1024 .f32)
    (hg : g = k0_pay35 (k0_pay12 x y t) (k0_pay14 x y t u0) (k0_pay17 x y t u1) (k0_pay20 x y t u2) (k0_pay23 (k0_pay12 x y t) u3)
      (k0_pay26 (k0_pay12 x y t) u4) (k0_pay29 (k0_pay12 x y t) u5) (k0_pay32 (k0_pay12 x y t) u6) u7 ba)
    (hi : i = k0_pay34 (k0_pay12 x y t) (k0_pay15 x y t w0) (k0_pay18 x y t w1) (k0_pay21 (k0_pay19 x y t) w2) (k0_pay24 (k0_pay12 x y t) w3)
      (k0_pay27 (k0_pay12 x y t) w4) (k0_pay30 (k0_pay12 x y t) w5) (k0_pay31 (k0_pay12 x y t)) w6 w7 bx)
    (ha : a = k0_pay38 g (k0_pay36 lam)) (r : Fin 32) (e : Fin 1024) :
    k0_pay1 (F := Ideal)
      (k0_pay55
        (k0_pay47
          (k0_pay43 a (k0_pay39 (k0_pay10 x y t) i g (k0_pay36 lam)) (k0_pay40 (k0_pay10 x y t) i g (k0_pay36 lam)) k0_pay41 k0_pay42)
          (k0_pay44 a)
          (k0_pay45 a (k0_pay39 (k0_pay10 x y t) i g (k0_pay36 lam)) (k0_pay40 (k0_pay10 x y t) i g (k0_pay36 lam)) k0_pay41 k0_pay42) k0_pay46)
        (k0_pay48 (k0_pay44 a))
        (k0_pay49
          (k0_pay43 a (k0_pay39 (k0_pay10 x y t) i g (k0_pay36 lam)) (k0_pay40 (k0_pay10 x y t) i g (k0_pay36 lam)) k0_pay41 k0_pay42)
          (k0_pay44 a)
          (k0_pay45 a (k0_pay39 (k0_pay10 x y t) i g (k0_pay36 lam)) (k0_pay40 (k0_pay10 x y t) i g (k0_pay36 lam)) k0_pay41 k0_pay42) k0_pay46)
        rows k0_pay50 k0_pay51 k0_pay52 k0_pay53)
      (k0_pay56 (k0_pay48 (k0_pay44 a))) p (ix2 r e) = I.after e (r + 1) := by
  have hc : (fun r e => k0_pay10 (F := Ideal) x y t (ix2 r e)) = I.conv := funext fun r => funext fun e => hz r e
  have hL : ∀ r, g (ix2 r e) * logSig (lam (ix2 0 e)) = I.log r e := fun r => by
    rw [hg, gate_rec_at, hc, hl, show (fun n d q => pick u0 u1 u2 u3 u4 u5 u6 u7 n (ix3 0 d q)) = I.wa from
      funext fun n => funext fun d => funext fun q => hu n d q, show (fun e => ba (ix2 0 e)) = I.ba from funext hba]
    rfl
  have hA : ∀ r, a (ix2 r e) = I.coeff e r := fun r => by rw [ha, coeff_at, hL]; rfl
  have hB : ∀ r, k0_pay39 (F := Ideal) (k0_pay10 x y t) i g (k0_pay36 lam) (ix2 r e) = I.input e r := fun r => by
    rw [input_at, hL, one_eq, scale_eq (I.log r e) (logA_nonpos _ _), hi, gate_in_at, hc, hz, show (fun n d q => pick w0 w1 w2 w3 w4 w5 w6 w7 n (ix3 0 d q)) = I.wx from
      funext fun n => funext fun d => funext fun q => hw n d q, show (fun e => bx (ix2 0 e)) = I.bx from funext hbx]
    rfl
  have hf := I.coeff_is_real e
  have A2 := prods_two a e (I.coeff e) hA
  have A4 := prods_four _ e (I.coeff e) A2
  have A16 := prods_sixteen _ e (I.coeff e) A4
  have B2 := sums_two a e (I.coeff e) (I.input e) (k0_pay10 x y t) i g (k0_pay36 lam) hf hA hB
  have B4 := sums_four _ e (I.coeff e) (I.input e) hf _ _ _ _ _ A2 B2
  have B16 := sums_sixteen _ e (I.coeff e) (I.input e) hf _ _ _ _ A4 B4
  rw [states_at _ _ e (I.coeff e) (I.input e) hf p A16 B16, hp]
  rfl

end Cert.Lru

end
-- ==== Proof.LruBlock.lean ====
module

public import proofs.«01_k».proof.Proof.LruScan
public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

/-!
What the recurrence's kernel writes back at a grid point: the states of its sequence's 32 positions, and the last one.
-/

namespace Cert.Lru

open Idealize.ShloMosaic Idealize.ShloMosaic.TcCoe Idealize.SL.Sem
open Cert.Kernel5Ideal Cert.Kernel5Ideal.Gen Cert.Kernel5Ideal.Value

/-- Reading the scratch, eight rows of halo and then 32 rows of input. -/
theorem halo_read {sp : Space} (v : View sig .tc sp S40x1024 .f32) (P1 : FVec Ideal S32x1024 .f32) (P0 : FVec Ideal S8x1024 .f32)
    (i1 : ∀ x, (![8, 0] : Fin 2 → ℕ) x + (![32, 1024] : Fin 2 → ℕ) x ≤ S40x1024.size x)
    (i0 : ∀ x, (![0, 0] : Fin 2 → ℕ) x + (![8, 1024] : Fin 2 → ℕ) x ≤ S40x1024.size x)
    (il : ∀ x, (![0, 0] : Fin 2 → ℕ) x + (![40, 1024] : Fin 2 → ℕ) x ≤ S40x1024.size x) (j : Fin 40) (d : Fin 1024) :
    v.readCov (Val := Elt Ideal) [⟨Rect.unit ![8, 0] ![32, 1024] i1, P1⟩, ⟨Rect.unit ![0, 0] ![8, 1024] i0, P0⟩]
      (Rect.unit (s := S40x1024) ![0, 0] ![40, 1024] il).toLoadRect (ix2 j d)
      = if h : (j : ℕ) < 8 then P0 (ix2 ⟨j, h⟩ d) else P1 (ix2 ⟨j - 8, by omega⟩ d) := by
  rw [View.readCov_eq_canon']
  show View.canon _ ((Rect.unit (s := S40x1024) ![0, 0] ![40, 1024] il).idx (ix2 j d)) = _
  have v0 : (((Rect.unit (s := S40x1024) ![0, 0] ![40, 1024] il).idx (ix2 j d)) 0 : ℕ) = j := by
    rw [Rect.idx_unit_val]; exact Nat.zero_add _
  have v1 : (((Rect.unit (s := S40x1024) ![0, 0] ![40, 1024] il).idx (ix2 j d)) 1 : ℕ) = d := by
    rw [Rect.idx_unit_val]; exact Nat.zero_add _
  by_cases h : (j : ℕ) < 8
  · rw [dif_pos h, View.canon_cons_of_not_mem _ _ (fun hm => by
      have := ((Rect.mem_set_unit (inb := i1).1 hm) 0).1
      simp [v0] at this; omega)]
    have : (Rect.unit (s := S40x1024) ![0, 0] ![40, 1024] il).idx (ix2 j d)
        = (Rect.unit (s := S40x1024) ![0, 0] ![8, 1024] i0).emb (ix2 ⟨j, h⟩ d) := by
      funext x; refine Fin.ext ?_
      fin_cases x
      · refine v0.trans ?_; refine Eq.symm ((Rect.idx_unit_val ..).trans ?_); simp
      · refine v1.trans ?_; refine Eq.symm ((Rect.idx_unit_val ..).trans ?_); simp
    rw [this, View.canon_cons_emb]
  · rw [dif_neg h]
    have : (Rect.unit (s := S40x1024) ![0, 0] ![40, 1024] il).idx (ix2 j d)
        = (Rect.unit (s := S40x1024) ![8, 0] ![32, 1024] i1).emb (ix2 ⟨j - 8, by omega⟩ d) := by
      funext x; refine Fin.ext ?_
      fin_cases x
      · refine v0.trans ?_; refine Eq.symm ((Rect.idx_unit_val ..).trans ?_)
        show 8 + ((j : ℕ) - 8) = j; omega
      · refine v1.trans ?_; refine Eq.symm ((Rect.idx_unit_val ..).trans ?_); simp
    rw [this, View.canon_cons_emb]

variable (m : (ℓ : Loc nD τ sig) → Buf (Elt Ideal) ℓ)

/-- What sequence `b` reads of the launch's arguments. -/
abbrev given (c : Dev nD) (b : Fin 16) : Inputs :=
  inputs (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) b

/-- Where the windows stand at each grid point. -/
theorem index_maps : ∀ t : Fin cfg0.N, win0_0.index t = ![t.val, 0, 2] ∧ win0_1.index t = ![t.val, 0, 0] ∧ win0_2.index t = ![t.val, 0, 0]
    ∧ win0_3.index t = ![0, 0] ∧ win0_4.index t = ![0, 0] ∧ win0_5.index t = ![0, 0, 0] ∧ win0_6.index t = ![0, 0] ∧ win0_7.index t = ![0, 0, 0]
    ∧ win0_8.index t = ![0, 0] ∧ win0_9.index t = ![0, 0] ∧ win0_10.index t = ![t.val, 0, 0] ∧ win0_11.index t = ![t.val, 0, 0]
    := (by decide +kernel : ∀ t : Fin grid0.N, _)

/-- A grid point's sequence. -/
def sequence (t : Fin cfg0.N) : Fin 16 := ⟨t.val, lt_of_lt_of_eq t.isLt N_0⟩

variable (c : Dev nD) (t : Fin cfg0.N)

theorem read0 (r : Fin 32) (e : Fin 1024) : iblk m c 0 t (ix3 0 r e) = (given m c (sequence t)).x r e := by
  have ht : t.val < 16 := lt_of_lt_of_eq t.isLt N_0
  have h : iblk m c 0 t (ix3 0 r e) = V m c main_arg0 (ix3 ⟨t.val, ht⟩ r ⟨2048 + e, by omega⟩) := by blk_ext [iblk, index_maps t]
  rw [h]; entry_read; rfl

/-- The past, with five rows of zeros in front. -/
theorem pad_at (A : FVec Ideal S1x16x3x1024 .f32) (b : Fin 16) (j : Fin 3) (e : Fin 1024) :
    pad S16x8x1024 ![0, 5, 0] ![0, 0, 0] ![0, 0, 0] (shapeCast S16x3x1024 A shapeCasts_S1x16x3x1024_S16x3x1024)
      (sitofp (F := Ideal) .f32 (constantI S_ 32 0#32)) pads_S16x3x1024_S16x8x1024_000_500_000 h_S_ (ix3 b ⟨5 + j, by omega⟩ e) = A (ix4 0 b j e) := by
  pointwise

theorem read1 (j : Fin 3) (e : Fin 1024) : iblk m c 1 t (ix3 0 ⟨5 + j, by omega⟩ e) = (given m c (sequence t)).past j e := by
  have ht : t.val < 16 := lt_of_lt_of_eq t.isLt N_0
  have h : iblk m c 1 t (ix3 0 ⟨5 + j, by omega⟩ e) = V m c main_v1 (ix3 ⟨t.val, ht⟩ ⟨5 + j, by omega⟩ e) := by blk_ext [iblk, index_maps t]
  rw [h]; simp only [V, hostOps0, hostOps0_1, hostOps0_2, List.flatten_cons, List.flatten_nil, List.cons_append, List.nil_append]; entry_read;
  exact pad_at (m ((c : Thread nD τ).loc main_arg1)) ⟨t.val, ht⟩ j e

theorem read2 (e : Fin 1024) : iblk m c 2 t (ix3 0 0 e) = (given m c (sequence t)).state e := by
  have ht : t.val < 16 := lt_of_lt_of_eq t.isLt N_0
  have h : iblk m c 2 t (ix3 0 0 e) = V m c main_v3 (ix3 ⟨t.val, ht⟩ 0 e) := by blk_ext [iblk, index_maps t]
  rw [h]; simp only [V, hostOps0, hostOps0_1, hostOps0_2, List.flatten_cons, List.flatten_nil, List.cons_append, List.nil_append]; entry_read; pointwise; rfl

theorem read3 (k : Fin 4) (e : Fin 1024) : iblk m c 3 t (ix2 k e) = (given m c (sequence t)).tap k e := by
  have h : iblk m c 3 t (ix2 k e) = V m c main_v4 (ix2 k e) := by blk_ext [iblk, index_maps t]
  rw [h]; simp only [V, hostOps0, hostOps0_1, hostOps0_2, List.flatten_cons, List.flatten_nil, List.cons_append, List.nil_append]; entry_read; pointwise; rfl

theorem read4 (e : Fin 1024) : iblk m c 4 t (ix2 0 e) = (given m c (sequence t)).bias e := by
  have h : iblk m c 4 t (ix2 0 e) = V m c main_v13 (ix2 0 e) := by blk_ext [iblk, index_maps t]
  rw [h]; simp only [V, hostOps0, hostOps0_1, hostOps0_2, List.flatten_cons, List.flatten_nil, List.cons_append, List.nil_append]; entry_read; pointwise; rfl

theorem read5 (n : Fin 8) (d q : Fin 128) : iblk m c 5 t (ix3 n d q) = (given m c (sequence t)).wa n d q := by
  have h : iblk m c 5 t (ix3 n d q) = V m c main_v7 (ix3 n d q) := by blk_ext [iblk, index_maps t]
  rw [h]; simp only [V, hostOps0, hostOps0_1, hostOps0_2, List.flatten_cons, List.flatten_nil, List.cons_append, List.nil_append]; entry_read; pointwise; rfl

theorem read6 (e : Fin 1024) : iblk m c 6 t (ix2 0 e) = (given m c (sequence t)).ba e := by
  have h : iblk m c 6 t (ix2 0 e) = V m c main_v14 (ix2 0 e) := by blk_ext [iblk, index_maps t]
  rw [h]; simp only [V, hostOps0, hostOps0_1, hostOps0_2, List.flatten_cons, List.flatten_nil, List.cons_append, List.nil_append]; entry_read; pointwise; rfl

theorem read7 (n : Fin 8) (d q : Fin 128) : iblk m c 7 t (ix3 n d q) = (given m c (sequence t)).wx n d q := by
  have h : iblk m c 7 t (ix3 n d q) = V m c main_v10 (ix3 n d q) := by blk_ext [iblk, index_maps t]
  rw [h]; simp only [V, hostOps0, hostOps0_1, hostOps0_2, List.flatten_cons, List.flatten_nil, List.cons_append, List.nil_append]; entry_read; pointwise; rfl

theorem read8 (e : Fin 1024) : iblk m c 8 t (ix2 0 e) = (given m c (sequence t)).bx e := by
  have h : iblk m c 8 t (ix2 0 e) = V m c main_v15 (ix2 0 e) := by blk_ext [iblk, index_maps t]
  rw [h]; simp only [V, hostOps0, hostOps0_1, hostOps0_2, List.flatten_cons, List.flatten_nil, List.cons_append, List.nil_append]; entry_read; pointwise; rfl

theorem read9 (e : Fin 1024) : iblk m c 9 t (ix2 0 e) = (given m c (sequence t)).lam e := by
  have h : iblk m c 9 t (ix2 0 e) = V m c main_v16 (ix2 0 e) := by blk_ext [iblk, index_maps t]
  rw [h]; simp only [V, hostOps0, hostOps0_1, hostOps0_2, List.flatten_cons, List.flatten_nil, List.cons_append, List.nil_append]; entry_read; pointwise; rfl

/-- The scratch's rows from the sixth on are the sequence with its past in front. -/
theorem halo_at (x0 : FVec Ideal S1x32x1024 .f32) (x1 : FVec Ideal S1x8x1024 .f32) (P1 : FVec Ideal S32x1024 .f32) (P0 : FVec Ideal S8x1024 .f32)
    (e1 : P1 = k0_pay8 x0) (e0 : P0 = k0_pay6 x1) (I : Inputs) (h0 : ∀ r e, x0 (ix3 0 r e) = I.x r e)
    (h1 : ∀ (j : Fin 3) e, x1 (ix3 0 ⟨5 + j, by omega⟩ e) = I.past j e) (j : Fin 35) (e : Fin 1024)
    (i1 : ∀ x, (![8, 0] : Fin 2 → ℕ) x + (![32, 1024] : Fin 2 → ℕ) x ≤ S40x1024.size x)
    (i0 : ∀ x, (![0, 0] : Fin 2 → ℕ) x + (![8, 1024] : Fin 2 → ℕ) x ≤ S40x1024.size x)
    (il : ∀ x, (![0, 0] : Fin 2 → ℕ) x + (![40, 1024] : Fin 2 → ℕ) x ≤ S40x1024.size x) :
    (View.whole cc0_scratch0).readCov (Val := Elt Ideal) [⟨Rect.unit ![8, 0] ![32, 1024] i1, P1⟩, ⟨Rect.unit ![0, 0] ![8, 1024] i0, P0⟩]
      (Rect.unit (s := S40x1024) ![0, 0] ![40, 1024] il).toLoadRect (ix2 ⟨j + 5, by omega⟩ e) = I.seq j e := by
  subst e1 e0
  rw [halo_read]
  unfold Inputs.seq
  by_cases h : (j : ℕ) < 3
  · rw [dif_pos (by show (j : ℕ) + 5 < 8; omega), dif_pos h, ← h1]
    pointwise [k0_pay6]
    exact congrArg (fun z => x1 (ix3 0 z e)) (Fin.ext (Nat.add_comm _ _))
  · rw [dif_neg (by show ¬ (j : ℕ) + 5 < 8; omega), dif_neg h, ← h0]
    pointwise [k0_pay8]
    exact congrArg (fun z => x0 (ix3 0 z e)) (Fin.ext (by show (j : ℕ) + 5 - 8 = j - 3; omega))

/-- The convolution in the kernel's order. -/
theorem conv_sum (I : Inputs) (r : Fin 32) (e : Fin 1024) (b w3 x w0 y0 w1 y1 w2 y2 : EReal) (hb : b = I.bias e) (h0 : w0 = I.tap 0 e)
    (h1 : w1 = I.tap 1 e) (h2 : w2 = I.tap 2 e) (h3 : w3 = I.tap 3 e) (hx : x = I.x r e) (g0 : y0 = I.seq ⟨r, by omega⟩ e)
    (g1 : y1 = I.seq ⟨r + 1, by omega⟩ e) (g2 : y2 = I.seq ⟨r + 2, by omega⟩ e) :
    b + w3 * x + w0 * y0 + w1 * y1 + w2 * y2 = I.conv r e := by
  have g3 : I.x r e = I.seq ⟨r + 3, by omega⟩ e := by
    unfold Inputs.seq
    rw [dif_neg (by show ¬ (r : ℕ) + 3 < 3; omega)]
    rfl
  rw [hb, h0, h1, h2, h3, hx, g0, g1, g2, g3, Inputs.conv, mul_comm (I.tap 0 e), mul_comm (I.tap 1 e), mul_comm (I.tap 2 e), mul_comm (I.tap 3 e)]
  ac_rfl

set_option maxHeartbeats 4000000 in
/-- The block of states written back. -/
theorem out_states (l : Fin 32) (e : Fin 1024) : (outsAt0 m c t).1 (ix3 0 l e) = (given m c (sequence t)).after e (l + 1) := by
  unfold outsAt0
  frame_out
  rw [show ∀ (B A : FVec Ideal S32x1024 .f32) (p : FVec Ideal S1x1024 .f32), k0_pay2 (F := Ideal) B A p (ix3 0 l e) = k0_pay1 B A p (ix2 l e) from
    fun B A p => by pointwise [k0_pay2]]
  refine block_at (given m c (sequence t)) _ _ _ _ _ _ _ _ _ _ _ _ _ _ _ _ _ _ _ _ _ _ _ ?_ ?_ ?_ ?_ ?_ ?_ ?_ _ _ _ rfl rfl rfl l e
  · intro r e
    refine (conv_at ..).trans (conv_sum _ r e _ _ _ _ _ _ _ _ _ (read4 m c t e) ?_ ?_ ?_ ?_ (read0 m c t r e)
      (halo_at _ _ _ _ rfl rfl _ (read0 m c t) (read1 m c t) ⟨r, by omega⟩ e _ _ _)
      (halo_at _ _ _ _ rfl rfl _ (read0 m c t) (read1 m c t) ⟨r + 1, by omega⟩ e _ _ _)
      (halo_at _ _ _ _ rfl rfl _ (read0 m c t) (read1 m c t) ⟨r + 2, by omega⟩ e _ _ _))
    all_goals
      pointwise
      exact read3 m c t _ e
  · intro n d q
    fin_cases n
    all_goals
      pointwise
      exact read5 m c t _ d q
  · intro n d q
    fin_cases n
    all_goals
      pointwise
      exact read7 m c t _ d q
  · exact read6 m c t
  · exact read8 m c t
  · exact read9 m c t
  · intro e
    pointwise [k0_pay7]
    exact read2 m c t e

set_option maxHeartbeats 4000000 in
/-- The last state written back. -/
theorem out_last (e : Fin 1024) : (outsAt0 m c t).2 (ix3 0 0 e) = (given m c (sequence t)).after e 32 := by
  unfold outsAt0
  frame_out
  rw [show ∀ (B A : FVec Ideal S32x1024 .f32) (p : FVec Ideal S1x1024 .f32), k0_pay5 (F := Ideal) B A p (ix3 0 0 e) = k0_pay1 B A p (ix2 31 e) from
    fun B A p => by pointwise [k0_pay5, k0_pay3]]
  refine block_at (given m c (sequence t)) _ _ _ _ _ _ _ _ _ _ _ _ _ _ _ _ _ _ _ _ _ _ _ ?_ ?_ ?_ ?_ ?_ ?_ ?_ _ _ _ rfl rfl rfl 31 e
  · intro r e
    refine (conv_at ..).trans (conv_sum _ r e _ _ _ _ _ _ _ _ _ (read4 m c t e) ?_ ?_ ?_ ?_ (read0 m c t r e)
      (halo_at _ _ _ _ rfl rfl _ (read0 m c t) (read1 m c t) ⟨r, by omega⟩ e _ _ _)
      (halo_at _ _ _ _ rfl rfl _ (read0 m c t) (read1 m c t) ⟨r + 1, by omega⟩ e _ _ _)
      (halo_at _ _ _ _ rfl rfl _ (read0 m c t) (read1 m c t) ⟨r + 2, by omega⟩ e _ _ _))
    all_goals
      pointwise
      exact read3 m c t _ e
  · intro n d q
    fin_cases n
    all_goals
      pointwise
      exact read5 m c t _ d q
  · intro n d q
    fin_cases n
    all_goals
      pointwise
      exact read7 m c t _ d q
  · exact read6 m c t
  · exact read8 m c t
  · exact read9 m c t
  · intro e
    pointwise [k0_pay7]
    exact read2 m c t e

end Cert.Lru

end
-- ==== Proof.LruRef.lean ====
module

public import proofs.«01_k».proof.Proof.LruSpec
public import proofs.«01_k».proof.Proof.Gen.Reference5Ideal.Run
public import Idealize.ShloMosaic.Lib.WordCmp
public import Idealize.ShloMosaic.Lib.Pipeline.ValueKit
public import Idealize.ShloMosaic.Lib.Pointwise

@[expose] public section

set_option maxRecDepth 16384

noncomputable section

/-!
What the reference's recurrence computes: its coefficients and inputs, and its loop over the positions.
-/

namespace Cert.Lru.Ref

open Idealize.ShloMosaic Idealize.ShloMosaic.TcCoe Idealize.SL.Sem
open Cert.Reference5Ideal Cert.Reference5Ideal.Gen Cert.Reference5Ideal.Value Idealize.ShloMosaic.StableHlo

section Terms

variable (x0 : FVec Ideal S16x32x3072 .f32) (x1 : FVec Ideal S1x16x3x1024 .f32) (x2 : FVec Ideal S1x16x1024 .f32) (x3 : FVec Ideal S1x4x1024 .f32)
  (x4 : FVec Ideal S1x1024 .f32) (x5 : FVec Ideal S1x8x128x128 .f32) (x6 : FVec Ideal S1x1024 .f32) (x7 : FVec Ideal S1x8x128x128 .f32)
  (x8 x9 : FVec Ideal S1x1024 .f32)

/-- A row laid over all sequences and positions. -/
def laid (v : FVec Ideal S1024 .f32) : FVec Ideal S16x32x1024 .f32 :=
  broadcastInDim S16x32x1024 ![0, 1, 2] bcast_S1x1x1024_S16x32x1024_0_1_2 (broadcastInDim S1x1x1024 ![2] bcast_S1024_S1x1x1024_2 v)

/-- A number everywhere. -/
def everywhere (w : BitVec 32) : FVec Ideal S16x32x1024 .f32 := broadcastInDim S16x32x1024 ![] bcast_S_S16x32x1024 (constant S_ .f32 w)

/-- The inputs with the past in front. -/
def whole : FVec Ideal S16x35x1024 .f32 :=
  concatenate S16x35x1024 1 [⟨S16x3x1024, shapeCast S16x3x1024 x1 shapeCasts_S1x16x3x1024_S16x3x1024⟩,
    ⟨S16x32x1024, extractStridedSlice S16x32x1024 ![0, 0, 2048] x0 slices_S16x32x3072_S16x32x1024_0_0_2048⟩] concatenates_S16x3x1024_S16x32x1024_S16x35x1024_d1

/-- The short convolution. -/
def convolved : FVec Ideal S16x32x1024 .f32 :=
  addf (addf (addf (addf
    (mulf (extractStridedSlice S16x32x1024 ![0, 0, 0] (whole x0 x1) slices_S16x35x1024_S16x32x1024_0_0_0)
      (laid (shapeCast S1024 (extractStridedSlice S1x1x1024 ![0, 0, 0] x3 slices_S1x4x1024_S1x1x1024_0_0_0) shapeCasts_S1x1x1024_S1024)))
    (mulf (extractStridedSlice S16x32x1024 ![0, 1, 0] (whole x0 x1) slices_S16x35x1024_S16x32x1024_0_1_0)
      (laid (shapeCast S1024 (extractStridedSlice S1x1x1024 ![0, 1, 0] x3 slices_S1x4x1024_S1x1x1024_0_1_0) shapeCasts_S1x1x1024_S1024))))
    (mulf (extractStridedSlice S16x32x1024 ![0, 2, 0] (whole x0 x1) slices_S16x35x1024_S16x32x1024_0_2_0)
      (laid (shapeCast S1024 (extractStridedSlice S1x1x1024 ![0, 2, 0] x3 slices_S1x4x1024_S1x1x1024_0_2_0) shapeCasts_S1x1x1024_S1024))))
    (mulf (extractStridedSlice S16x32x1024 ![0, 3, 0] (whole x0 x1) slices_S16x35x1024_S16x32x1024_0_3_0)
      (laid (shapeCast S1024 (extractStridedSlice S1x1x1024 ![0, 3, 0] x3 slices_S1x4x1024_S1x1x1024_0_3_0) shapeCasts_S1x1x1024_S1024))))
    (laid (shapeCast S1024 x4 shapeCasts_S1x1024_S1024))

/-- A gate. -/
def gate (z : FVec Ideal S16x32x1024 .f32) (w : FVec Ideal S1x8x128x128 .f32) (b : FVec Ideal S1x1024 .f32) : FVec Ideal S16x32x1024 .f32 :=
  Host.divf (everywhere 0x3F800000#32) (addf (everywhere 0x3F800000#32) (Host.exp (Host.negf (addf
    (shapeCast S16x32x1024 (transpose S16x32x8x128 [2, 3, 0, 1]
      (Host.dotGeneral dot_S8x128x128_S16x32x8x128_S8x128x16x32_1_3_2_01_0_2 none (shapeCast S8x128x128 w shapeCasts_S1x8x128x128_S8x128x128)
        (shapeCast S16x32x8x128 z shapeCasts_S16x32x1024_S16x32x8x128) : FVec Ideal S8x128x16x32 .f32)
      transposes_S8x128x16x32_S16x32x8x128_2_3_0_1) shapeCasts_S16x32x8x128_S16x32x1024)
    (laid (shapeCast S1024 b shapeCasts_S1x1024_S1024))))))

/-- Zeros in a row. -/
def zeros : FVec Ideal S1024 .f32 := broadcastInDim S1024 ![] bcast_S_S1024 (constant S_ .f32 0x00000000#32)

/-- The logarithm of the logistic function of a row. -/
def logSigmoid (v : FVec Ideal S1024 .f32) : FVec Ideal S1024 .f32 :=
  Host.negf (select (cmpf .une (subf (Host.negf v) zeros) (subf (Host.negf v) zeros)) (addf (Host.negf v) zeros)
    (addf (maximumf (Host.negf v) zeros) (Host.log1p (Host.exp (Host.negf (Host.absf (subf (Host.negf v) zeros)))))))

/-- The logarithms of the coefficients. -/
def logs : FVec Ideal S16x32x1024 .f32 :=
  mulf (mulf (everywhere 0x41000000#32) (gate (convolved x0 x1 x3 x4) x5 x6)) (laid (logSigmoid (shapeCast S1024 x9 shapeCasts_S1x1024_S1024)))

/-- The scaled inputs. -/
def scaled : FVec Ideal S16x32x1024 .f32 :=
  mulf (Host.sqrt (Host.negf (Host.expm1 (mulf (everywhere 0x40000000#32) (logs x0 x1 x3 x4 x5 x6 x9)))))
    (mulf (gate (convolved x0 x1 x3 x4) x7 x8) (convolved x0 x1 x3 x4))

theorem laid_at (v : FVec Ideal S1024 .f32) (b : Fin 16) (r : Fin 32) (e : Fin 1024) : laid v (ix3 b r e) = v (ix1 e) := by pointwise [laid]

theorem whole_at (b : Fin 16) (j : Fin 35) (e : Fin 1024) : whole x0 x1 (ix3 b j e) = (inputs x0 x1 x2 x3 x4 x5 x6 x7 x8 x9 b).seq j e := by
  unfold Inputs.seq
  pointwise [whole]
  rfl

theorem convolved_at (b : Fin 16) (r : Fin 32) (e : Fin 1024) :
    convolved x0 x1 x3 x4 (ix3 b r e) = (inputs x0 x1 x2 x3 x4 x5 x6 x7 x8 x9 b).conv r e := by
  unfold Inputs.conv
  simp only [← whole_at]
  pointwise [convolved, laid_at]
  simp only [Nat.add_comm 1, Nat.add_comm 2, Nat.add_comm 3]
  rfl

theorem gate_at (z : FVec Ideal S16x32x1024 .f32) (w : FVec Ideal S1x8x128x128 .f32) (v : FVec Ideal S1x1024 .f32) (b : Fin 16) (r : Fin 32) (e : Fin 1024) :
    gate z w v (ix3 b r e) = Ideal.logistic (mixed (fun r e => z (ix3 b r e)) (fun n d q => w (ix4 0 n d q)) (fun e => v (ix2 0 e)) r e) := by
  unfold mixed Ideal.logistic
  pointwise [gate, laid_at, everywhere]
  exact congrArg (fun q => Ideal.div 1 (1 + Ideal.exp (-(q + v (ix2 0 e))))) (Finset.sum_congr rfl fun x _ => mul_comm _ _)

theorem logSigmoid_at (v : FVec Ideal S1024 .f32) (e : Fin 1024) : logSigmoid v (ix1 e) = logSig (v (ix1 e)) := by
  unfold logSig
  pointwise [logSigmoid, zeros]
  rw [if_neg (fun h => h rfl), show (FloatOps.absf (-(v (ix1 e))) : EReal) = max (-(v (ix1 e))) (-(-(v (ix1 e)))) from rfl, neg_neg,
    max_comm (-(v (ix1 e))) (v (ix1 e))]

theorem logs_at (b : Fin 16) (r : Fin 32) (e : Fin 1024) :
    logs x0 x1 x3 x4 x5 x6 x9 (ix3 b r e) = (inputs x0 x1 x2 x3 x4 x5 x6 x7 x8 x9 b).log r e := by
  pointwise [logs, laid_at, everywhere]
  rw [logSigmoid_at, gate_at]
  simp only [convolved_at x0 x1 x2 x3 x4 x5 x6 x7 x8 x9]
  pointwise
  rfl

theorem scaled_at (b : Fin 16) (r : Fin 32) (e : Fin 1024) :
    scaled x0 x1 x3 x4 x5 x6 x7 x8 x9 (ix3 b r e) = (inputs x0 x1 x2 x3 x4 x5 x6 x7 x8 x9 b).input e r := by
  unfold Inputs.input
  rw [← logs_at, ← convolved_at]
  pointwise [scaled, everywhere]
  rw [gate_at]
  simp only [convolved_at x0 x1 x2 x3 x4 x5 x6 x7 x8 x9]
  rfl

end Terms

section Loop

theorem start_at (w : IVec S_ 32) (k : ℕ) (hk : k < 32) (hw : w = fun _ => BitVec.ofNat 32 k) (a : Fin 3) :
    (((![w, constantI S_ 32 0#32, constantI S_ 32 0#32] : Fin 3 → IVec S_ 32) a) (Shape.Idx.first h_S_)).toInt = ((![k, 0, 0] a : ℕ) : ℤ) := by
  subst hw
  fin_cases a
  · exact WordCmp.toInt_ofNat_of_lt (by omega)
  · rfl
  · rfl

theorem fits (k : ℕ) (hk : k < 32) : S32x16x1024.Slices ![k, 0, 0] S1x16x1024 := by
  refine ⟨rfl, fun a => ?_⟩
  fin_cases a
  · show k + 1 ≤ 32
    omega
  · show 0 + 16 ≤ 16
    omega
  · show 0 + 1024 ≤ 1024
    omega

theorem slice_at (x : FVec Ideal S32x16x1024 .f32) (w : IVec S_ 32) (k : ℕ) (hk : k < 32) (hw : w = fun _ => BitVec.ofNat 32 k) (b : Fin 16) (e : Fin 1024) :
    shapeCast S16x1024 (Host.dynamicSlice S1x16x1024 x (fun a => (((![w, constantI S_ 32 0#32, constantI S_ 32 0#32] : Fin 3 → IVec S_ 32) a)
      (Shape.Idx.first h_S_)).toInt) sliceFits_S32x16x1024_S1x16x1024) shapeCasts_S1x16x1024_S16x1024 (ix2 b e) = x (ix3 ⟨k, hk⟩ b e) := by
  rw [WordCmp.dynamicSlice_eq_extract _ _ _ _ ![k, 0, 0] (fits k hk) (start_at w k hk hw)]
  pointwise

theorem update_at (x : FVec Ideal S32x16x1024 .f32) (u : FVec Ideal S1x16x1024 .f32) (w : IVec S_ 32) (k : ℕ) (hk : k < 32) (hw : w = fun _ => BitVec.ofNat 32 k)
    (j : Fin 32) (b : Fin 16) (e : Fin 1024) :
    Host.dynamicUpdateSlice x u (fun a => (((![w, constantI S_ 32 0#32, constantI S_ 32 0#32] : Fin 3 → IVec S_ 32) a)
      (Shape.Idx.first h_S_)).toInt) updateFits_S32x16x1024_S1x16x1024 (ix3 j b e) = if (j : ℕ) = k then u (ix3 0 b e) else x (ix3 j b e) := by
  rw [WordCmp.dynamicUpdateSlice_eq_update _ _ _ _ ![k, 0, 0] (fits k hk) (start_at w k hk hw), updateSlice]
  by_cases hj : (j : ℕ) = k
  · rw [if_pos hj, dif_pos]
    · refine congrArg u (funext fun a => Fin.ext ?_)
      fin_cases a
      · show (j : ℕ) - k = 0
        omega
      · rfl
      · rfl
    · intro a
      fin_cases a
      · show k ≤ (j : ℕ) ∧ (j : ℕ) < k + 1
        omega
      · show 0 ≤ (b : ℕ) ∧ (b : ℕ) < 0 + 16
        omega
      · show 0 ≤ (e : ℕ) ∧ (e : ℕ) < 0 + 1024
        omega
  · rw [if_neg hj, dif_neg]
    intro h
    have h0 : k ≤ (j : ℕ) ∧ (j : ℕ) < k + 1 := h 0
    omega

variable (V : Valuation τ sig (Elt Ideal))

/-- The coefficients the loop reads. -/
def coeffs : FVec Ideal S32x16x1024 .f32 := V (Proc.devRef .tc main_v82_0)

/-- The inputs it reads. -/
def drives : FVec Ideal S32x16x1024 .f32 := V (Proc.devRef .tc main_v82_1)

/-- Its counter. -/
def counter : IVec S_ 32 := V (Proc.devRef .tc main_v82_2)

/-- Its state. -/
def current : FVec Ideal S16x1024 .f32 := V (Proc.devRef .tc main_v82_3)

/-- The states it has left so far. -/
def collected : FVec Ideal S32x16x1024 .f32 := V (Proc.devRef .tc main_v82_4)

theorem over_at (u : FVec Ideal S16x1024 .f32) (b : Fin 16) (e : Fin 1024) :
    broadcastInDim S1x16x1024 ![1, 2] bcast_S16x1024_S1x16x1024_1_2 u (ix3 0 b e) = u (ix2 b e) := by pointwise

theorem current_next : current (STEP V) = res_main_while0b_v89 V := STEP_main_v82_3 V

theorem collected_next : collected (STEP V) = Host.dynamicUpdateSlice (collected V) (broadcastInDim S1x16x1024 ![1, 2] bcast_S16x1024_S1x16x1024_1_2
    (res_main_while0b_v89 V : FVec Ideal S16x1024 .f32)) (fun a => (((![counter V, constantI S_ 32 0#32, constantI S_ 32 0#32] : Fin 3 → IVec S_ 32) a)
      (Shape.Idx.first h_S_)).toInt) updateFits_S32x16x1024_S1x16x1024 := STEP_main_v82_4 V

variable (k : ℕ) (hk : k < 32) (hc : counter V = fun _ => BitVec.ofNat 32 k)

include hc

/-- One trip's new state. -/
theorem state_step (b : Fin 16) (e : Fin 1024) :
    current (STEP V) (ix2 b e) = coeffs V (ix3 ⟨k, hk⟩ b e) * current V (ix2 b e) + drives V (ix3 ⟨k, hk⟩ b e) := by
  unfold current
  rw [STEP_main_v82_3]
  exact congrArg₂ (fun p q : EReal => p * current V (ix2 b e) + q) (slice_at (coeffs V) (counter V) k hk hc b e) (slice_at (drives V) (counter V) k hk hc b e)

include hk

/-- One trip's states so far. -/
theorem states_step (j : Fin 32) (b : Fin 16) (e : Fin 1024) :
    collected (STEP V) (ix3 j b e) = if (j : ℕ) = k then current (STEP V) (ix2 b e) else collected V (ix3 j b e) := by
  rw [collected_next, current_next, update_at _ _ _ k hk hc, over_at]

omit hk

/-- One trip's counter. -/
theorem counter_step : counter (STEP V) = fun _ => BitVec.ofNat 32 (k + 1) := by
  have h : counter (STEP V) = addi (counter V) (constantI S_ 32 1#32) := by
    unfold counter
    rw [STEP_main_v82_2]
    rfl
  rw [h, hc]
  exact funext fun _ => (BitVec.ofNat_add k 1).symm

omit hc

theorem coeffs_step : coeffs (STEP V) = coeffs V := STEP_main_v82_0 V

theorem drives_step : drives (STEP V) = drives V := STEP_main_v82_1 V

theorem turned_at (z : FVec Ideal S16x32x1024 .f32) (r : Fin 32) (b : Fin 16) (e : Fin 1024) :
    transpose S32x16x1024 [1, 0, 2] z transposes_S16x32x1024_S32x16x1024_1_0_2 (ix3 r b e) = z (ix3 b r e) := by pointwise

theorem out84_at (b : Fin 16) (r : Fin 32) (e : Fin 1024) : (out_main_v84 V : FVec Ideal S16x32x1024 .bf16) (ix3 b r e) = collected V (ix3 r b e) := by
  unfold out_main_v84
  pointwise
  rfl

theorem out85_at (b : Fin 16) (e : Fin 1024) : (out_main_v85 V : FVec Ideal S16x1x1024 .f32) (ix3 b 0 e) = current V (ix2 b e) := by
  unfold out_main_v85
  pointwise
  rfl

end Loop

variable (m : (ℓ : Loc nD τ sig) → Buf (Elt Ideal) ℓ) (c : Dev nD)

set_option maxHeartbeats 4000000 in
theorem entry0 : entryContents preI m c (Proc.devRef .tc main_v82_0) = transpose S32x16x1024 [1, 0, 2] (Host.exp (logs (m ((c : Thread nD τ).loc main_arg0))
    (m ((c : Thread nD τ).loc main_arg1)) (m ((c : Thread nD τ).loc main_arg3)) (m ((c : Thread nD τ).loc main_arg4)) (m ((c : Thread nD τ).loc main_arg5))
    (m ((c : Thread nD τ).loc main_arg6)) (m ((c : Thread nD τ).loc main_arg9)))) transposes_S16x32x1024_S32x16x1024_1_0_2 := by
  simp only [entryContents, afterL_cons, afterL_nil]
  after_reads_simp
  rfl

set_option maxHeartbeats 4000000 in
theorem entry1 : entryContents preI m c (Proc.devRef .tc main_v82_1) = transpose S32x16x1024 [1, 0, 2] (scaled (m ((c : Thread nD τ).loc main_arg0))
    (m ((c : Thread nD τ).loc main_arg1)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)))
    transposes_S16x32x1024_S32x16x1024_1_0_2 := by
  simp only [entryContents, afterL_cons, afterL_nil]
  after_reads_simp
  rfl

theorem entry3 : entryContents preI m c (Proc.devRef .tc main_v82_3) = shapeCast S16x1024 (m ((c : Thread nD τ).loc main_arg2)) shapeCasts_S1x16x1024_S16x1024 := by
  simp only [entryContents, afterL_cons, afterL_nil]
  after_reads_simp
  rfl

/-- What sequence `b` reads of the arguments. -/
abbrev given (b : Fin 16) : Inputs := inputs (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) b

/-- The contents at the loop's start. -/
abbrev start : Valuation τ sig (Elt Ideal) := entryContents preI m c

theorem coeff0 (r : Fin 32) (b : Fin 16) (e : Fin 1024) : coeffs (start m c) (ix3 r b e) = (given m c b).coeff e r := by
  unfold coeffs
  refine (congrFun (entry0 m c) _).trans ?_
  exact (turned_at _ r b e).trans (congrArg Ideal.exp (logs_at ..))

theorem input0 (r : Fin 32) (b : Fin 16) (e : Fin 1024) : drives (start m c) (ix3 r b e) = (given m c b).input e r := by
  unfold drives
  refine (congrFun (entry1 m c) _).trans ?_
  exact (turned_at _ r b e).trans (scaled_at ..)

theorem rows_at (h : FVec Ideal S1x16x1024 .f32) (b : Fin 16) (e : Fin 1024) : shapeCast S16x1024 h shapeCasts_S1x16x1024_S16x1024 (ix2 b e) = h (ix3 0 b e) := by
  pointwise

theorem state0 (b : Fin 16) (e : Fin 1024) : current (start m c) (ix2 b e) = (given m c b).state e := by
  unfold current
  refine (congrFun (entry3 m c) _).trans ?_
  exact rows_at _ b e

/-- After `k` trips: the coefficients and inputs as at entry, the counter, the state, and the states so far. -/
theorem loop (k : ℕ) (hk : k ≤ 32) :
    coeffs (STEP^[k] (start m c)) = coeffs (start m c) ∧ drives (STEP^[k] (start m c)) = drives (start m c)
    ∧ counter (STEP^[k] (start m c)) = (fun _ => BitVec.ofNat 32 k)
    ∧ (∀ (b : Fin 16) (e : Fin 1024), current (STEP^[k] (start m c)) (ix2 b e) = (given m c b).after e k)
    ∧ ∀ (j : Fin 32) (b : Fin 16) (e : Fin 1024), (j : ℕ) < k → collected (STEP^[k] (start m c)) (ix3 j b e) = (given m c b).after e (j + 1) := by
  induction k with
  | zero => exact ⟨rfl, rfl, ctr_entry m c, state0 m c, fun j b e h => absurd h (by omega)⟩
  | succ k ih =>
    obtain ⟨h0, h1, h2, h3, h4⟩ := ih (by omega)
    rw [Function.iterate_succ_apply']
    have hs : ∀ (b : Fin 16) (e : Fin 1024), current (STEP (STEP^[k] (start m c))) (ix2 b e) = (given m c b).after e (k + 1) := fun b e => by
      rw [state_step _ k (by omega) h2, h0, h1, h3, coeff0, input0, Inputs.after, Inputs.after, stateRow, dif_pos (by omega)]
    refine ⟨(coeffs_step _).trans h0, (drives_step _).trans h1, counter_step _ k h2, hs, fun j b e hj => ?_⟩
    rw [states_step _ k (by omega) h2]
    by_cases h : (j : ℕ) = k
    · rw [if_pos h, hs, h]
    · rw [if_neg h]
      exact h4 j b e (by omega)

/-- The reference's states. -/
theorem states_at (b : Fin 16) (r : Fin 32) (e : Fin 1024) :
    (out_main_v84 (STEP^[32] (start m c)) : FVec Ideal S16x32x1024 .bf16) (ix3 b r e) = (given m c b).after e (r + 1) :=
  (out84_at _ b r e).trans ((loop m c 32 le_rfl).2.2.2.2 r b e r.isLt)

/-- The reference's last states. -/
theorem last_at (b : Fin 16) (e : Fin 1024) :
    (out_main_v85 (STEP^[32] (start m c)) : FVec Ideal S16x1x1024 .f32) (ix3 b 0 e) = (given m c b).after e 32 :=
  (out85_at _ b e).trans ((loop m c 32 le_rfl).2.2.2.1 b e)

end Cert.Lru.Ref

end
-- ==== Proof.Lru.lean ====
module

public import proofs.«01_k».proof.Defs
public import proofs.«01_k».proof.Proof.LruBlock
public import proofs.«01_k».proof.Proof.LruRef
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

/-!
The recurrence's run, and that the reference computes the same.
-/

namespace Cert.Lru

open Idealize.ShloMosaic Idealize.ShloMosaic.TcCoe Idealize.SL.Sem

section Frames
open Cert.Kernel5Ideal Cert.Kernel5Ideal.Gen

/-- The kernel runs over the extended reals, keeps its arguments and leaves every counter at zero. -/
theorem frame_ideal : Cert.quiescent_Kernel5Ideal (hKernel5Ideal := Cert.Kernel5Ideal.Gen.facts) := fun m g _ => frame m g

/-- The two programs' kernel bodies are the same. -/
theorem same_body : Cert.Kernel5.defs₀ (F := Bits) = Cert.Kernel5Ideal.defs₀ (F := Bits) := by
  unfold Cert.Kernel5.defs₀ Cert.Kernel5Ideal.defs₀
  refine congrArg _ (funext fun l => funext fun a => ?_)
  match l, a with
  | 0, (_, _) => rfl

/-- So are their definitions. -/
theorem same_defs : Cert.Kernel5.defs (F := Bits) = Cert.Kernel5Ideal.defs (F := Bits) := congrArg (Pipeline.defs _) same_body

/-- The kernel runs on bits likewise: its text is the same. -/
theorem frame_kernel : Cert.quiescent_Kernel5 (hKernel5 := Cert.Kernel5.Gen.facts) := fun m g _ => by
  rw [same_defs]
  exact frame (F := Bits) m g

end Frames

section Kernel
open Cert.Kernel5Ideal Cert.Kernel5Ideal.Gen Cert.Kernel5Ideal.Value

variable (m : (ℓ : Loc nD τ sig) → Buf (Elt Ideal) ℓ)

/-- The states after every position. -/
def allStates (I : Fin 16 → Inputs) : S16x32x1024.Idx → EReal := fun i => (I (i 0)).after (i 2) ((i 1 : ℕ) + 1)

/-- The states after the last position. -/
def lastStates (I : Fin 16 → Inputs) : S16x1x1024.Idx → EReal := fun i => (I (i 0)).after (i 2) 32

/-- The written blocks make up the states. -/
theorem states_array (c : Dev nD) : (dats m 0 c).arrAt 10 cfg0.N = allStates (given m c) := by
  refine (dats m 0 c).arrAt_eq_of_covers 10 _ (by decide +kernel) fun t hf y => ?_
  blk_simp
  rw [after0_10]
  idx_vars y
  obtain rfl : y0 = 0 := Subsingleton.elim (α := Fin 1) _ _
  have he : ((View.whole main_v17_0).slice (win0_10.rect t)).emb (ix3 0 y1 y2) = (ix3 (sequence t) y1 y2 : S16x32x1024.Idx) := by
    blk_ext [index_maps t, sequence]
  rw [he]
  exact out_states m c t y1 y2

/-- The written rows make up the last states. -/
theorem last_array (c : Dev nD) : (dats m 0 c).arrAt 11 cfg0.N = lastStates (given m c) := by
  refine (dats m 0 c).arrAt_eq_of_covers 11 _ (by decide +kernel) fun t hf y => ?_
  blk_simp
  rw [after0_11]
  idx_vars y
  obtain rfl : y0 = 0 := Subsingleton.elim (α := Fin 1) _ _
  obtain rfl : y1 = 0 := Subsingleton.elim (α := Fin 1) _ _
  have he : ((View.whole main_v17_1).slice (win0_11.rect t)).emb (ix3 0 0 y2) = (ix3 (sequence t) 0 y2 : S16x1x1024.Idx) := by
    blk_ext [index_maps t, sequence]
  rw [he]
  exact out_last m c t y2

/-- After the run the results hold these states, and the arguments are as before. -/
theorem run_results (g : Dev nD → PrngReg) : θ_run defs (onTc (τ := τ) (main (F := Ideal))) ⟨m, fun _ => 0, g⟩ fun r => ∀ c : Dev nD,
      r.2.mem ((c : Thread nD τ).loc main_v17_0) = allStates (given m c)
      ∧ r.2.mem ((c : Thread nD τ).loc main_v17_1) = lastStates (given m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (states_array m c), (h c).2.1.trans (last_array m c), (h c).2.2⟩) (run_blocks m g)

end Kernel

section Reference
open Cert.Reference5Ideal Cert.Reference5Ideal.Gen Cert.Reference5Ideal.Value Idealize.ShloMosaic.StableHlo

variable (m : (ℓ : Loc nD τ sig) → Buf (Elt Ideal) ℓ) (c : Dev nD)

/-- The reference's states. -/
theorem ref_states : out_main_v84 (STEP^[32] (entryContents preI m c)) = allStates (Ref.given m c) := by
  funext i
  idx_vars i
  exact Ref.states_at m c i0 i1 i2

/-- The reference's last states. -/
theorem ref_last : out_main_v85 (STEP^[32] (entryContents preI m c)) = lastStates (Ref.given m c) := by
  funext i
  idx_vars i
  obtain rfl : i1 = 0 := Subsingleton.elim (α := Fin 1) _ _
  exact Ref.last_at m c i0 i2

end Reference

/-- The recurrence and its reference give equal results. -/
theorem equal : Cert.algebraic_Kernel5Ideal_Reference5Ideal (hKernel5Ideal := Cert.Kernel5Ideal.Gen.facts)
    (hReference5Ideal := Cert.Reference5Ideal.Gen.facts) := by
  intro m g m' g' _ hagree
  refine ⟨fun c => allStates (given m c), fun c => lastStates (given m c), run_results m g,
    (θ_run _ _ _).mono (fun r h c => ?_) (Cert.Reference5Ideal.Value.run m' g')⟩
  obtain ⟨h0, h1, hr⟩ := h c
  obtain ⟨e0, e1, e2, e3, e4, e5, e6, e7, e8, e9⟩ := hagree c
  have hg : Ref.given m' c = given m c := by
    unfold Ref.given
    rw [e0, e1, e2, e3, e4, e5, e6, e7, e8, e9]
  exact ⟨h0.trans ((ref_states m' c).trans (congrArg allStates hg)), h1.trans ((ref_last m' c).trans (congrArg lastStates hg)), hr⟩

/-- The reference runs, keeps its arguments and leaves every counter at zero. -/
theorem reference_runs : Cert.quiescent_Reference5Ideal (hReference5Ideal := Cert.Reference5Ideal.Gen.facts) := by
  intro m g _
  exact (θ_run _ _ _).mono (fun r h => ⟨fun c => (h c).2.2, sem_eq_zero_of_no_sems (by decide) r.2⟩) (Cert.Reference5Ideal.Value.run m g)

end Cert.Lru

end
-- ==== Proof.lean ====
/- The claims about the calls, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Equal
public import proofs.«01_k».proof.Proof.OutProj
public import proofs.«01_k».proof.Proof.Final
public import proofs.«01_k».proof.Proof.InProj
public import proofs.«01_k».proof.Proof.Lru
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The attention call and the reference give equal results. -/
theorem attention_equal : Cert.algebraic_KernelIdeal_ReferenceIdeal_pre_finite_scores (hKernelIdeal := Cert.KernelIdeal.Gen.facts)
    (hReferenceIdeal := Cert.ReferenceIdeal.Gen.facts) (hPre_finite_scores := Cert.Attn.pre_facts) := by
  intro m g m' g' hpre hagree
  refine ⟨fun c => Cert.KernelIdeal.Value.G8 m c, fun c => Cert.KernelIdeal.Value.G9 m c, fun c => Cert.KernelIdeal.Value.G10 m c,
    Cert.KernelIdeal.Value.run m g, (θ_run _ _ _).mono (fun r h c => ?_) (Cert.ReferenceIdeal.Value.run m' g')⟩
  obtain ⟨h0, h1, h2, h3, h4⟩ := h c
  obtain ⟨e0, e1⟩ := hagree c
  refine ⟨h0.trans ?_, h1.trans ?_, h2.trans ?_, h3, h4⟩
  · rw [Cert.ReferenceIdeal.Read.val_main_v92_eq, e0, e1]
    exact Cert.Attn.out_eq (hp := Cert.Attn.pre_facts) m hpre c
  · rw [Cert.ReferenceIdeal.Read.val_main_v93_eq, e0]
    exact Cert.Attn.keys_eq m c
  · rw [Cert.ReferenceIdeal.Read.val_main_v94_eq, e0]
    exact Cert.Attn.values_eq m c

/-- The attention's reference runs, keeps its arguments and leaves every counter at zero. -/
theorem reference_runs : Cert.quiescent_ReferenceIdeal (hReferenceIdeal := Cert.ReferenceIdeal.Gen.facts) := by
  intro m g _
  exact (θ_run _ _ _).mono (fun r h => ⟨fun c => (h c).2.2.2, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Attn.pre_facts, Cert.OutProj.pre_facts, Cert.Final.pre_facts,
  fun m g _ => Cert.Kernel.Gen.frame m g, fun m g _ => Cert.KernelIdeal.Gen.frame m g, fun m g _ => Cert.KernelIdeal.Gen.frame m g,
  reference_runs, fun m g _ => reference_runs m g trivial,
  fun m g _ => Cert.Kernel2.Gen.frame m g, fun m g _ => Cert.Kernel2Ideal.Gen.frame m g, fun m g _ => Cert.Kernel2Ideal.Gen.frame m g,
  Cert.OutProj.reference_runs, fun m g _ => Cert.OutProj.reference_runs m g trivial,
  fun m g _ => Cert.Kernel3.Gen.frame m g, fun m g _ => Cert.Kernel3Ideal.Gen.frame m g, fun m g _ => Cert.Kernel3Ideal.Gen.frame m g,
  Cert.Final.reference_runs, fun m g _ => Cert.Final.reference_runs m g trivial,
  Cert.InProj.frame_kernel, Cert.InProj.frame_ideal, Cert.InProj.reference_runs,
  Cert.Lru.frame_kernel, Cert.Lru.frame_ideal, Cert.Lru.reference_runs,
  trivial, attention_equal, trivial, Cert.OutProj.equal, trivial, Cert.Final.equal, trivial, Cert.InProj.equal, trivial, Cert.Lru.equal⟩

end Cert.Proof

end
